-- ==== Defs.lean ====
def Pre_GlaSample (m : (ℓ : Loc Cert.GlaSample.nD Cert.GlaSample.τ Cert.GlaSample.sig) → Buf (Elt Bits) ℓ) : Prop :=
  True

def Pre_GlaSampleIdeal (m : (ℓ : Loc Cert.GlaSampleIdeal.nD Cert.GlaSampleIdeal.τ Cert.GlaSampleIdeal.sig) → Buf (Elt Ideal) ℓ) : Prop :=
  True

def Pre_GlaSampleIdeal_decay_finite [hPre_decay_finite : Cert.Pre_decay_finite.Facts] (m : (ℓ : Loc Cert.GlaSampleIdeal.nD Cert.GlaSampleIdeal.τ Cert.GlaSampleIdeal.sig) → Buf (Elt Ideal) ℓ) : Prop :=
  ∀ c : Dev Cert.GlaSampleIdeal.nD,
    (Cert.Pre_decay_finite.fn (F := Ideal) (m ((c.tc : Thread Cert.GlaSampleIdeal.nD Cert.GlaSampleIdeal.τ).loc Cert.GlaSampleIdeal.main_arg0)) (m ((c.tc : Thread Cert.GlaSampleIdeal.nD Cert.GlaSampleIdeal.τ).loc Cert.GlaSampleIdeal.main_arg1)) (m ((c.tc : Thread Cert.GlaSampleIdeal.nD Cert.GlaSampleIdeal.τ).loc Cert.GlaSampleIdeal.main_arg2)) (m ((c.tc : Thread Cert.GlaSampleIdeal.nD Cert.GlaSampleIdeal.τ).loc Cert.GlaSampleIdeal.main_arg3))) = (fun _ => 1#1)

def Pre_GlaSampleRefIdeal (m : (ℓ : Loc Cert.GlaSampleRefIdeal.nD Cert.GlaSampleRefIdeal.τ Cert.GlaSampleRefIdeal.sig) → Buf (Elt Ideal) ℓ) : Prop :=
  True

def Pre_GlaSampleRefIdeal_decay_finite [hPre_decay_finite : Cert.Pre_decay_finite.Facts] (m : (ℓ : Loc Cert.GlaSampleRefIdeal.nD Cert.GlaSampleRefIdeal.τ Cert.GlaSampleRefIdeal.sig) → Buf (Elt Ideal) ℓ) : Prop :=
  ∀ c : Dev Cert.GlaSampleRefIdeal.nD,
    (Cert.Pre_decay_finite.fn (F := Ideal) (m ((c.tc : Thread Cert.GlaSampleRefIdeal.nD Cert.GlaSampleRefIdeal.τ).loc Cert.GlaSampleRefIdeal.main_arg0)) (m ((c.tc : Thread Cert.GlaSampleRefIdeal.nD Cert.GlaSampleRefIdeal.τ).loc Cert.GlaSampleRefIdeal.main_arg1)) (m ((c.tc : Thread Cert.GlaSampleRefIdeal.nD Cert.GlaSampleRefIdeal.τ).loc Cert.GlaSampleRefIdeal.main_arg2)) (m ((c.tc : Thread Cert.GlaSampleRefIdeal.nD Cert.GlaSampleRefIdeal.τ).loc Cert.GlaSampleRefIdeal.main_arg3))) = (fun _ => 1#1)

def Pre_HeadLast (m : (ℓ : Loc Cert.HeadLast.nD Cert.HeadLast.τ Cert.HeadLast.sig) → Buf (Elt Bits) ℓ) : Prop :=
  True

def Pre_HeadLastIdeal (m : (ℓ : Loc Cert.HeadLastIdeal.nD Cert.HeadLastIdeal.τ Cert.HeadLastIdeal.sig) → Buf (Elt Ideal) ℓ) : Prop :=
  True

def Pre_HeadLastRefIdeal (m : (ℓ : Loc Cert.HeadLastRefIdeal.nD Cert.HeadLastRefIdeal.τ Cert.HeadLastRefIdeal.sig) → Buf (Elt Ideal) ℓ) : Prop :=
  True

def Pre_FfnLast (m : (ℓ : Loc Cert.FfnLast.nD Cert.FfnLast.τ Cert.FfnLast.sig) → Buf (Elt Bits) ℓ) : Prop :=
  True

def Pre_FfnLastIdeal (m : (ℓ : Loc Cert.FfnLastIdeal.nD Cert.FfnLastIdeal.τ Cert.FfnLastIdeal.sig) → Buf (Elt Ideal) ℓ) : Prop :=
  True

def Pre_FfnLastRefIdeal (m : (ℓ : Loc Cert.FfnLastRefIdeal.nD Cert.FfnLastRefIdeal.τ Cert.FfnLastRefIdeal.sig) → Buf (Elt Ideal) ℓ) : Prop :=
  True

def Pre_HeadMid (m : (ℓ : Loc Cert.HeadMid.nD Cert.HeadMid.τ Cert.HeadMid.sig) → Buf (Elt Bits) ℓ) : Prop :=
  True

def Pre_HeadMidIdeal (m : (ℓ : Loc Cert.HeadMidIdeal.nD Cert.HeadMidIdeal.τ Cert.HeadMidIdeal.sig) → Buf (Elt Ideal) ℓ) : Prop :=
  True

def Pre_HeadMidRefIdeal (m : (ℓ : Loc Cert.HeadMidRefIdeal.nD Cert.HeadMidRefIdeal.τ Cert.HeadMidRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_SwaQkv (m : (ℓ : Loc Cert.SwaQkv.nD Cert.SwaQkv.τ Cert.SwaQkv.sig) → Buf (Elt Bits) ℓ) : Prop :=
  True

def Pre_SwaQkvIdeal (m : (ℓ : Loc Cert.SwaQkvIdeal.nD Cert.SwaQkvIdeal.τ Cert.SwaQkvIdeal.sig) → Buf (Elt Ideal) ℓ) : Prop :=
  True

def Pre_SwaQkvRefIdeal (m : (ℓ : Loc Cert.SwaQkvRefIdeal.nD Cert.SwaQkvRefIdeal.τ Cert.SwaQkvRefIdeal.sig) → Buf (Elt Ideal) ℓ) : Prop :=
  True

def Pre_GlaIn (m : (ℓ : Loc Cert.GlaIn.nD Cert.GlaIn.τ Cert.GlaIn.sig) → Buf (Elt Bits) ℓ) : Prop :=
  True

def Pre_GlaInIdeal (m : (ℓ : Loc Cert.GlaInIdeal.nD Cert.GlaInIdeal.τ Cert.GlaInIdeal.sig) → Buf (Elt Ideal) ℓ) : Prop :=
  True

def Pre_GlaInRefIdeal (m : (ℓ : Loc Cert.GlaInRefIdeal.nD Cert.GlaInRefIdeal.τ Cert.GlaInRefIdeal.sig) → Buf (Elt Ideal) ℓ) : Prop :=
  True

def Pre_SwaCache (m : (ℓ : Loc Cert.SwaCache.nD Cert.SwaCache.τ Cert.SwaCache.sig) → Buf (Elt Bits) ℓ) : Prop :=
  True

def Pre_SwaCacheIdeal (m : (ℓ : Loc Cert.SwaCacheIdeal.nD Cert.SwaCacheIdeal.τ Cert.SwaCacheIdeal.sig) → Buf (Elt Ideal) ℓ) : Prop :=
  True

def Pre_SwaCacheRefIdeal (m : (ℓ : Loc Cert.SwaCacheRefIdeal.nD Cert.SwaCacheRefIdeal.τ Cert.SwaCacheRefIdeal.sig) → Buf (Elt Ideal) ℓ) : Prop :=
  True

def Pre_ProjRes (m : (ℓ : Loc Cert.ProjRes.nD Cert.ProjRes.τ Cert.ProjRes.sig) → Buf (Elt Bits) ℓ) : Prop :=
  True

def Pre_ProjResIdeal (m : (ℓ : Loc Cert.ProjResIdeal.nD Cert.ProjResIdeal.τ Cert.ProjResIdeal.sig) → Buf (Elt Ideal) ℓ) : Prop :=
  True

def Pre_ProjResRefIdeal (m : (ℓ : Loc Cert.ProjResRefIdeal.nD Cert.ProjResRefIdeal.τ Cert.ProjResRefIdeal.sig) → Buf (Elt Ideal) ℓ) : Prop :=
  True

def quiescent_GlaSample [hGlaSample : Cert.GlaSample.Facts] : Prop :=
  ∀ (m : (ℓ : Loc Cert.GlaSample.nD Cert.GlaSample.τ Cert.GlaSample.sig) → Buf (Elt Bits) ℓ) (g : Dev Cert.GlaSample.nD → PrngReg), Pre_GlaSample m →
    θ_run (Cert.GlaSample.defs (F := Bits)) (onTc (τ := Cert.GlaSample.τ) (Cert.GlaSample.main (F := Bits))) ⟨m, fun _ => 0, g⟩ (fun r => (∀ c : Dev Cert.GlaSample.nD,
      r.2.mem ((c.tc : Thread Cert.GlaSample.nD Cert.GlaSample.τ).loc Cert.GlaSample.main_arg0) = m ((c.tc : Thread Cert.GlaSample.nD Cert.GlaSample.τ).loc Cert.GlaSample.main_arg0)
      ∧ r.2.mem ((c.tc : Thread Cert.GlaSample.nD Cert.GlaSample.τ).loc Cert.GlaSample.main_arg1) = m ((c.tc : Thread Cert.GlaSample.nD Cert.GlaSample.τ).loc Cert.GlaSample.main_arg1)
      ∧ r.2.mem ((c.tc : Thread Cert.GlaSample.nD Cert.GlaSample.τ).loc Cert.GlaSample.main_arg2) = m ((c.tc : Thread Cert.GlaSample.nD Cert.GlaSample.τ).loc Cert.GlaSample.main_arg2)
      ∧ r.2.mem ((c.tc : Thread Cert.GlaSample.nD Cert.GlaSample.τ).loc Cert.GlaSample.main_arg3) = m ((c.tc : Thread Cert.GlaSample.nD Cert.GlaSample.τ).loc Cert.GlaSample.main_arg3))
      ∧ r.2.sem = fun _ => 0)

def quiescent_GlaSampleIdeal [hGlaSampleIdeal : Cert.GlaSampleIdeal.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3))
      ∧ r.2.sem = fun _ => 0)

def quiescent_GlaSampleIdeal_pre_decay_finite [hGlaSampleIdeal : Cert.GlaSampleIdeal.Facts] [hPre_decay_finite : Cert.Pre_decay_finite.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg), Pre_GlaSampleIdeal_decay_finite m →
    θ_run (Cert.GlaSampleIdeal.defs (F := Ideal)) (onTc (τ := Cert.GlaSampleIdeal.τ) (Cert.GlaSampleIdeal.main (F := Ideal))) ⟨m, fun _ => 0, g⟩ (fun r => (∀ c : Dev Cert.GlaSampleIdeal.nD,
      r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
      ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
      ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
      ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3))
      ∧ r.2.sem = fun _ => 0)

def quiescent_GlaSampleRefIdeal [hGlaSampleRefIdeal : Cert.GlaSampleRefIdeal.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3))
      ∧ r.2.sem = fun _ => 0)

def quiescent_GlaSampleRefIdeal_pre_decay_finite [hGlaSampleRefIdeal : Cert.GlaSampleRefIdeal.Facts] [hPre_decay_finite : Cert.Pre_decay_finite.Facts] : Prop :=
  ∀ (m : (ℓ : Loc Cert.GlaSampleRefIdeal.nD Cert.GlaSampleRefIdeal.τ Cert.GlaSampleRefIdeal.sig) → Buf (Elt Ideal) ℓ) (g : Dev Cert.GlaSampleRefIdeal.nD → PrngReg), Pre_GlaSampleRefIdeal_decay_finite m →
    θ_run (Cert.GlaSampleRefIdeal.defs (F := Ideal)) (onTc (τ := Cert.GlaSampleRefIdeal.τ) (Cert.GlaSampleRefIdeal.main (F := Ideal))) ⟨m, fun _ => 0, g⟩ (fun r => (∀ c : Dev Cert.GlaSampleRefIdeal.nD,
      r.2.mem ((c.tc : Thread Cert.GlaSampleRefIdeal.nD Cert.GlaSampleRefIdeal.τ).loc Cert.GlaSampleRefIdeal.main_arg0) = m ((c.tc : Thread Cert.GlaSampleRefIdeal.nD Cert.GlaSampleRefIdeal.τ).loc Cert.GlaSampleRefIdeal.main_arg0)
      ∧ r.2.mem ((c.tc : Thread Cert.GlaSampleRefIdeal.nD Cert.GlaSampleRefIdeal.τ).loc Cert.GlaSampleRefIdeal.main_arg1) = m ((c.tc : Thread Cert.GlaSampleRefIdeal.nD Cert.GlaSampleRefIdeal.τ).loc Cert.GlaSampleRefIdeal.main_arg1)
      ∧ r.2.mem ((c.tc : Thread Cert.GlaSampleRefIdeal.nD Cert.GlaSampleRefIdeal.τ).loc Cert.GlaSampleRefIdeal.main_arg2) = m ((c.tc : Thread Cert.GlaSampleRefIdeal.nD Cert.GlaSampleRefIdeal.τ).loc Cert.GlaSampleRefIdeal.main_arg2)
      ∧ r.2.mem ((c.tc : Thread Cert.GlaSampleRefIdeal.nD Cert.GlaSampleRefIdeal.τ).loc Cert.GlaSampleRefIdeal.main_arg3) = m ((c.tc : Thread Cert.GlaSampleRefIdeal.nD Cert.GlaSampleRefIdeal.τ).loc Cert.GlaSampleRefIdeal.main_arg3))
      ∧ r.2.sem = fun _ => 0)

def quiescent_HeadLast [hHeadLast : Cert.HeadLast.Facts] : Prop :=
  ∀ (m : (ℓ : Loc Cert.HeadLast.nD Cert.HeadLast.τ Cert.HeadLast.sig) → Buf (Elt Bits) ℓ) (g : Dev Cert.HeadLast.nD → PrngReg), Pre_HeadLast m →
    θ_run (Cert.HeadLast.defs (F := Bits)) (onTc (τ := Cert.HeadLast.τ) (Cert.HeadLast.main (F := Bits))) ⟨m, fun _ => 0, g⟩ (fun r => (∀ c : Dev Cert.HeadLast.nD,
      r.2.mem ((c.tc : Thread Cert.HeadLast.nD Cert.HeadLast.τ).loc Cert.HeadLast.main_arg0) = m ((c.tc : Thread Cert.HeadLast.nD Cert.HeadLast.τ).loc Cert.HeadLast.main_arg0)
      ∧ r.2.mem ((c.tc : Thread Cert.HeadLast.nD Cert.HeadLast.τ).loc Cert.HeadLast.main_arg1) = m ((c.tc : Thread Cert.HeadLast.nD Cert.HeadLast.τ).loc Cert.HeadLast.main_arg1)
      ∧ r.2.mem ((c.tc : Thread Cert.HeadLast.nD Cert.HeadLast.τ).loc Cert.HeadLast.main_arg2) = m ((c.tc : Thread Cert.HeadLast.nD Cert.HeadLast.τ).loc Cert.HeadLast.main_arg2)
      ∧ r.2.mem ((c.tc : Thread Cert.HeadLast.nD Cert.HeadLast.τ).loc Cert.HeadLast.main_arg3) = m ((c.tc : Thread Cert.HeadLast.nD Cert.HeadLast.τ).loc Cert.HeadLast.main_arg3)
      ∧ r.2.mem ((c.tc : Thread Cert.HeadLast.nD Cert.HeadLast.τ).loc Cert.HeadLast.main_arg4) = m ((c.tc : Thread Cert.HeadLast.nD Cert.HeadLast.τ).loc Cert.HeadLast.main_arg4)
      ∧ r.2.mem ((c.tc : Thread Cert.HeadLast.nD Cert.HeadLast.τ).loc Cert.HeadLast.main_arg5) = m ((c.tc : Thread Cert.HeadLast.nD Cert.HeadLast.τ).loc Cert.HeadLast.main_arg5)
      ∧ r.2.mem ((c.tc : Thread Cert.HeadLast.nD Cert.HeadLast.τ).loc Cert.HeadLast.main_arg6) = m ((c.tc : Thread Cert.HeadLast.nD Cert.HeadLast.τ).loc Cert.HeadLast.main_arg6))
      ∧ r.2.sem = fun _ => 0)

def quiescent_HeadLastIdeal [hHeadLastIdeal : Cert.HeadLastIdeal.Facts] : Prop :=
  ∀ (m : (ℓ : Loc Cert.HeadLastIdeal.nD Cert.HeadLastIdeal.τ Cert.HeadLastIdeal.sig) → Buf (Elt Ideal) ℓ) (g : Dev Cert.HeadLastIdeal.nD → PrngReg), Pre_HeadLastIdeal m →
    θ_run (Cert.HeadLastIdeal.defs (F := Ideal)) (onTc (τ := Cert.HeadLastIdeal.τ) (Cert.HeadLastIdeal.main (F := Ideal))) ⟨m, fun _ => 0, g⟩ (fun r => (∀ c : Dev Cert.HeadLastIdeal.nD,
      r.2.mem ((c.tc : Thread Cert.HeadLastIdeal.nD Cert.HeadLastIdeal.τ).loc Cert.HeadLastIdeal.main_arg0) = m ((c.tc : Thread Cert.HeadLastIdeal.nD Cert.HeadLastIdeal.τ).loc Cert.HeadLastIdeal.main_arg0)
      ∧ r.2.mem ((c.tc : Thread Cert.HeadLastIdeal.nD Cert.HeadLastIdeal.τ).loc Cert.HeadLastIdeal.main_arg1) = m ((c.tc : Thread Cert.HeadLastIdeal.nD Cert.HeadLastIdeal.τ).loc Cert.HeadLastIdeal.main_arg1)
      ∧ r.2.mem ((c.tc : Thread Cert.HeadLastIdeal.nD Cert.HeadLastIdeal.τ).loc Cert.HeadLastIdeal.main_arg2) = m ((c.tc : Thread Cert.HeadLastIdeal.nD Cert.HeadLastIdeal.τ).loc Cert.HeadLastIdeal.main_arg2)
      ∧ r.2.mem ((c.tc : Thread Cert.HeadLastIdeal.nD Cert.HeadLastIdeal.τ).loc Cert.HeadLastIdeal.main_arg3) = m ((c.tc : Thread Cert.HeadLastIdeal.nD Cert.HeadLastIdeal.τ).loc Cert.HeadLastIdeal.main_arg3)
      ∧ r.2.mem ((c.tc : Thread Cert.HeadLastIdeal.nD Cert.HeadLastIdeal.τ).loc Cert.HeadLastIdeal.main_arg4) = m ((c.tc : Thread Cert.HeadLastIdeal.nD Cert.HeadLastIdeal.τ).loc Cert.HeadLastIdeal.main_arg4)
      ∧ r.2.mem ((c.tc : Thread Cert.HeadLastIdeal.nD Cert.HeadLastIdeal.τ).loc Cert.HeadLastIdeal.main_arg5) = m ((c.tc : Thread Cert.HeadLastIdeal.nD Cert.HeadLastIdeal.τ).loc Cert.HeadLastIdeal.main_arg5)
      ∧ r.2.mem ((c.tc : Thread Cert.HeadLastIdeal.nD Cert.HeadLastIdeal.τ).loc Cert.HeadLastIdeal.main_arg6) = m ((c.tc : Thread Cert.HeadLastIdeal.nD Cert.HeadLastIdeal.τ).loc Cert.HeadLastIdeal.main_arg6))
      ∧ r.2.sem = fun _ => 0)

def quiescent_HeadLastRefIdeal [hHeadLastRefIdeal : Cert.HeadLastRefIdeal.Facts] : Prop :=
  ∀ (m : (ℓ : Loc Cert.HeadLastRefIdeal.nD Cert.HeadLastRefIdeal.τ Cert.HeadLastRefIdeal.sig) → Buf (Elt Ideal) ℓ) (g : Dev Cert.HeadLastRefIdeal.nD → PrngReg), Pre_HeadLastRefIdeal m →
    θ_run (Cert.HeadLastRefIdeal.defs (F := Ideal)) (onTc (τ := Cert.HeadLastRefIdeal.τ) (Cert.HeadLastRefIdeal.main (F := Ideal))) ⟨m, fun _ => 0, g⟩ (fun r => (∀ c : Dev Cert.HeadLastRefIdeal.nD,
      r.2.mem ((c.tc : Thread Cert.HeadLastRefIdeal.nD Cert.HeadLastRefIdeal.τ).loc Cert.HeadLastRefIdeal.main_arg0) = m ((c.tc : Thread Cert.HeadLastRefIdeal.nD Cert.HeadLastRefIdeal.τ).loc Cert.HeadLastRefIdeal.main_arg0)
      ∧ r.2.mem ((c.tc : Thread Cert.HeadLastRefIdeal.nD Cert.HeadLastRefIdeal.τ).loc Cert.HeadLastRefIdeal.main_arg1) = m ((c.tc : Thread Cert.HeadLastRefIdeal.nD Cert.HeadLastRefIdeal.τ).loc Cert.HeadLastRefIdeal.main_arg1)
      ∧ r.2.mem ((c.tc : Thread Cert.HeadLastRefIdeal.nD Cert.HeadLastRefIdeal.τ).loc Cert.HeadLastRefIdeal.main_arg2) = m ((c.tc : Thread Cert.HeadLastRefIdeal.nD Cert.HeadLastRefIdeal.τ).loc Cert.HeadLastRefIdeal.main_arg2)
      ∧ r.2.mem ((c.tc : Thread Cert.HeadLastRefIdeal.nD Cert.HeadLastRefIdeal.τ).loc Cert.HeadLastRefIdeal.main_arg3) = m ((c.tc : Thread Cert.HeadLastRefIdeal.nD Cert.HeadLastRefIdeal.τ).loc Cert.HeadLastRefIdeal.main_arg3)
      ∧ r.2.mem ((c.tc : Thread Cert.HeadLastRefIdeal.nD Cert.HeadLastRefIdeal.τ).loc Cert.HeadLastRefIdeal.main_arg4) = m ((c.tc : Thread Cert.HeadLastRefIdeal.nD Cert.HeadLastRefIdeal.τ).loc Cert.HeadLastRefIdeal.main_arg4)
      ∧ r.2.mem ((c.tc : Thread Cert.HeadLastRefIdeal.nD Cert.HeadLastRefIdeal.τ).loc Cert.HeadLastRefIdeal.main_arg5) = m ((c.tc : Thread Cert.HeadLastRefIdeal.nD Cert.HeadLastRefIdeal.τ).loc Cert.HeadLastRefIdeal.main_arg5)
      ∧ r.2.mem ((c.tc : Thread Cert.HeadLastRefIdeal.nD Cert.HeadLastRefIdeal.τ).loc Cert.HeadLastRefIdeal.main_arg6) = m ((c.tc : Thread Cert.HeadLastRefIdeal.nD Cert.HeadLastRefIdeal.τ).loc Cert.HeadLastRefIdeal.main_arg6))
      ∧ r.2.sem = fun _ => 0)

def quiescent_FfnLast [hFfnLast : Cert.FfnLast.Facts] : Prop :=
  ∀ (m : (ℓ : Loc Cert.FfnLast.nD Cert.FfnLast.τ Cert.FfnLast.sig) → Buf (Elt Bits) ℓ) (g : Dev Cert.FfnLast.nD → PrngReg), Pre_FfnLast m →
    θ_run (Cert.FfnLast.defs (F := Bits)) (onTc (τ := Cert.FfnLast.τ) (Cert.FfnLast.main (F := Bits))) ⟨m, fun _ => 0, g⟩ (fun r => (∀ c : Dev Cert.FfnLast.nD,
      r.2.mem ((c.tc : Thread Cert.FfnLast.nD Cert.FfnLast.τ).loc Cert.FfnLast.main_arg0) = m ((c.tc : Thread Cert.FfnLast.nD Cert.FfnLast.τ).loc Cert.FfnLast.main_arg0)
      ∧ r.2.mem ((c.tc : Thread Cert.FfnLast.nD Cert.FfnLast.τ).loc Cert.FfnLast.main_arg1) = m ((c.tc : Thread Cert.FfnLast.nD Cert.FfnLast.τ).loc Cert.FfnLast.main_arg1)
      ∧ r.2.mem ((c.tc : Thread Cert.FfnLast.nD Cert.FfnLast.τ).loc Cert.FfnLast.main_arg2) = m ((c.tc : Thread Cert.FfnLast.nD Cert.FfnLast.τ).loc Cert.FfnLast.main_arg2)
      ∧ r.2.mem ((c.tc : Thread Cert.FfnLast.nD Cert.FfnLast.τ).loc Cert.FfnLast.main_arg3) = m ((c.tc : Thread Cert.FfnLast.nD Cert.FfnLast.τ).loc Cert.FfnLast.main_arg3)
      ∧ r.2.mem ((c.tc : Thread Cert.FfnLast.nD Cert.FfnLast.τ).loc Cert.FfnLast.main_arg4) = m ((c.tc : Thread Cert.FfnLast.nD Cert.FfnLast.τ).loc Cert.FfnLast.main_arg4)
      ∧ r.2.mem ((c.tc : Thread Cert.FfnLast.nD Cert.FfnLast.τ).loc Cert.FfnLast.main_arg5) = m ((c.tc : Thread Cert.FfnLast.nD Cert.FfnLast.τ).loc Cert.FfnLast.main_arg5)
      ∧ r.2.mem ((c.tc : Thread Cert.FfnLast.nD Cert.FfnLast.τ).loc Cert.FfnLast.main_arg6) = m ((c.tc : Thread Cert.FfnLast.nD Cert.FfnLast.τ).loc Cert.FfnLast.main_arg6))
      ∧ r.2.sem = fun _ => 0)

def quiescent_FfnLastIdeal [hFfnLastIdeal : Cert.FfnLastIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg), Pre_FfnLastIdeal m →
    θ_run (Cert.FfnLastIdeal.defs (F := Ideal)) (onTc (τ := Cert.FfnLastIdeal.τ) (Cert.FfnLastIdeal.main (F := Ideal))) ⟨m, fun _ => 0, g⟩ (fun r => (∀ c : Dev Cert.FfnLastIdeal.nD,
      r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
      ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
      ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
      ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
      ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
      ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
      ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6))
      ∧ r.2.sem = fun _ => 0)

def quiescent_FfnLastRefIdeal [hFfnLastRefIdeal : Cert.FfnLastRefIdeal.Facts] : Prop :=
  ∀ (m : (ℓ : Loc Cert.FfnLastRefIdeal.nD Cert.FfnLastRefIdeal.τ Cert.FfnLastRefIdeal.sig) → Buf (Elt Ideal) ℓ) (g : Dev Cert.FfnLastRefIdeal.nD → PrngReg), Pre_FfnLastRefIdeal m →
    θ_run (Cert.FfnLastRefIdeal.defs (F := Ideal)) (onTc (τ := Cert.FfnLastRefIdeal.τ) (Cert.FfnLastRefIdeal.main (F := Ideal))) ⟨m, fun _ => 0, g⟩ (fun r => (∀ c : Dev Cert.FfnLastRefIdeal.nD,
      r.2.mem ((c.tc : Thread Cert.FfnLastRefIdeal.nD Cert.FfnLastRefIdeal.τ).loc Cert.FfnLastRefIdeal.main_arg0) = m ((c.tc : Thread Cert.FfnLastRefIdeal.nD Cert.FfnLastRefIdeal.τ).loc Cert.FfnLastRefIdeal.main_arg0)
      ∧ r.2.mem ((c.tc : Thread Cert.FfnLastRefIdeal.nD Cert.FfnLastRefIdeal.τ).loc Cert.FfnLastRefIdeal.main_arg1) = m ((c.tc : Thread Cert.FfnLastRefIdeal.nD Cert.FfnLastRefIdeal.τ).loc Cert.FfnLastRefIdeal.main_arg1)
      ∧ r.2.mem ((c.tc : Thread Cert.FfnLastRefIdeal.nD Cert.FfnLastRefIdeal.τ).loc Cert.FfnLastRefIdeal.main_arg2) = m ((c.tc : Thread Cert.FfnLastRefIdeal.nD Cert.FfnLastRefIdeal.τ).loc Cert.FfnLastRefIdeal.main_arg2)
      ∧ r.2.mem ((c.tc : Thread Cert.FfnLastRefIdeal.nD Cert.FfnLastRefIdeal.τ).loc Cert.FfnLastRefIdeal.main_arg3) = m ((c.tc : Thread Cert.FfnLastRefIdeal.nD Cert.FfnLastRefIdeal.τ).loc Cert.FfnLastRefIdeal.main_arg3)
      ∧ r.2.mem ((c.tc : Thread Cert.FfnLastRefIdeal.nD Cert.FfnLastRefIdeal.τ).loc Cert.FfnLastRefIdeal.main_arg4) = m ((c.tc : Thread Cert.FfnLastRefIdeal.nD Cert.FfnLastRefIdeal.τ).loc Cert.FfnLastRefIdeal.main_arg4)
      ∧ r.2.mem ((c.tc : Thread Cert.FfnLastRefIdeal.nD Cert.FfnLastRefIdeal.τ).loc Cert.FfnLastRefIdeal.main_arg5) = m ((c.tc : Thread Cert.FfnLastRefIdeal.nD Cert.FfnLastRefIdeal.τ).loc Cert.FfnLastRefIdeal.main_arg5)
      ∧ r.2.mem ((c.tc : Thread Cert.FfnLastRefIdeal.nD Cert.FfnLastRefIdeal.τ).loc Cert.FfnLastRefIdeal.main_arg6) = m ((c.tc : Thread Cert.FfnLastRefIdeal.nD Cert.FfnLastRefIdeal.τ).loc Cert.FfnLastRefIdeal.main_arg6))
      ∧ r.2.sem = fun _ => 0)

def quiescent_HeadMid [hHeadMid : Cert.HeadMid.Facts] : Prop :=
  ∀ (m : (ℓ : Loc Cert.HeadMid.nD Cert.HeadMid.τ Cert.HeadMid.sig) → Buf (Elt Bits) ℓ) (g : Dev Cert.HeadMid.nD → PrngReg), Pre_HeadMid m →
    θ_run (Cert.HeadMid.defs (F := Bits)) (onTc (τ := Cert.HeadMid.τ) (Cert.HeadMid.main (F := Bits))) ⟨m, fun _ => 0, g⟩ (fun r => (∀ c : Dev Cert.HeadMid.nD,
      r.2.mem ((c.tc : Thread Cert.HeadMid.nD Cert.HeadMid.τ).loc Cert.HeadMid.main_arg0) = m ((c.tc : Thread Cert.HeadMid.nD Cert.HeadMid.τ).loc Cert.HeadMid.main_arg0)
      ∧ r.2.mem ((c.tc : Thread Cert.HeadMid.nD Cert.HeadMid.τ).loc Cert.HeadMid.main_arg1) = m ((c.tc : Thread Cert.HeadMid.nD Cert.HeadMid.τ).loc Cert.HeadMid.main_arg1)
      ∧ r.2.mem ((c.tc : Thread Cert.HeadMid.nD Cert.HeadMid.τ).loc Cert.HeadMid.main_arg2) = m ((c.tc : Thread Cert.HeadMid.nD Cert.HeadMid.τ).loc Cert.HeadMid.main_arg2)
      ∧ r.2.mem ((c.tc : Thread Cert.HeadMid.nD Cert.HeadMid.τ).loc Cert.HeadMid.main_arg3) = m ((c.tc : Thread Cert.HeadMid.nD Cert.HeadMid.τ).loc Cert.HeadMid.main_arg3)
      ∧ r.2.mem ((c.tc : Thread Cert.HeadMid.nD Cert.HeadMid.τ).loc Cert.HeadMid.main_arg4) = m ((c.tc : Thread Cert.HeadMid.nD Cert.HeadMid.τ).loc Cert.HeadMid.main_arg4)
      ∧ r.2.mem ((c.tc : Thread Cert.HeadMid.nD Cert.HeadMid.τ).loc Cert.HeadMid.main_arg5) = m ((c.tc : Thread Cert.HeadMid.nD Cert.HeadMid.τ).loc Cert.HeadMid.main_arg5))
      ∧ r.2.sem = fun _ => 0)

def quiescent_HeadMidIdeal [hHeadMidIdeal : Cert.HeadMidIdeal.Facts] : Prop :=
  ∀ (m : (ℓ : Loc Cert.HeadMidIdeal.nD Cert.HeadMidIdeal.τ Cert.HeadMidIdeal.sig) → Buf (Elt Ideal) ℓ) (g : Dev Cert.HeadMidIdeal.nD → PrngReg), Pre_HeadMidIdeal m →
    θ_run (Cert.HeadMidIdeal.defs (F := Ideal)) (onTc (τ := Cert.HeadMidIdeal.τ) (Cert.HeadMidIdeal.main (F := Ideal))) ⟨m, fun _ => 0, g⟩ (fun r => (∀ c : Dev Cert.HeadMidIdeal.nD,
      r.2.mem ((c.tc : Thread Cert.HeadMidIdeal.nD Cert.HeadMidIdeal.τ).loc Cert.HeadMidIdeal.main_arg0) = m ((c.tc : Thread Cert.HeadMidIdeal.nD Cert.HeadMidIdeal.τ).loc Cert.HeadMidIdeal.main_arg0)
      ∧ r.2.mem ((c.tc : Thread Cert.HeadMidIdeal.nD Cert.HeadMidIdeal.τ).loc Cert.HeadMidIdeal.main_arg1) = m ((c.tc : Thread Cert.HeadMidIdeal.nD Cert.HeadMidIdeal.τ).loc Cert.HeadMidIdeal.main_arg1)
      ∧ r.2.mem ((c.tc : Thread Cert.HeadMidIdeal.nD Cert.HeadMidIdeal.τ).loc Cert.HeadMidIdeal.main_arg2) = m ((c.tc : Thread Cert.HeadMidIdeal.nD Cert.HeadMidIdeal.τ).loc Cert.HeadMidIdeal.main_arg2)
      ∧ r.2.mem ((c.tc : Thread Cert.HeadMidIdeal.nD Cert.HeadMidIdeal.τ).loc Cert.HeadMidIdeal.main_arg3) = m ((c.tc : Thread Cert.HeadMidIdeal.nD Cert.HeadMidIdeal.τ).loc Cert.HeadMidIdeal.main_arg3)
      ∧ r.2.mem ((c.tc : Thread Cert.HeadMidIdeal.nD Cert.HeadMidIdeal.τ).loc Cert.HeadMidIdeal.main_arg4) = m ((c.tc : Thread Cert.HeadMidIdeal.nD Cert.HeadMidIdeal.τ).loc Cert.HeadMidIdeal.main_arg4)
      ∧ r.2.mem ((c.tc : Thread Cert.HeadMidIdeal.nD Cert.HeadMidIdeal.τ).loc Cert.HeadMidIdeal.main_arg5) = m ((c.tc : Thread Cert.HeadMidIdeal.nD Cert.HeadMidIdeal.τ).loc Cert.HeadMidIdeal.main_arg5))
      ∧ r.2.sem = fun _ => 0)

def quiescent_HeadMidRefIdeal [hHeadMidRefIdeal : Cert.HeadMidRefIdeal.Facts] : Prop :=
  ∀ (m : (ℓ : Loc Cert.HeadMidRefIdeal.nD Cert.HeadMidRefIdeal.τ Cert.HeadMidRefIdeal.sig) → Buf (Elt Ideal) ℓ) (g : Dev Cert.HeadMidRefIdeal.nD → PrngReg), Pre_HeadMidRefIdeal m →
    θ_run (Cert.HeadMidRefIdeal.defs (F := Ideal)) (onTc (τ := Cert.HeadMidRefIdeal.τ) (Cert.HeadMidRefIdeal.main (F := Ideal))) ⟨m, fun _ => 0, g⟩ (fun r => (∀ c : Dev Cert.HeadMidRefIdeal.nD,
      r.2.mem ((c.tc : Thread Cert.HeadMidRefIdeal.nD Cert.HeadMidRefIdeal.τ).loc Cert.HeadMidRefIdeal.main_arg0) = m ((c.tc : Thread Cert.HeadMidRefIdeal.nD Cert.HeadMidRefIdeal.τ).loc Cert.HeadMidRefIdeal.main_arg0)
      ∧ r.2.mem ((c.tc : Thread Cert.HeadMidRefIdeal.nD Cert.HeadMidRefIdeal.τ).loc Cert.HeadMidRefIdeal.main_arg1) = m ((c.tc : Thread Cert.HeadMidRefIdeal.nD Cert.HeadMidRefIdeal.τ).loc Cert.HeadMidRefIdeal.main_arg1)
      ∧ r.2.mem ((c.tc : Thread Cert.HeadMidRefIdeal.nD Cert.HeadMidRefIdeal.τ).loc Cert.HeadMidRefIdeal.main_arg2) = m ((c.tc : Thread Cert.HeadMidRefIdeal.nD Cert.HeadMidRefIdeal.τ).loc Cert.HeadMidRefIdeal.main_arg2)
      ∧ r.2.mem ((c.tc : Thread Cert.HeadMidRefIdeal.nD Cert.HeadMidRefIdeal.τ).loc Cert.HeadMidRefIdeal.main_arg3) = m ((c.tc : Thread Cert.HeadMidRefIdeal.nD Cert.HeadMidRefIdeal.τ).loc Cert.HeadMidRefIdeal.main_arg3)
      ∧ r.2.mem ((c.tc : Thread Cert.HeadMidRefIdeal.nD Cert.HeadMidRefIdeal.τ).loc Cert.HeadMidRefIdeal.main_arg4) = m ((c.tc : Thread Cert.HeadMidRefIdeal.nD Cert.HeadMidRefIdeal.τ).loc Cert.HeadMidRefIdeal.main_arg4)
      ∧ r.2.mem ((c.tc : Thread Cert.HeadMidRefIdeal.nD Cert.HeadMidRefIdeal.τ).loc Cert.HeadMidRefIdeal.main_arg5) = m ((c.tc : Thread Cert.HeadMidRefIdeal.nD Cert.HeadMidRefIdeal.τ).loc Cert.HeadMidRefIdeal.main_arg5))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4)
      ∧ r.2.mem ((c.tc : Thread Cert.FfnMid.nD Cert.FfnMid.τ).loc Cert.FfnMid.main_arg5) = m ((c.tc : Thread Cert.FfnMid.nD Cert.FfnMid.τ).loc Cert.FfnMid.main_arg5))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
      ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4)
      ∧ r.2.mem ((c.tc : Thread Cert.FfnMidRefIdeal.nD Cert.FfnMidRefIdeal.τ).loc Cert.FfnMidRefIdeal.main_arg5) = m ((c.tc : Thread Cert.FfnMidRefIdeal.nD Cert.FfnMidRefIdeal.τ).loc Cert.FfnMidRefIdeal.main_arg5))
      ∧ r.2.sem = fun _ => 0)

def quiescent_SwaQkv [hSwaQkv : Cert.SwaQkv.Facts] : Prop :=
  ∀ (m : (ℓ : Loc Cert.SwaQkv.nD Cert.SwaQkv.τ Cert.SwaQkv.sig) → Buf (Elt Bits) ℓ) (g : Dev Cert.SwaQkv.nD → PrngReg), Pre_SwaQkv m →
    θ_run (Cert.SwaQkv.defs (F := Bits)) (onTc (τ := Cert.SwaQkv.τ) (Cert.SwaQkv.main (F := Bits))) ⟨m, fun _ => 0, g⟩ (fun r => (∀ c : Dev Cert.SwaQkv.nD,
      r.2.mem ((c.tc : Thread Cert.SwaQkv.nD Cert.SwaQkv.τ).loc Cert.SwaQkv.main_arg0) = m ((c.tc : Thread Cert.SwaQkv.nD Cert.SwaQkv.τ).loc Cert.SwaQkv.main_arg0)
      ∧ r.2.mem ((c.tc : Thread Cert.SwaQkv.nD Cert.SwaQkv.τ).loc Cert.SwaQkv.main_arg1) = m ((c.tc : Thread Cert.SwaQkv.nD Cert.SwaQkv.τ).loc Cert.SwaQkv.main_arg1)
      ∧ r.2.mem ((c.tc : Thread Cert.SwaQkv.nD Cert.SwaQkv.τ).loc Cert.SwaQkv.main_arg2) = m ((c.tc : Thread Cert.SwaQkv.nD Cert.SwaQkv.τ).loc Cert.SwaQkv.main_arg2)
      ∧ r.2.mem ((c.tc : Thread Cert.SwaQkv.nD Cert.SwaQkv.τ).loc Cert.SwaQkv.main_arg3) = m ((c.tc : Thread Cert.SwaQkv.nD Cert.SwaQkv.τ).loc Cert.SwaQkv.main_arg3)
      ∧ r.2.mem ((c.tc : Thread Cert.SwaQkv.nD Cert.SwaQkv.τ).loc Cert.SwaQkv.main_arg4) = m ((c.tc : Thread Cert.SwaQkv.nD Cert.SwaQkv.τ).loc Cert.SwaQkv.main_arg4))
      ∧ r.2.sem = fun _ => 0)

def quiescent_SwaQkvIdeal [hSwaQkvIdeal : Cert.SwaQkvIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg), Pre_SwaQkvIdeal m →
    θ_run (Cert.SwaQkvIdeal.defs (F := Ideal)) (onTc (τ := Cert.SwaQkvIdeal.τ) (Cert.SwaQkvIdeal.main (F := Ideal))) ⟨m, fun _ => 0, g⟩ (fun r => (∀ c : Dev Cert.SwaQkvIdeal.nD,
      r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
      ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1)
      ∧ r.2.mem ((c.tc : Thread Cert.SwaQkvIdeal.nD Cert.SwaQkvIdeal.τ).loc Cert.SwaQkvIdeal.main_arg2) = m ((c.tc : Thread Cert.SwaQkvIdeal.nD Cert.SwaQkvIdeal.τ).loc Cert.SwaQkvIdeal.main_arg2)
      ∧ r.2.mem ((c.tc : Thread Cert.SwaQkvIdeal.nD Cert.SwaQkvIdeal.τ).loc Cert.SwaQkvIdeal.main_arg3) = m ((c.tc : Thread Cert.SwaQkvIdeal.nD Cert.SwaQkvIdeal.τ).loc Cert.SwaQkvIdeal.main_arg3)
      ∧ r.2.mem ((c.tc : Thread Cert.SwaQkvIdeal.nD Cert.SwaQkvIdeal.τ).loc Cert.SwaQkvIdeal.main_arg4) = m ((c.tc : Thread Cert.SwaQkvIdeal.nD Cert.SwaQkvIdeal.τ).loc Cert.SwaQkvIdeal.main_arg4))
      ∧ r.2.sem = fun _ => 0)

def quiescent_SwaQkvRefIdeal [hSwaQkvRefIdeal : Cert.SwaQkvRefIdeal.Facts] : Prop :=
  ∀ (m : (ℓ : Loc Cert.SwaQkvRefIdeal.nD Cert.SwaQkvRefIdeal.τ Cert.SwaQkvRefIdeal.sig) → Buf (Elt Ideal) ℓ) (g : Dev Cert.SwaQkvRefIdeal.nD → PrngReg), Pre_SwaQkvRefIdeal m →
    θ_run (Cert.SwaQkvRefIdeal.defs (F := Ideal)) (onTc (τ := Cert.SwaQkvRefIdeal.τ) (Cert.SwaQkvRefIdeal.main (F := Ideal))) ⟨m, fun _ => 0, g⟩ (fun r => (∀ c : Dev Cert.SwaQkvRefIdeal.nD,
      r.2.mem ((c.tc : Thread Cert.SwaQkvRefIdeal.nD Cert.SwaQkvRefIdeal.τ).loc Cert.SwaQkvRefIdeal.main_arg0) = m ((c.tc : Thread Cert.SwaQkvRefIdeal.nD Cert.SwaQkvRefIdeal.τ).loc Cert.SwaQkvRefIdeal.main_arg0)
      ∧ r.2.mem ((c.tc : Thread Cert.SwaQkvRefIdeal.nD Cert.SwaQkvRefIdeal.τ).loc Cert.SwaQkvRefIdeal.main_arg1) = m ((c.tc : Thread Cert.SwaQkvRefIdeal.nD Cert.SwaQkvRefIdeal.τ).loc Cert.SwaQkvRefIdeal.main_arg1)
      ∧ r.2.mem ((c.tc : Thread Cert.SwaQkvRefIdeal.nD Cert.SwaQkvRefIdeal.τ).loc Cert.SwaQkvRefIdeal.main_arg2) = m ((c.tc : Thread Cert.SwaQkvRefIdeal.nD Cert.SwaQkvRefIdeal.τ).loc Cert.SwaQkvRefIdeal.main_arg2)
      ∧ r.2.mem ((c.tc : Thread Cert.SwaQkvRefIdeal.nD Cert.SwaQkvRefIdeal.τ).loc Cert.SwaQkvRefIdeal.main_arg3) = m ((c.tc : Thread Cert.SwaQkvRefIdeal.nD Cert.SwaQkvRefIdeal.τ).loc Cert.SwaQkvRefIdeal.main_arg3)
      ∧ r.2.mem ((c.tc : Thread Cert.SwaQkvRefIdeal.nD Cert.SwaQkvRefIdeal.τ).loc Cert.SwaQkvRefIdeal.main_arg4) = m ((c.tc : Thread Cert.SwaQkvRefIdeal.nD Cert.SwaQkvRefIdeal.τ).loc Cert.SwaQkvRefIdeal.main_arg4))
      ∧ r.2.sem = fun _ => 0)

def quiescent_GlaIn [hGlaIn : Cert.GlaIn.Facts] : Prop :=
  ∀ (m : (ℓ : Loc Cert.GlaIn.nD Cert.GlaIn.τ Cert.GlaIn.sig) → Buf (Elt Bits) ℓ) (g : Dev Cert.GlaIn.nD → PrngReg), Pre_GlaIn m →
    θ_run (Cert.GlaIn.defs (F := Bits)) (onTc (τ := Cert.GlaIn.τ) (Cert.GlaIn.main (F := Bits))) ⟨m, fun _ => 0, g⟩ (fun r => (∀ c : Dev Cert.GlaIn.nD,
      r.2.mem ((c.tc : Thread Cert.GlaIn.nD Cert.GlaIn.τ).loc Cert.GlaIn.main_arg0) = m ((c.tc : Thread Cert.GlaIn.nD Cert.GlaIn.τ).loc Cert.GlaIn.main_arg0)
      ∧ r.2.mem ((c.tc : Thread Cert.GlaIn.nD Cert.GlaIn.τ).loc Cert.GlaIn.main_arg1) = m ((c.tc : Thread Cert.GlaIn.nD Cert.GlaIn.τ).loc Cert.GlaIn.main_arg1)
      ∧ r.2.mem ((c.tc : Thread Cert.GlaIn.nD Cert.GlaIn.τ).loc Cert.GlaIn.main_arg2) = m ((c.tc : Thread Cert.GlaIn.nD Cert.GlaIn.τ).loc Cert.GlaIn.main_arg2)
      ∧ r.2.mem ((c.tc : Thread Cert.GlaIn.nD Cert.GlaIn.τ).loc Cert.GlaIn.main_arg3) = m ((c.tc : Thread Cert.GlaIn.nD Cert.GlaIn.τ).loc Cert.GlaIn.main_arg3)
      ∧ r.2.mem ((c.tc : Thread Cert.GlaIn.nD Cert.GlaIn.τ).loc Cert.GlaIn.main_arg4) = m ((c.tc : Thread Cert.GlaIn.nD Cert.GlaIn.τ).loc Cert.GlaIn.main_arg4)
      ∧ r.2.mem ((c.tc : Thread Cert.GlaIn.nD Cert.GlaIn.τ).loc Cert.GlaIn.main_arg5) = m ((c.tc : Thread Cert.GlaIn.nD Cert.GlaIn.τ).loc Cert.GlaIn.main_arg5))
      ∧ r.2.sem = fun _ => 0)

def quiescent_GlaInIdeal [hGlaInIdeal : Cert.GlaInIdeal.Facts] : Prop :=
  ∀ (m : (ℓ : Loc Cert.GlaInIdeal.nD Cert.GlaInIdeal.τ Cert.GlaInIdeal.sig) → Buf (Elt Ideal) ℓ) (g : Dev Cert.GlaInIdeal.nD → PrngReg), Pre_GlaInIdeal m →
    θ_run (Cert.GlaInIdeal.defs (F := Ideal)) (onTc (τ := Cert.GlaInIdeal.τ) (Cert.GlaInIdeal.main (F := Ideal))) ⟨m, fun _ => 0, g⟩ (fun r => (∀ c : Dev Cert.GlaInIdeal.nD,
      r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
      ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
      ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
      ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
      ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
      ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5))
      ∧ r.2.sem = fun _ => 0)

def quiescent_GlaInRefIdeal [hGlaInRefIdeal : Cert.GlaInRefIdeal.Facts] : Prop :=
  ∀ (m : (ℓ : Loc Cert.GlaInRefIdeal.nD Cert.GlaInRefIdeal.τ Cert.GlaInRefIdeal.sig) → Buf (Elt Ideal) ℓ) (g : Dev Cert.GlaInRefIdeal.nD → PrngReg), Pre_GlaInRefIdeal m →
    θ_run (Cert.GlaInRefIdeal.defs (F := Ideal)) (onTc (τ := Cert.GlaInRefIdeal.τ) (Cert.GlaInRefIdeal.main (F := Ideal))) ⟨m, fun _ => 0, g⟩ (fun r => (∀ c : Dev Cert.GlaInRefIdeal.nD,
      r.2.mem ((c.tc : Thread Cert.GlaInRefIdeal.nD Cert.GlaInRefIdeal.τ).loc Cert.GlaInRefIdeal.main_arg0) = m ((c.tc : Thread Cert.GlaInRefIdeal.nD Cert.GlaInRefIdeal.τ).loc Cert.GlaInRefIdeal.main_arg0)
      ∧ r.2.mem ((c.tc : Thread Cert.GlaInRefIdeal.nD Cert.GlaInRefIdeal.τ).loc Cert.GlaInRefIdeal.main_arg1) = m ((c.tc : Thread Cert.GlaInRefIdeal.nD Cert.GlaInRefIdeal.τ).loc Cert.GlaInRefIdeal.main_arg1)
      ∧ r.2.mem ((c.tc : Thread Cert.GlaInRefIdeal.nD Cert.GlaInRefIdeal.τ).loc Cert.GlaInRefIdeal.main_arg2) = m ((c.tc : Thread Cert.GlaInRefIdeal.nD Cert.GlaInRefIdeal.τ).loc Cert.GlaInRefIdeal.main_arg2)
      ∧ r.2.mem ((c.tc : Thread Cert.GlaInRefIdeal.nD Cert.GlaInRefIdeal.τ).loc Cert.GlaInRefIdeal.main_arg3) = m ((c.tc : Thread Cert.GlaInRefIdeal.nD Cert.GlaInRefIdeal.τ).loc Cert.GlaInRefIdeal.main_arg3)
      ∧ r.2.mem ((c.tc : Thread Cert.GlaInRefIdeal.nD Cert.GlaInRefIdeal.τ).loc Cert.GlaInRefIdeal.main_arg4) = m ((c.tc : Thread Cert.GlaInRefIdeal.nD Cert.GlaInRefIdeal.τ).loc Cert.GlaInRefIdeal.main_arg4)
      ∧ r.2.mem ((c.tc : Thread Cert.GlaInRefIdeal.nD Cert.GlaInRefIdeal.τ).loc Cert.GlaInRefIdeal.main_arg5) = m ((c.tc : Thread Cert.GlaInRefIdeal.nD Cert.GlaInRefIdeal.τ).loc Cert.GlaInRefIdeal.main_arg5))
      ∧ r.2.sem = fun _ => 0)

def quiescent_SwaCache [hSwaCache : Cert.SwaCache.Facts] : Prop :=
  ∀ (m : (ℓ : Loc Cert.SwaCache.nD Cert.SwaCache.τ Cert.SwaCache.sig) → Buf (Elt Bits) ℓ) (g : Dev Cert.SwaCache.nD → PrngReg), Pre_SwaCache m →
    θ_run (Cert.SwaCache.defs (F := Bits)) (onTc (τ := Cert.SwaCache.τ) (Cert.SwaCache.main (F := Bits))) ⟨m, fun _ => 0, g⟩ (fun r => (∀ c : Dev Cert.SwaCache.nD,
      r.2.mem ((c.tc : Thread Cert.SwaCache.nD Cert.SwaCache.τ).loc Cert.SwaCache.main_arg0) = m ((c.tc : Thread Cert.SwaCache.nD Cert.SwaCache.τ).loc Cert.SwaCache.main_arg0)
      ∧ r.2.mem ((c.tc : Thread Cert.SwaCache.nD Cert.SwaCache.τ).loc Cert.SwaCache.main_arg1) = m ((c.tc : Thread Cert.SwaCache.nD Cert.SwaCache.τ).loc Cert.SwaCache.main_arg1)
      ∧ r.2.mem ((c.tc : Thread Cert.SwaCache.nD Cert.SwaCache.τ).loc Cert.SwaCache.main_arg2) = m ((c.tc : Thread Cert.SwaCache.nD Cert.SwaCache.τ).loc Cert.SwaCache.main_arg2)
      ∧ r.2.mem ((c.tc : Thread Cert.SwaCache.nD Cert.SwaCache.τ).loc Cert.SwaCache.main_arg3) = m ((c.tc : Thread Cert.SwaCache.nD Cert.SwaCache.τ).loc Cert.SwaCache.main_arg3)
      ∧ r.2.mem ((c.tc : Thread Cert.SwaCache.nD Cert.SwaCache.τ).loc Cert.SwaCache.main_arg4) = m ((c.tc : Thread Cert.SwaCache.nD Cert.SwaCache.τ).loc Cert.SwaCache.main_arg4)
      ∧ r.2.mem ((c.tc : Thread Cert.SwaCache.nD Cert.SwaCache.τ).loc Cert.SwaCache.main_arg5) = m ((c.tc : Thread Cert.SwaCache.nD Cert.SwaCache.τ).loc Cert.SwaCache.main_arg5))
      ∧ r.2.sem = fun _ => 0)

def quiescent_SwaCacheIdeal [hSwaCacheIdeal : Cert.SwaCacheIdeal.Facts] : Prop :=
  ∀ (m : (ℓ : Loc Cert.SwaCacheIdeal.nD Cert.SwaCacheIdeal.τ Cert.SwaCacheIdeal.sig) → Buf (Elt Ideal) ℓ) (g : Dev Cert.SwaCacheIdeal.nD → PrngReg), Pre_SwaCacheIdeal m →
    θ_run (Cert.SwaCacheIdeal.defs (F := Ideal)) (onTc (τ := Cert.SwaCacheIdeal.τ) (Cert.SwaCacheIdeal.main (F := Ideal))) ⟨m, fun _ => 0, g⟩ (fun r => (∀ c : Dev Cert.SwaCacheIdeal.nD,
      r.2.mem ((c.tc : Thread Cert.SwaCacheIdeal.nD Cert.SwaCacheIdeal.τ).loc Cert.SwaCacheIdeal.main_arg0) = m ((c.tc : Thread Cert.SwaCacheIdeal.nD Cert.SwaCacheIdeal.τ).loc Cert.SwaCacheIdeal.main_arg0)
      ∧ r.2.mem ((c.tc : Thread Cert.SwaCacheIdeal.nD Cert.SwaCacheIdeal.τ).loc Cert.SwaCacheIdeal.main_arg1) = m ((c.tc : Thread Cert.SwaCacheIdeal.nD Cert.SwaCacheIdeal.τ).loc Cert.SwaCacheIdeal.main_arg1)
      ∧ r.2.mem ((c.tc : Thread Cert.SwaCacheIdeal.nD Cert.SwaCacheIdeal.τ).loc Cert.SwaCacheIdeal.main_arg2) = m ((c.tc : Thread Cert.SwaCacheIdeal.nD Cert.SwaCacheIdeal.τ).loc Cert.SwaCacheIdeal.main_arg2)
      ∧ r.2.mem ((c.tc : Thread Cert.SwaCacheIdeal.nD Cert.SwaCacheIdeal.τ).loc Cert.SwaCacheIdeal.main_arg3) = m ((c.tc : Thread Cert.SwaCacheIdeal.nD Cert.SwaCacheIdeal.τ).loc Cert.SwaCacheIdeal.main_arg3)
      ∧ r.2.mem ((c.tc : Thread Cert.SwaCacheIdeal.nD Cert.SwaCacheIdeal.τ).loc Cert.SwaCacheIdeal.main_arg4) = m ((c.tc : Thread Cert.SwaCacheIdeal.nD Cert.SwaCacheIdeal.τ).loc Cert.SwaCacheIdeal.main_arg4)
      ∧ r.2.mem ((c.tc : Thread Cert.SwaCacheIdeal.nD Cert.SwaCacheIdeal.τ).loc Cert.SwaCacheIdeal.main_arg5) = m ((c.tc : Thread Cert.SwaCacheIdeal.nD Cert.SwaCacheIdeal.τ).loc Cert.SwaCacheIdeal.main_arg5))
      ∧ r.2.sem = fun _ => 0)

def quiescent_SwaCacheRefIdeal [hSwaCacheRefIdeal : Cert.SwaCacheRefIdeal.Facts] : Prop :=
  ∀ (m : (ℓ : Loc Cert.SwaCacheRefIdeal.nD Cert.SwaCacheRefIdeal.τ Cert.SwaCacheRefIdeal.sig) → Buf (Elt Ideal) ℓ) (g : Dev Cert.SwaCacheRefIdeal.nD → PrngReg), Pre_SwaCacheRefIdeal m →
    θ_run (Cert.SwaCacheRefIdeal.defs (F := Ideal)) (onTc (τ := Cert.SwaCacheRefIdeal.τ) (Cert.SwaCacheRefIdeal.main (F := Ideal))) ⟨m, fun _ => 0, g⟩ (fun r => (∀ c : Dev Cert.SwaCacheRefIdeal.nD,
      r.2.mem ((c.tc : Thread Cert.SwaCacheRefIdeal.nD Cert.SwaCacheRefIdeal.τ).loc Cert.SwaCacheRefIdeal.main_arg0) = m ((c.tc : Thread Cert.SwaCacheRefIdeal.nD Cert.SwaCacheRefIdeal.τ).loc Cert.SwaCacheRefIdeal.main_arg0)
      ∧ r.2.mem ((c.tc : Thread Cert.SwaCacheRefIdeal.nD Cert.SwaCacheRefIdeal.τ).loc Cert.SwaCacheRefIdeal.main_arg1) = m ((c.tc : Thread Cert.SwaCacheRefIdeal.nD Cert.SwaCacheRefIdeal.τ).loc Cert.SwaCacheRefIdeal.main_arg1)
      ∧ r.2.mem ((c.tc : Thread Cert.SwaCacheRefIdeal.nD Cert.SwaCacheRefIdeal.τ).loc Cert.SwaCacheRefIdeal.main_arg2) = m ((c.tc : Thread Cert.SwaCacheRefIdeal.nD Cert.SwaCacheRefIdeal.τ).loc Cert.SwaCacheRefIdeal.main_arg2)
      ∧ r.2.mem ((c.tc : Thread Cert.SwaCacheRefIdeal.nD Cert.SwaCacheRefIdeal.τ).loc Cert.SwaCacheRefIdeal.main_arg3) = m ((c.tc : Thread Cert.SwaCacheRefIdeal.nD Cert.SwaCacheRefIdeal.τ).loc Cert.SwaCacheRefIdeal.main_arg3)
      ∧ r.2.mem ((c.tc : Thread Cert.SwaCacheRefIdeal.nD Cert.SwaCacheRefIdeal.τ).loc Cert.SwaCacheRefIdeal.main_arg4) = m ((c.tc : Thread Cert.SwaCacheRefIdeal.nD Cert.SwaCacheRefIdeal.τ).loc Cert.SwaCacheRefIdeal.main_arg4)
      ∧ r.2.mem ((c.tc : Thread Cert.SwaCacheRefIdeal.nD Cert.SwaCacheRefIdeal.τ).loc Cert.SwaCacheRefIdeal.main_arg5) = m ((c.tc : Thread Cert.SwaCacheRefIdeal.nD Cert.SwaCacheRefIdeal.τ).loc Cert.SwaCacheRefIdeal.main_arg5))
      ∧ r.2.sem = fun _ => 0)

def quiescent_ProjRes [hProjRes : Cert.ProjRes.Facts] : Prop :=
  ∀ (m : (ℓ : Loc Cert.ProjRes.nD Cert.ProjRes.τ Cert.ProjRes.sig) → Buf (Elt Bits) ℓ) (g : Dev Cert.ProjRes.nD → PrngReg), Pre_ProjRes m →
    θ_run (Cert.ProjRes.defs (F := Bits)) (onTc (τ := Cert.ProjRes.τ) (Cert.ProjRes.main (F := Bits))) ⟨m, fun _ => 0, g⟩ (fun r => (∀ c : Dev Cert.ProjRes.nD,
      r.2.mem ((c.tc : Thread Cert.ProjRes.nD Cert.ProjRes.τ).loc Cert.ProjRes.main_arg0) = m ((c.tc : Thread Cert.ProjRes.nD Cert.ProjRes.τ).loc Cert.ProjRes.main_arg0)
      ∧ r.2.mem ((c.tc : Thread Cert.ProjRes.nD Cert.ProjRes.τ).loc Cert.ProjRes.main_arg1) = m ((c.tc : Thread Cert.ProjRes.nD Cert.ProjRes.τ).loc Cert.ProjRes.main_arg1)
      ∧ r.2.mem ((c.tc : Thread Cert.ProjRes.nD Cert.ProjRes.τ).loc Cert.ProjRes.main_arg2) = m ((c.tc : Thread Cert.ProjRes.nD Cert.ProjRes.τ).loc Cert.ProjRes.main_arg2)
      ∧ r.2.mem ((c.tc : Thread Cert.ProjRes.nD Cert.ProjRes.τ).loc Cert.ProjRes.main_arg3) = m ((c.tc : Thread Cert.ProjRes.nD Cert.ProjRes.τ).loc Cert.ProjRes.main_arg3)
      ∧ r.2.mem ((c.tc : Thread Cert.ProjRes.nD Cert.ProjRes.τ).loc Cert.ProjRes.main_arg4) = m ((c.tc : Thread Cert.ProjRes.nD Cert.ProjRes.τ).loc Cert.ProjRes.main_arg4)
      ∧ r.2.mem ((c.tc : Thread Cert.ProjRes.nD Cert.ProjRes.τ).loc Cert.ProjRes.main_arg5) = m ((c.tc : Thread Cert.ProjRes.nD Cert.ProjRes.τ).loc Cert.ProjRes.main_arg5))
      ∧ r.2.sem = fun _ => 0)

def quiescent_ProjResIdeal [hProjResIdeal : Cert.ProjResIdeal.Facts] : Prop :=
  ∀ (m : (ℓ : Loc Cert.ProjResIdeal.nD Cert.ProjResIdeal.τ Cert.ProjResIdeal.sig) → Buf (Elt Ideal) ℓ) (g : Dev Cert.ProjResIdeal.nD → PrngReg), Pre_ProjResIdeal m →
    θ_run (Cert.ProjResIdeal.defs (F := Ideal)) (onTc (τ := Cert.ProjResIdeal.τ) (Cert.ProjResIdeal.main (F := Ideal))) ⟨m, fun _ => 0, g⟩ (fun r => (∀ c : Dev Cert.ProjResIdeal.nD,
      r.2.mem ((c.tc : Thread Cert.ProjResIdeal.nD Cert.ProjResIdeal.τ).loc Cert.ProjResIdeal.main_arg0) = m ((c.tc : Thread Cert.ProjResIdeal.nD Cert.ProjResIdeal.τ).loc Cert.ProjResIdeal.main_arg0)
      ∧ r.2.mem ((c.tc : Thread Cert.ProjResIdeal.nD Cert.ProjResIdeal.τ).loc Cert.ProjResIdeal.main_arg1) = m ((c.tc : Thread Cert.ProjResIdeal.nD Cert.ProjResIdeal.τ).loc Cert.ProjResIdeal.main_arg1)
      ∧ r.2.mem ((c.tc : Thread Cert.ProjResIdeal.nD Cert.ProjResIdeal.τ).loc Cert.ProjResIdeal.main_arg2) = m ((c.tc : Thread Cert.ProjResIdeal.nD Cert.ProjResIdeal.τ).loc Cert.ProjResIdeal.main_arg2)
      ∧ r.2.mem ((c.tc : Thread Cert.ProjResIdeal.nD Cert.ProjResIdeal.τ).loc Cert.ProjResIdeal.main_arg3) = m ((c.tc : Thread Cert.ProjResIdeal.nD Cert.ProjResIdeal.τ).loc Cert.ProjResIdeal.main_arg3)
      ∧ r.2.mem ((c.tc : Thread Cert.ProjResIdeal.nD Cert.ProjResIdeal.τ).loc Cert.ProjResIdeal.main_arg4) = m ((c.tc : Thread Cert.ProjResIdeal.nD Cert.ProjResIdeal.τ).loc Cert.ProjResIdeal.main_arg4)
      ∧ r.2.mem ((c.tc : Thread Cert.ProjResIdeal.nD Cert.ProjResIdeal.τ).loc Cert.ProjResIdeal.main_arg5) = m ((c.tc : Thread Cert.ProjResIdeal.nD Cert.ProjResIdeal.τ).loc Cert.ProjResIdeal.main_arg5))
      ∧ r.2.sem = fun _ => 0)

def quiescent_ProjResRefIdeal [hProjResRefIdeal : Cert.ProjResRefIdeal.Facts] : Prop :=
  ∀ (m : (ℓ : Loc Cert.ProjResRefIdeal.nD Cert.ProjResRefIdeal.τ Cert.ProjResRefIdeal.sig) → Buf (Elt Ideal) ℓ) (g : Dev Cert.ProjResRefIdeal.nD → PrngReg), Pre_ProjResRefIdeal m →
    θ_run (Cert.ProjResRefIdeal.defs (F := Ideal)) (onTc (τ := Cert.ProjResRefIdeal.τ) (Cert.ProjResRefIdeal.main (F := Ideal))) ⟨m, fun _ => 0, g⟩ (fun r => (∀ c : Dev Cert.ProjResRefIdeal.nD,
      r.2.mem ((c.tc : Thread Cert.ProjResRefIdeal.nD Cert.ProjResRefIdeal.τ).loc Cert.ProjResRefIdeal.main_arg0) = m ((c.tc : Thread Cert.ProjResRefIdeal.nD Cert.ProjResRefIdeal.τ).loc Cert.ProjResRefIdeal.main_arg0)
      ∧ r.2.mem ((c.tc : Thread Cert.ProjResRefIdeal.nD Cert.ProjResRefIdeal.τ).loc Cert.ProjResRefIdeal.main_arg1) = m ((c.tc : Thread Cert.ProjResRefIdeal.nD Cert.ProjResRefIdeal.τ).loc Cert.ProjResRefIdeal.main_arg1)
      ∧ r.2.mem ((c.tc : Thread Cert.ProjResRefIdeal.nD Cert.ProjResRefIdeal.τ).loc Cert.ProjResRefIdeal.main_arg2) = m ((c.tc : Thread Cert.ProjResRefIdeal.nD Cert.ProjResRefIdeal.τ).loc Cert.ProjResRefIdeal.main_arg2)
      ∧ r.2.mem ((c.tc : Thread Cert.ProjResRefIdeal.nD Cert.ProjResRefIdeal.τ).loc Cert.ProjResRefIdeal.main_arg3) = m ((c.tc : Thread Cert.ProjResRefIdeal.nD Cert.ProjResRefIdeal.τ).loc Cert.ProjResRefIdeal.main_arg3)
      ∧ r.2.mem ((c.tc : Thread Cert.ProjResRefIdeal.nD Cert.ProjResRefIdeal.τ).loc Cert.ProjResRefIdeal.main_arg4) = m ((c.tc : Thread Cert.ProjResRefIdeal.nD Cert.ProjResRefIdeal.τ).loc Cert.ProjResRefIdeal.main_arg4)
      ∧ r.2.mem ((c.tc : Thread Cert.ProjResRefIdeal.nD Cert.ProjResRefIdeal.τ).loc Cert.ProjResRefIdeal.main_arg5) = m ((c.tc : Thread Cert.ProjResRefIdeal.nD Cert.ProjResRefIdeal.τ).loc Cert.ProjResRefIdeal.main_arg5))
      ∧ r.2.sem = fun _ => 0)

def preserves_GlaSample_GlaSampleIdeal : Prop :=
  True

def algebraic_GlaSampleIdeal_GlaSampleRefIdeal_pre_decay_finite [hGlaSampleIdeal : Cert.GlaSampleIdeal.Facts] [hGlaSampleRefIdeal : Cert.GlaSampleRefIdeal.Facts] [hPre_decay_finite : Cert.Pre_decay_finite.Facts] : Prop :=
  ∀ (m : (ℓ : Loc Cert.GlaSampleIdeal.nD Cert.GlaSampleIdeal.τ Cert.GlaSampleIdeal.sig) → Buf (Elt Ideal) ℓ) (g : Dev Cert.GlaSampleIdeal.nD → PrngReg)
    (m' : (ℓ : Loc Cert.GlaSampleRefIdeal.nD Cert.GlaSampleRefIdeal.τ Cert.GlaSampleRefIdeal.sig) → Buf (Elt Ideal) ℓ) (g' : Dev Cert.GlaSampleRefIdeal.nD → PrngReg), Pre_GlaSampleIdeal_decay_finite m →
    (∀ c : Dev Cert.GlaSampleIdeal.nD,
      m' ((c.tc : Thread Cert.GlaSampleRefIdeal.nD Cert.GlaSampleRefIdeal.τ).loc Cert.GlaSampleRefIdeal.main_arg0) = m ((c.tc : Thread Cert.GlaSampleIdeal.nD Cert.GlaSampleIdeal.τ).loc Cert.GlaSampleIdeal.main_arg0)
      ∧ m' ((c.tc : Thread Cert.GlaSampleRefIdeal.nD Cert.GlaSampleRefIdeal.τ).loc Cert.GlaSampleRefIdeal.main_arg1) = m ((c.tc : Thread Cert.GlaSampleIdeal.nD Cert.GlaSampleIdeal.τ).loc Cert.GlaSampleIdeal.main_arg1)
      ∧ m' ((c.tc : Thread Cert.GlaSampleRefIdeal.nD Cert.GlaSampleRefIdeal.τ).loc Cert.GlaSampleRefIdeal.main_arg2) = m ((c.tc : Thread Cert.GlaSampleIdeal.nD Cert.GlaSampleIdeal.τ).loc Cert.GlaSampleIdeal.main_arg2)
      ∧ m' ((c.tc : Thread Cert.GlaSampleRefIdeal.nD Cert.GlaSampleRefIdeal.τ).loc Cert.GlaSampleRefIdeal.main_arg3) = m ((c.tc : Thread Cert.GlaSampleIdeal.nD Cert.GlaSampleIdeal.τ).loc Cert.GlaSampleIdeal.main_arg3)) →
    ∃ (v0 : (c : Dev Cert.GlaSampleIdeal.nD) → Buf (Elt Ideal) ((c.tc : Thread Cert.GlaSampleIdeal.nD Cert.GlaSampleIdeal.τ).loc Cert.GlaSampleIdeal.main_v0_0)) (v1 : (c : Dev Cert.GlaSampleIdeal.nD) → Buf (Elt Ideal) ((c.tc : Thread Cert.GlaSampleIdeal.nD Cert.GlaSampleIdeal.τ).loc Cert.GlaSampleIdeal.main_v0_1)),
      θ_run (Cert.GlaSampleIdeal.defs (F := Ideal)) (onTc (τ := Cert.GlaSampleIdeal.τ) (Cert.GlaSampleIdeal.main (F := Ideal))) ⟨m, fun _ => 0, g⟩ (fun r => ∀ c : Dev Cert.GlaSampleIdeal.nD,
          r.2.mem ((c.tc : Thread Cert.GlaSampleIdeal.nD Cert.GlaSampleIdeal.τ).loc Cert.GlaSampleIdeal.main_v0_0) = v0 c
          ∧ r.2.mem ((c.tc : Thread Cert.GlaSampleIdeal.nD Cert.GlaSampleIdeal.τ).loc Cert.GlaSampleIdeal.main_v0_1) = v1 c
          ∧ r.2.mem ((c.tc : Thread Cert.GlaSampleIdeal.nD Cert.GlaSampleIdeal.τ).loc Cert.GlaSampleIdeal.main_arg0) = m ((c.tc : Thread Cert.GlaSampleIdeal.nD Cert.GlaSampleIdeal.τ).loc Cert.GlaSampleIdeal.main_arg0)
          ∧ r.2.mem ((c.tc : Thread Cert.GlaSampleIdeal.nD Cert.GlaSampleIdeal.τ).loc Cert.GlaSampleIdeal.main_arg1) = m ((c.tc : Thread Cert.GlaSampleIdeal.nD Cert.GlaSampleIdeal.τ).loc Cert.GlaSampleIdeal.main_arg1)
          ∧ r.2.mem ((c.tc : Thread Cert.GlaSampleIdeal.nD Cert.GlaSampleIdeal.τ).loc Cert.GlaSampleIdeal.main_arg2) = m ((c.tc : Thread Cert.GlaSampleIdeal.nD Cert.GlaSampleIdeal.τ).loc Cert.GlaSampleIdeal.main_arg2)
          ∧ r.2.mem ((c.tc : Thread Cert.GlaSampleIdeal.nD Cert.GlaSampleIdeal.τ).loc Cert.GlaSampleIdeal.main_arg3) = m ((c.tc : Thread Cert.GlaSampleIdeal.nD Cert.GlaSampleIdeal.τ).loc Cert.GlaSampleIdeal.main_arg3))
      ∧ θ_run (Cert.GlaSampleRefIdeal.defs (F := Ideal)) (onTc (τ := Cert.GlaSampleRefIdeal.τ) (Cert.GlaSampleRefIdeal.main (F := Ideal))) ⟨m', fun _ => 0, g'⟩ (fun r => ∀ c : Dev Cert.GlaSampleRefIdeal.nD,
          r.2.mem ((c.tc : Thread Cert.GlaSampleRefIdeal.nD Cert.GlaSampleRefIdeal.τ).loc Cert.GlaSampleRefIdeal.main_v61) = v0 c
          ∧ r.2.mem ((c.tc : Thread Cert.GlaSampleRefIdeal.nD Cert.GlaSampleRefIdeal.τ).loc Cert.GlaSampleRefIdeal.main_v42) = v1 c
          ∧ r.2.mem ((c.tc : Thread Cert.GlaSampleRefIdeal.nD Cert.GlaSampleRefIdeal.τ).loc Cert.GlaSampleRefIdeal.main_arg0) = m' ((c.tc : Thread Cert.GlaSampleRefIdeal.nD Cert.GlaSampleRefIdeal.τ).loc Cert.GlaSampleRefIdeal.main_arg0)
          ∧ r.2.mem ((c.tc : Thread Cert.GlaSampleRefIdeal.nD Cert.GlaSampleRefIdeal.τ).loc Cert.GlaSampleRefIdeal.main_arg1) = m' ((c.tc : Thread Cert.GlaSampleRefIdeal.nD Cert.GlaSampleRefIdeal.τ).loc Cert.GlaSampleRefIdeal.main_arg1)
          ∧ r.2.mem ((c.tc : Thread Cert.GlaSampleRefIdeal.nD Cert.GlaSampleRefIdeal.τ).loc Cert.GlaSampleRefIdeal.main_arg2) = m' ((c.tc : Thread Cert.GlaSampleRefIdeal.nD Cert.GlaSampleRefIdeal.τ).loc Cert.GlaSampleRefIdeal.main_arg2)
          ∧ r.2.mem ((c.tc : Thread Cert.GlaSampleRefIdeal.nD Cert.GlaSampleRefIdeal.τ).loc Cert.GlaSampleRefIdeal.main_arg3) = m' ((c.tc : Thread Cert.GlaSampleRefIdeal.nD Cert.GlaSampleRefIdeal.τ).loc Cert.GlaSampleRefIdeal.main_arg3))

def preserves_HeadLast_HeadLastIdeal : Prop :=
  True

def algebraic_HeadLastIdeal_HeadLastRefIdeal_on_head_rows [hHeadLastIdeal : Cert.HeadLastIdeal.Facts] [hHeadLastRefIdeal : Cert.HeadLastRefIdeal.Facts] [hOn_head_rows : Cert.On_head_rows.Facts] : Prop :=
  ∀ (m : (ℓ : Loc Cert.HeadLastIdeal.nD Cert.HeadLastIdeal.τ Cert.HeadLastIdeal.sig) → Buf (Elt Ideal) ℓ) (g : Dev Cert.HeadLastIdeal.nD → PrngReg)
    (m' : (ℓ : Loc Cert.HeadLastRefIdeal.nD Cert.HeadLastRefIdeal.τ Cert.HeadLastRefIdeal.sig) → Buf (Elt Ideal) ℓ) (g' : Dev Cert.HeadLastRefIdeal.nD → PrngReg), Pre_HeadLastIdeal m →
    (∀ c : Dev Cert.HeadLastIdeal.nD,
      m' ((c.tc : Thread Cert.HeadLastRefIdeal.nD Cert.HeadLastRefIdeal.τ).loc Cert.HeadLastRefIdeal.main_arg0) = m ((c.tc : Thread Cert.HeadLastIdeal.nD Cert.HeadLastIdeal.τ).loc Cert.HeadLastIdeal.main_arg0)
      ∧ m' ((c.tc : Thread Cert.HeadLastRefIdeal.nD Cert.HeadLastRefIdeal.τ).loc Cert.HeadLastRefIdeal.main_arg1) = m ((c.tc : Thread Cert.HeadLastIdeal.nD Cert.HeadLastIdeal.τ).loc Cert.HeadLastIdeal.main_arg1)
      ∧ m' ((c.tc : Thread Cert.HeadLastRefIdeal.nD Cert.HeadLastRefIdeal.τ).loc Cert.HeadLastRefIdeal.main_arg2) = m ((c.tc : Thread Cert.HeadLastIdeal.nD Cert.HeadLastIdeal.τ).loc Cert.HeadLastIdeal.main_arg2)
      ∧ m' ((c.tc : Thread Cert.HeadLastRefIdeal.nD Cert.HeadLastRefIdeal.τ).loc Cert.HeadLastRefIdeal.main_arg3) = m ((c.tc : Thread Cert.HeadLastIdeal.nD Cert.HeadLastIdeal.τ).loc Cert.HeadLastIdeal.main_arg3)
      ∧ m' ((c.tc : Thread Cert.HeadLastRefIdeal.nD Cert.HeadLastRefIdeal.τ).loc Cert.HeadLastRefIdeal.main_arg4) = m ((c.tc : Thread Cert.HeadLastIdeal.nD Cert.HeadLastIdeal.τ).loc Cert.HeadLastIdeal.main_arg4)
      ∧ m' ((c.tc : Thread Cert.HeadLastRefIdeal.nD Cert.HeadLastRefIdeal.τ).loc Cert.HeadLastRefIdeal.main_arg5) = m ((c.tc : Thread Cert.HeadLastIdeal.nD Cert.HeadLastIdeal.τ).loc Cert.HeadLastIdeal.main_arg5)
      ∧ m' ((c.tc : Thread Cert.HeadLastRefIdeal.nD Cert.HeadLastRefIdeal.τ).loc Cert.HeadLastRefIdeal.main_arg6) = m ((c.tc : Thread Cert.HeadLastIdeal.nD Cert.HeadLastIdeal.τ).loc Cert.HeadLastIdeal.main_arg6)) →
    ∃ (v0 : (c : Dev Cert.HeadLastIdeal.nD) → Buf (Elt Ideal) ((c.tc : Thread Cert.HeadLastIdeal.nD Cert.HeadLastIdeal.τ).loc Cert.HeadLastIdeal.main_v2_0)) (v1 : (c : Dev Cert.HeadLastIdeal.nD) → Buf (Elt Ideal) ((c.tc : Thread Cert.HeadLastIdeal.nD Cert.HeadLastIdeal.τ).loc Cert.HeadLastIdeal.main_v2_1)) (v2 : (c : Dev Cert.HeadLastIdeal.nD) → Buf (Elt Ideal) ((c.tc : Thread Cert.HeadLastIdeal.nD Cert.HeadLastIdeal.τ).loc Cert.HeadLastIdeal.main_v2_2)) (v3 : (c : Dev Cert.HeadLastIdeal.nD) → Buf (Elt Ideal) ((c.tc : Thread Cert.HeadLastIdeal.nD Cert.HeadLastIdeal.τ).loc Cert.HeadLastIdeal.main_v2_3)) (v4 : (c : Dev Cert.HeadLastIdeal.nD) → Buf (Elt Ideal) ((c.tc : Thread Cert.HeadLastIdeal.nD Cert.HeadLastIdeal.τ).loc Cert.HeadLastIdeal.main_v2_4)),
      θ_run (Cert.HeadLastIdeal.defs (F := Ideal)) (onTc (τ := Cert.HeadLastIdeal.τ) (Cert.HeadLastIdeal.main (F := Ideal))) ⟨m, fun _ => 0, g⟩ (fun r => ∀ c : Dev Cert.HeadLastIdeal.nD,
          (∀ i : (⟨2, ![8192, 2048]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).1 i = 1#1 → r.2.mem ((c.tc : Thread Cert.HeadLastIdeal.nD Cert.HeadLastIdeal.τ).loc Cert.HeadLastIdeal.main_v2_0) i = v0 c i)
          ∧ (∀ i : (⟨2, ![512, 2048]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.1 i = 1#1 → r.2.mem ((c.tc : Thread Cert.HeadLastIdeal.nD Cert.HeadLastIdeal.τ).loc Cert.HeadLastIdeal.main_v2_1) i = v1 c i)
          ∧ (∀ i : (⟨2, ![2048, 5632]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.2.1 i = 1#1 → r.2.mem ((c.tc : Thread Cert.HeadLastIdeal.nD Cert.HeadLastIdeal.τ).loc Cert.HeadLastIdeal.main_v2_2) i = v2 c i)
          ∧ (∀ i : (⟨2, ![2048, 5632]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.2.2.1 i = 1#1 → r.2.mem ((c.tc : Thread Cert.HeadLastIdeal.nD Cert.HeadLastIdeal.τ).loc Cert.HeadLastIdeal.main_v2_3) i = v3 c i)
          ∧ (∀ i : (⟨2, ![5632, 2048]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.2.2.2 i = 1#1 → r.2.mem ((c.tc : Thread Cert.HeadLastIdeal.nD Cert.HeadLastIdeal.τ).loc Cert.HeadLastIdeal.main_v2_4) i = v4 c i)
          ∧ r.2.mem ((c.tc : Thread Cert.HeadLastIdeal.nD Cert.HeadLastIdeal.τ).loc Cert.HeadLastIdeal.main_arg0) = m ((c.tc : Thread Cert.HeadLastIdeal.nD Cert.HeadLastIdeal.τ).loc Cert.HeadLastIdeal.main_arg0)
          ∧ r.2.mem ((c.tc : Thread Cert.HeadLastIdeal.nD Cert.HeadLastIdeal.τ).loc Cert.HeadLastIdeal.main_arg1) = m ((c.tc : Thread Cert.HeadLastIdeal.nD Cert.HeadLastIdeal.τ).loc Cert.HeadLastIdeal.main_arg1)
          ∧ r.2.mem ((c.tc : Thread Cert.HeadLastIdeal.nD Cert.HeadLastIdeal.τ).loc Cert.HeadLastIdeal.main_arg2) = m ((c.tc : Thread Cert.HeadLastIdeal.nD Cert.HeadLastIdeal.τ).loc Cert.HeadLastIdeal.main_arg2)
          ∧ r.2.mem ((c.tc : Thread Cert.HeadLastIdeal.nD Cert.HeadLastIdeal.τ).loc Cert.HeadLastIdeal.main_arg3) = m ((c.tc : Thread Cert.HeadLastIdeal.nD Cert.HeadLastIdeal.τ).loc Cert.HeadLastIdeal.main_arg3)
          ∧ r.2.mem ((c.tc : Thread Cert.HeadLastIdeal.nD Cert.HeadLastIdeal.τ).loc Cert.HeadLastIdeal.main_arg4) = m ((c.tc : Thread Cert.HeadLastIdeal.nD Cert.HeadLastIdeal.τ).loc Cert.HeadLastIdeal.main_arg4)
          ∧ r.2.mem ((c.tc : Thread Cert.HeadLastIdeal.nD Cert.HeadLastIdeal.τ).loc Cert.HeadLastIdeal.main_arg5) = m ((c.tc : Thread Cert.HeadLastIdeal.nD Cert.HeadLastIdeal.τ).loc Cert.HeadLastIdeal.main_arg5)
          ∧ r.2.mem ((c.tc : Thread Cert.HeadLastIdeal.nD Cert.HeadLastIdeal.τ).loc Cert.HeadLastIdeal.main_arg6) = m ((c.tc : Thread Cert.HeadLastIdeal.nD Cert.HeadLastIdeal.τ).loc Cert.HeadLastIdeal.main_arg6))
      ∧ θ_run (Cert.HeadLastRefIdeal.defs (F := Ideal)) (onTc (τ := Cert.HeadLastRefIdeal.τ) (Cert.HeadLastRefIdeal.main (F := Ideal))) ⟨m', fun _ => 0, g'⟩ (fun r => ∀ c : Dev Cert.HeadLastRefIdeal.nD,
          (∀ i : (⟨2, ![8192, 2048]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).1 i = 1#1 → r.2.mem ((c.tc : Thread Cert.HeadLastRefIdeal.nD Cert.HeadLastRefIdeal.τ).loc Cert.HeadLastRefIdeal.main_v39) i = v0 c i)
          ∧ (∀ i : (⟨2, ![512, 2048]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.1 i = 1#1 → r.2.mem ((c.tc : Thread Cert.HeadLastRefIdeal.nD Cert.HeadLastRefIdeal.τ).loc Cert.HeadLastRefIdeal.main_v73) i = v1 c i)
          ∧ (∀ i : (⟨2, ![2048, 5632]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.2.1 i = 1#1 → r.2.mem ((c.tc : Thread Cert.HeadLastRefIdeal.nD Cert.HeadLastRefIdeal.τ).loc Cert.HeadLastRefIdeal.main_v74) i = v2 c i)
          ∧ (∀ i : (⟨2, ![2048, 5632]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.2.2.1 i = 1#1 → r.2.mem ((c.tc : Thread Cert.HeadLastRefIdeal.nD Cert.HeadLastRefIdeal.τ).loc Cert.HeadLastRefIdeal.main_v75) i = v3 c i)
          ∧ (∀ i : (⟨2, ![5632, 2048]⟩ : Shape).Idx, (Cert.On_head_rows.fn (F := Ideal) (m ((c.tc : Thread Cert.HeadLastIdeal.nD Cert.HeadLastIdeal.τ).loc Cert.HeadLastIdeal.main_arg0)) (m ((c.tc : Thread Cert.HeadLastIdeal.nD Cert.HeadLastIdeal.τ).loc Cert.HeadLastIdeal.main_arg1)) (m ((c.tc : Thread Cert.HeadLastIdeal.nD Cert.HeadLastIdeal.τ).loc Cert.HeadLastIdeal.main_arg2)) (m ((c.tc : Thread Cert.HeadLastIdeal.nD Cert.HeadLastIdeal.τ).loc Cert.HeadLastIdeal.main_arg3)) (m ((c.tc : Thread Cert.HeadLastIdeal.nD Cert.HeadLastIdeal.τ).loc Cert.HeadLastIdeal.main_arg4)) (m ((c.tc : Thread Cert.HeadLastIdeal.nD Cert.HeadLastIdeal.τ).loc Cert.HeadLastIdeal.main_arg5)) (m ((c.tc : Thread Cert.HeadLastIdeal.nD Cert.HeadLastIdeal.τ).loc Cert.HeadLastIdeal.main_arg6))).2.2.2.2 i = 1#1 → r.2.mem ((c.tc : Thread Cert.HeadLastRefIdeal.nD Cert.HeadLastRefIdeal.τ).loc Cert.HeadLastRefIdeal.main_v76) i = v4 c i)
          ∧ r.2.mem ((c.tc : Thread Cert.HeadLastRefIdeal.nD Cert.HeadLastRefIdeal.τ).loc Cert.HeadLastRefIdeal.main_arg0) = m' ((c.tc : Thread Cert.HeadLastRefIdeal.nD Cert.HeadLastRefIdeal.τ).loc Cert.HeadLastRefIdeal.main_arg0)
          ∧ r.2.mem ((c.tc : Thread Cert.HeadLastRefIdeal.nD Cert.HeadLastRefIdeal.τ).loc Cert.HeadLastRefIdeal.main_arg1) = m' ((c.tc : Thread Cert.HeadLastRefIdeal.nD Cert.HeadLastRefIdeal.τ).loc Cert.HeadLastRefIdeal.main_arg1)
          ∧ r.2.mem ((c.tc : Thread Cert.HeadLastRefIdeal.nD Cert.HeadLastRefIdeal.τ).loc Cert.HeadLastRefIdeal.main_arg2) = m' ((c.tc : Thread Cert.HeadLastRefIdeal.nD Cert.HeadLastRefIdeal.τ).loc Cert.HeadLastRefIdeal.main_arg2)
          ∧ r.2.mem ((c.tc : Thread Cert.HeadLastRefIdeal.nD Cert.HeadLastRefIdeal.τ).loc Cert.HeadLastRefIdeal.main_arg3) = m' ((c.tc : Thread Cert.HeadLastRefIdeal.nD Cert.HeadLastRefIdeal.τ).loc Cert.HeadLastRefIdeal.main_arg3)
          ∧ r.2.mem ((c.tc : Thread Cert.HeadLastRefIdeal.nD Cert.HeadLastRefIdeal.τ).loc Cert.HeadLastRefIdeal.main_arg4) = m' ((c.tc : Thread Cert.HeadLastRefIdeal.nD Cert.HeadLastRefIdeal.τ).loc Cert.HeadLastRefIdeal.main_arg4)
          ∧ r.2.mem ((c.tc : Thread Cert.HeadLastRefIdeal.nD Cert.HeadLastRefIdeal.τ).loc Cert.HeadLastRefIdeal.main_arg5) = m' ((c.tc : Thread Cert.HeadLastRefIdeal.nD Cert.HeadLastRefIdeal.τ).loc Cert.HeadLastRefIdeal.main_arg5)
          ∧ r.2.mem ((c.tc : Thread Cert.HeadLastRefIdeal.nD Cert.HeadLastRefIdeal.τ).loc Cert.HeadLastRefIdeal.main_arg6) = m' ((c.tc : Thread Cert.HeadLastRefIdeal.nD Cert.HeadLastRefIdeal.τ).loc Cert.HeadLastRefIdeal.main_arg6))

def preserves_FfnLast_FfnLastIdeal : Prop :=
  True

def algebraic_FfnLastIdeal_FfnLastRefIdeal [hFfnLastIdeal : Cert.FfnLastIdeal.Facts] [hFfnLastRefIdeal : Cert.FfnLastRefIdeal.Facts] : Prop :=
  ∀ (m : (ℓ : Loc Cert.FfnLastIdeal.nD Cert.FfnLastIdeal.τ Cert.FfnLastIdeal.sig) → Buf (Elt Ideal) ℓ) (g : Dev Cert.FfnLastIdeal.nD → PrngReg)
    (m' : (ℓ : Loc Cert.FfnLastRefIdeal.nD Cert.FfnLastRefIdeal.τ Cert.FfnLastRefIdeal.sig) → Buf (Elt Ideal) ℓ) (g' : Dev Cert.FfnLastRefIdeal.nD → PrngReg), Pre_FfnLastIdeal m →
    (∀ c : Dev Cert.FfnLastIdeal.nD,
      m' ((c.tc : Thread Cert.FfnLastRefIdeal.nD Cert.FfnLastRefIdeal.τ).loc Cert.FfnLastRefIdeal.main_arg0) = m ((c.tc : Thread Cert.FfnLastIdeal.nD Cert.FfnLastIdeal.τ).loc Cert.FfnLastIdeal.main_arg0)
      ∧ m' ((c.tc : Thread Cert.FfnLastRefIdeal.nD Cert.FfnLastRefIdeal.τ).loc Cert.FfnLastRefIdeal.main_arg1) = m ((c.tc : Thread Cert.FfnLastIdeal.nD Cert.FfnLastIdeal.τ).loc Cert.FfnLastIdeal.main_arg1)
      ∧ m' ((c.tc : Thread Cert.FfnLastRefIdeal.nD Cert.FfnLastRefIdeal.τ).loc Cert.FfnLastRefIdeal.main_arg2) = m ((c.tc : Thread Cert.FfnLastIdeal.nD Cert.FfnLastIdeal.τ).loc Cert.FfnLastIdeal.main_arg2)
      ∧ m' ((c.tc : Thread Cert.FfnLastRefIdeal.nD Cert.FfnLastRefIdeal.τ).loc Cert.FfnLastRefIdeal.main_arg3) = m ((c.tc : Thread Cert.FfnLastIdeal.nD Cert.FfnLastIdeal.τ).loc Cert.FfnLastIdeal.main_arg3)
      ∧ m' ((c.tc : Thread Cert.FfnLastRefIdeal.nD Cert.FfnLastRefIdeal.τ).loc Cert.FfnLastRefIdeal.main_arg4) = m ((c.tc : Thread Cert.FfnLastIdeal.nD Cert.FfnLastIdeal.τ).loc Cert.FfnLastIdeal.main_arg4)
      ∧ m' ((c.tc : Thread Cert.FfnLastRefIdeal.nD Cert.FfnLastRefIdeal.τ).loc Cert.FfnLastRefIdeal.main_arg5) = m ((c.tc : Thread Cert.FfnLastIdeal.nD Cert.FfnLastIdeal.τ).loc Cert.FfnLastIdeal.main_arg5)
      ∧ m' ((c.tc : Thread Cert.FfnLastRefIdeal.nD Cert.FfnLastRefIdeal.τ).loc Cert.FfnLastRefIdeal.main_arg6) = m ((c.tc : Thread Cert.FfnLastIdeal.nD Cert.FfnLastIdeal.τ).loc Cert.FfnLastIdeal.main_arg6)) →
    ∃ (v0 : (c : Dev Cert.FfnLastIdeal.nD) → Buf (Elt Ideal) ((c.tc : Thread Cert.FfnLastIdeal.nD Cert.FfnLastIdeal.τ).loc Cert.FfnLastIdeal.main_v2)),
      θ_run (Cert.FfnLastIdeal.defs (F := Ideal)) (onTc (τ := Cert.FfnLastIdeal.τ) (Cert.FfnLastIdeal.main (F := Ideal))) ⟨m, fun _ => 0, g⟩ (fun r => ∀ c : Dev Cert.FfnLastIdeal.nD,
          r.2.mem ((c.tc : Thread Cert.FfnLastIdeal.nD Cert.FfnLastIdeal.τ).loc Cert.FfnLastIdeal.main_v2) = v0 c
          ∧ r.2.mem ((c.tc : Thread Cert.FfnLastIdeal.nD Cert.FfnLastIdeal.τ).loc Cert.FfnLastIdeal.main_arg0) = m ((c.tc : Thread Cert.FfnLastIdeal.nD Cert.FfnLastIdeal.τ).loc Cert.FfnLastIdeal.main_arg0)
          ∧ r.2.mem ((c.tc : Thread Cert.FfnLastIdeal.nD Cert.FfnLastIdeal.τ).loc Cert.FfnLastIdeal.main_arg1) = m ((c.tc : Thread Cert.FfnLastIdeal.nD Cert.FfnLastIdeal.τ).loc Cert.FfnLastIdeal.main_arg1)
          ∧ r.2.mem ((c.tc : Thread Cert.FfnLastIdeal.nD Cert.FfnLastIdeal.τ).loc Cert.FfnLastIdeal.main_arg2) = m ((c.tc : Thread Cert.FfnLastIdeal.nD Cert.FfnLastIdeal.τ).loc Cert.FfnLastIdeal.main_arg2)
          ∧ r.2.mem ((c.tc : Thread Cert.FfnLastIdeal.nD Cert.FfnLastIdeal.τ).loc Cert.FfnLastIdeal.main_arg3) = m ((c.tc : Thread Cert.FfnLastIdeal.nD Cert.FfnLastIdeal.τ).loc Cert.FfnLastIdeal.main_arg3)
          ∧ r.2.mem ((c.tc : Thread Cert.FfnLastIdeal.nD Cert.FfnLastIdeal.τ).loc Cert.FfnLastIdeal.main_arg4) = m ((c.tc : Thread Cert.FfnLastIdeal.nD Cert.FfnLastIdeal.τ).loc Cert.FfnLastIdeal.main_arg4)
          ∧ r.2.mem ((c.tc : Thread Cert.FfnLastIdeal.nD Cert.FfnLastIdeal.τ).loc Cert.FfnLastIdeal.main_arg5) = m ((c.tc : Thread Cert.FfnLastIdeal.nD Cert.FfnLastIdeal.τ).loc Cert.FfnLastIdeal.main_arg5)
          ∧ r.2.mem ((c.tc : Thread Cert.FfnLastIdeal.nD Cert.FfnLastIdeal.τ).loc Cert.FfnLastIdeal.main_arg6) = m ((c.tc : Thread Cert.FfnLastIdeal.nD Cert.FfnLastIdeal.τ).loc Cert.FfnLastIdeal.main_arg6))
      ∧ θ_run (Cert.FfnLastRefIdeal.defs (F := Ideal)) (onTc (τ := Cert.FfnLastRefIdeal.τ) (Cert.FfnLastRefIdeal.main (F := Ideal))) ⟨m', fun _ => 0, g'⟩ (fun r => ∀ c : Dev Cert.FfnLastRefIdeal.nD,
          r.2.mem ((c.tc : Thread Cert.FfnLastRefIdeal.nD Cert.FfnLastRefIdeal.τ).loc Cert.FfnLastRefIdeal.main_v39) = v0 c
          ∧ r.2.mem ((c.tc : Thread Cert.FfnLastRefIdeal.nD Cert.FfnLastRefIdeal.τ).loc Cert.FfnLastRefIdeal.main_arg0) = m' ((c.tc : Thread Cert.FfnLastRefIdeal.nD Cert.FfnLastRefIdeal.τ).loc Cert.FfnLastRefIdeal.main_arg0)
          ∧ r.2.mem ((c.tc : Thread Cert.FfnLastRefIdeal.nD Cert.FfnLastRefIdeal.τ).loc Cert.FfnLastRefIdeal.main_arg1) = m' ((c.tc : Thread Cert.FfnLastRefIdeal.nD Cert.FfnLastRefIdeal.τ).loc Cert.FfnLastRefIdeal.main_arg1)
          ∧ r.2.mem ((c.tc : Thread Cert.FfnLastRefIdeal.nD Cert.FfnLastRefIdeal.τ).loc Cert.FfnLastRefIdeal.main_arg2) = m' ((c.tc : Thread Cert.FfnLastRefIdeal.nD Cert.FfnLastRefIdeal.τ).loc Cert.FfnLastRefIdeal.main_arg2)
          ∧ r.2.mem ((c.tc : Thread Cert.FfnLastRefIdeal.nD Cert.FfnLastRefIdeal.τ).loc Cert.FfnLastRefIdeal.main_arg3) = m' ((c.tc : Thread Cert.FfnLastRefIdeal.nD Cert.FfnLastRefIdeal.τ).loc Cert.FfnLastRefIdeal.main_arg3)
          ∧ r.2.mem ((c.tc : Thread Cert.FfnLastRefIdeal.nD Cert.FfnLastRefIdeal.τ).loc Cert.FfnLastRefIdeal.main_arg4) = m' ((c.tc : Thread Cert.FfnLastRefIdeal.nD Cert.FfnLastRefIdeal.τ).loc Cert.FfnLastRefIdeal.main_arg4)
          ∧ r.2.mem ((c.tc : Thread Cert.FfnLastRefIdeal.nD Cert.FfnLastRefIdeal.τ).loc Cert.FfnLastRefIdeal.main_arg5) = m' ((c.tc : Thread Cert.FfnLastRefIdeal.nD Cert.FfnLastRefIdeal.τ).loc Cert.FfnLastRefIdeal.main_arg5)
          ∧ r.2.mem ((c.tc : Thread Cert.FfnLastRefIdeal.nD Cert.FfnLastRefIdeal.τ).loc Cert.FfnLastRefIdeal.main_arg6) = m' ((c.tc : Thread Cert.FfnLastRefIdeal.nD Cert.FfnLastRefIdeal.τ).loc Cert.FfnLastRefIdeal.main_arg6))

def preserves_HeadMid_HeadMidIdeal : Prop :=
  True

def algebraic_HeadMidIdeal_HeadMidRefIdeal_on_head_mid_rows [hHeadMidIdeal : Cert.HeadMidIdeal.Facts] [hHeadMidRefIdeal : Cert.HeadMidRefIdeal.Facts] [hOn_head_mid_rows : Cert.On_head_mid_rows.Facts] : Prop :=
  ∀ (m : (ℓ : Loc Cert.HeadMidIdeal.nD Cert.HeadMidIdeal.τ Cert.HeadMidIdeal.sig) → Buf (Elt Ideal) ℓ) (g : Dev Cert.HeadMidIdeal.nD → PrngReg)
    (m' : (ℓ : Loc Cert.HeadMidRefIdeal.nD Cert.HeadMidRefIdeal.τ Cert.HeadMidRefIdeal.sig) → Buf (Elt Ideal) ℓ) (g' : Dev Cert.HeadMidRefIdeal.nD → PrngReg), Pre_HeadMidIdeal m →
    (∀ c : Dev Cert.HeadMidIdeal.nD,
      m' ((c.tc : Thread Cert.HeadMidRefIdeal.nD Cert.HeadMidRefIdeal.τ).loc Cert.HeadMidRefIdeal.main_arg0) = m ((c.tc : Thread Cert.HeadMidIdeal.nD Cert.HeadMidIdeal.τ).loc Cert.HeadMidIdeal.main_arg0)
      ∧ m' ((c.tc : Thread Cert.HeadMidRefIdeal.nD Cert.HeadMidRefIdeal.τ).loc Cert.HeadMidRefIdeal.main_arg1) = m ((c.tc : Thread Cert.HeadMidIdeal.nD Cert.HeadMidIdeal.τ).loc Cert.HeadMidIdeal.main_arg1)
      ∧ m' ((c.tc : Thread Cert.HeadMidRefIdeal.nD Cert.HeadMidRefIdeal.τ).loc Cert.HeadMidRefIdeal.main_arg2) = m ((c.tc : Thread Cert.HeadMidIdeal.nD Cert.HeadMidIdeal.τ).loc Cert.HeadMidIdeal.main_arg2)
      ∧ m' ((c.tc : Thread Cert.HeadMidRefIdeal.nD Cert.HeadMidRefIdeal.τ).loc Cert.HeadMidRefIdeal.main_arg3) = m ((c.tc : Thread Cert.HeadMidIdeal.nD Cert.HeadMidIdeal.τ).loc Cert.HeadMidIdeal.main_arg3)
      ∧ m' ((c.tc : Thread Cert.HeadMidRefIdeal.nD Cert.HeadMidRefIdeal.τ).loc Cert.HeadMidRefIdeal.main_arg4) = m ((c.tc : Thread Cert.HeadMidIdeal.nD Cert.HeadMidIdeal.τ).loc Cert.HeadMidIdeal.main_arg4)
      ∧ m' ((c.tc : Thread Cert.HeadMidRefIdeal.nD Cert.HeadMidRefIdeal.τ).loc Cert.HeadMidRefIdeal.main_arg5) = m ((c.tc : Thread Cert.HeadMidIdeal.nD Cert.HeadMidIdeal.τ).loc Cert.HeadMidIdeal.main_arg5)) →
    ∃ (v0 : (c : Dev Cert.HeadMidIdeal.nD) → Buf (Elt Ideal) ((c.tc : Thread Cert.HeadMidIdeal.nD Cert.HeadMidIdeal.τ).loc Cert.HeadMidIdeal.main_v1_0)) (v1 : (c : Dev Cert.HeadMidIdeal.nD) → Buf (Elt Ideal) ((c.tc : Thread Cert.HeadMidIdeal.nD Cert.HeadMidIdeal.τ).loc Cert.HeadMidIdeal.main_v1_1)) (v2 : (c : Dev Cert.HeadMidIdeal.nD) → Buf (Elt Ideal) ((c.tc : Thread Cert.HeadMidIdeal.nD Cert.HeadMidIdeal.τ).loc Cert.HeadMidIdeal.main_v1_2)) (v3 : (c : Dev Cert.HeadMidIdeal.nD) → Buf (Elt Ideal) ((c.tc : Thread Cert.HeadMidIdeal.nD Cert.HeadMidIdeal.τ).loc Cert.HeadMidIdeal.main_v1_3)) (v4 : (c : Dev Cert.HeadMidIdeal.nD) → Buf (Elt Ideal) ((c.tc : Thread Cert.HeadMidIdeal.nD Cert.HeadMidIdeal.τ).loc Cert.HeadMidIdeal.main_v1_4)),
      θ_run (Cert.HeadMidIdeal.defs (F := Ideal)) (onTc (τ := Cert.HeadMidIdeal.τ) (Cert.HeadMidIdeal.main (F := Ideal))) ⟨m, fun _ => 0, g⟩ (fun r => ∀ c : Dev Cert.HeadMidIdeal.nD,
          (∀ i : (⟨2, ![8192, 2048]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).1 i = 1#1 → r.2.mem ((c.tc : Thread Cert.HeadMidIdeal.nD Cert.HeadMidIdeal.τ).loc Cert.HeadMidIdeal.main_v1_0) i = v0 c i)
          ∧ (∀ i : (⟨2, ![512, 2048]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.1 i = 1#1 → r.2.mem ((c.tc : Thread Cert.HeadMidIdeal.nD Cert.HeadMidIdeal.τ).loc Cert.HeadMidIdeal.main_v1_1) i = v1 c i)
          ∧ (∀ i : (⟨2, ![2048, 5632]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.2.1 i = 1#1 → r.2.mem ((c.tc : Thread Cert.HeadMidIdeal.nD Cert.HeadMidIdeal.τ).loc Cert.HeadMidIdeal.main_v1_2) i = v2 c i)
          ∧ (∀ i : (⟨2, ![2048, 5632]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.2.2.1 i = 1#1 → r.2.mem ((c.tc : Thread Cert.HeadMidIdeal.nD Cert.HeadMidIdeal.τ).loc Cert.HeadMidIdeal.main_v1_3) i = v3 c i)
          ∧ (∀ i : (⟨2, ![5632, 2048]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.2.2.2 i = 1#1 → r.2.mem ((c.tc : Thread Cert.HeadMidIdeal.nD Cert.HeadMidIdeal.τ).loc Cert.HeadMidIdeal.main_v1_4) i = v4 c i)
          ∧ r.2.mem ((c.tc : Thread Cert.HeadMidIdeal.nD Cert.HeadMidIdeal.τ).loc Cert.HeadMidIdeal.main_arg0) = m ((c.tc : Thread Cert.HeadMidIdeal.nD Cert.HeadMidIdeal.τ).loc Cert.HeadMidIdeal.main_arg0)
          ∧ r.2.mem ((c.tc : Thread Cert.HeadMidIdeal.nD Cert.HeadMidIdeal.τ).loc Cert.HeadMidIdeal.main_arg1) = m ((c.tc : Thread Cert.HeadMidIdeal.nD Cert.HeadMidIdeal.τ).loc Cert.HeadMidIdeal.main_arg1)
          ∧ r.2.mem ((c.tc : Thread Cert.HeadMidIdeal.nD Cert.HeadMidIdeal.τ).loc Cert.HeadMidIdeal.main_arg2) = m ((c.tc : Thread Cert.HeadMidIdeal.nD Cert.HeadMidIdeal.τ).loc Cert.HeadMidIdeal.main_arg2)
          ∧ r.2.mem ((c.tc : Thread Cert.HeadMidIdeal.nD Cert.HeadMidIdeal.τ).loc Cert.HeadMidIdeal.main_arg3) = m ((c.tc : Thread Cert.HeadMidIdeal.nD Cert.HeadMidIdeal.τ).loc Cert.HeadMidIdeal.main_arg3)
          ∧ r.2.mem ((c.tc : Thread Cert.HeadMidIdeal.nD Cert.HeadMidIdeal.τ).loc Cert.HeadMidIdeal.main_arg4) = m ((c.tc : Thread Cert.HeadMidIdeal.nD Cert.HeadMidIdeal.τ).loc Cert.HeadMidIdeal.main_arg4)
          ∧ r.2.mem ((c.tc : Thread Cert.HeadMidIdeal.nD Cert.HeadMidIdeal.τ).loc Cert.HeadMidIdeal.main_arg5) = m ((c.tc : Thread Cert.HeadMidIdeal.nD Cert.HeadMidIdeal.τ).loc Cert.HeadMidIdeal.main_arg5))
      ∧ θ_run (Cert.HeadMidRefIdeal.defs (F := Ideal)) (onTc (τ := Cert.HeadMidRefIdeal.τ) (Cert.HeadMidRefIdeal.main (F := Ideal))) ⟨m', fun _ => 0, g'⟩ (fun r => ∀ c : Dev Cert.HeadMidRefIdeal.nD,
          (∀ i : (⟨2, ![8192, 2048]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).1 i = 1#1 → r.2.mem ((c.tc : Thread Cert.HeadMidRefIdeal.nD Cert.HeadMidRefIdeal.τ).loc Cert.HeadMidRefIdeal.main_v26) i = v0 c i)
          ∧ (∀ i : (⟨2, ![512, 2048]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.1 i = 1#1 → r.2.mem ((c.tc : Thread Cert.HeadMidRefIdeal.nD Cert.HeadMidRefIdeal.τ).loc Cert.HeadMidRefIdeal.main_v47) i = v1 c i)
          ∧ (∀ i : (⟨2, ![2048, 5632]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.2.1 i = 1#1 → r.2.mem ((c.tc : Thread Cert.HeadMidRefIdeal.nD Cert.HeadMidRefIdeal.τ).loc Cert.HeadMidRefIdeal.main_v48) i = v2 c i)
          ∧ (∀ i : (⟨2, ![2048, 5632]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.2.2.1 i = 1#1 → r.2.mem ((c.tc : Thread Cert.HeadMidRefIdeal.nD Cert.HeadMidRefIdeal.τ).loc Cert.HeadMidRefIdeal.main_v49) i = v3 c i)
          ∧ (∀ i : (⟨2, ![5632, 2048]⟩ : Shape).Idx, (Cert.On_head_mid_rows.fn (F := Ideal) (m ((c.tc : Thread Cert.HeadMidIdeal.nD Cert.HeadMidIdeal.τ).loc Cert.HeadMidIdeal.main_arg0)) (m ((c.tc : Thread Cert.HeadMidIdeal.nD Cert.HeadMidIdeal.τ).loc Cert.HeadMidIdeal.main_arg1)) (m ((c.tc : Thread Cert.HeadMidIdeal.nD Cert.HeadMidIdeal.τ).loc Cert.HeadMidIdeal.main_arg2)) (m ((c.tc : Thread Cert.HeadMidIdeal.nD Cert.HeadMidIdeal.τ).loc Cert.HeadMidIdeal.main_arg3)) (m ((c.tc : Thread Cert.HeadMidIdeal.nD Cert.HeadMidIdeal.τ).loc Cert.HeadMidIdeal.main_arg4)) (m ((c.tc : Thread Cert.HeadMidIdeal.nD Cert.HeadMidIdeal.τ).loc Cert.HeadMidIdeal.main_arg5))).2.2.2.2 i = 1#1 → r.2.mem ((c.tc : Thread Cert.HeadMidRefIdeal.nD Cert.HeadMidRefIdeal.τ).loc Cert.HeadMidRefIdeal.main_v50) i = v4 c i)
          ∧ r.2.mem ((c.tc : Thread Cert.HeadMidRefIdeal.nD Cert.HeadMidRefIdeal.τ).loc Cert.HeadMidRefIdeal.main_arg0) = m' ((c.tc : Thread Cert.HeadMidRefIdeal.nD Cert.HeadMidRefIdeal.τ).loc Cert.HeadMidRefIdeal.main_arg0)
          ∧ r.2.mem ((c.tc : Thread Cert.HeadMidRefIdeal.nD Cert.HeadMidRefIdeal.τ).loc Cert.HeadMidRefIdeal.main_arg1) = m' ((c.tc : Thread Cert.HeadMidRefIdeal.nD Cert.HeadMidRefIdeal.τ).loc Cert.HeadMidRefIdeal.main_arg1)
          ∧ r.2.mem ((c.tc : Thread Cert.HeadMidRefIdeal.nD Cert.HeadMidRefIdeal.τ).loc Cert.HeadMidRefIdeal.main_arg2) = m' ((c.tc : Thread Cert.HeadMidRefIdeal.nD Cert.HeadMidRefIdeal.τ).loc Cert.HeadMidRefIdeal.main_arg2)
          ∧ r.2.mem ((c.tc : Thread Cert.HeadMidRefIdeal.nD Cert.HeadMidRefIdeal.τ).loc Cert.HeadMidRefIdeal.main_arg3) = m' ((c.tc : Thread Cert.HeadMidRefIdeal.nD Cert.HeadMidRefIdeal.τ).loc Cert.HeadMidRefIdeal.main_arg3)
          ∧ r.2.mem ((c.tc : Thread Cert.HeadMidRefIdeal.nD Cert.HeadMidRefIdeal.τ).loc Cert.HeadMidRefIdeal.main_arg4) = m' ((c.tc : Thread Cert.HeadMidRefIdeal.nD Cert.HeadMidRefIdeal.τ).loc Cert.HeadMidRefIdeal.main_arg4)
          ∧ r.2.mem ((c.tc : Thread Cert.HeadMidRefIdeal.nD Cert.HeadMidRefIdeal.τ).loc Cert.HeadMidRefIdeal.main_arg5) = m' ((c.tc : Thread Cert.HeadMidRefIdeal.nD Cert.HeadMidRefIdeal.τ).loc Cert.HeadMidRefIdeal.main_arg5))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)
      ∧ m' ((c.tc : Thread Cert.FfnMidRefIdeal.nD Cert.FfnMidRefIdeal.τ).loc Cert.FfnMidRefIdeal.main_arg5) = m ((c.tc : Thread Cert.FfnMidIdeal.nD Cert.FfnMidIdeal.τ).loc Cert.FfnMidIdeal.main_arg5)) →
    ∃ (v0 : (c : Dev Cert.FfnMidIdeal.nD) → Buf (Elt Ideal) ((c.tc : Thread Cert.FfnMidIdeal.nD Cert.FfnMidIdeal.τ).loc Cert.FfnMidIdeal.main_v1)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v1) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4)
          ∧ r.2.mem ((c.tc : Thread Cert.FfnMidIdeal.nD Cert.FfnMidIdeal.τ).loc Cert.FfnMidIdeal.main_arg5) = m ((c.tc : Thread Cert.FfnMidIdeal.nD Cert.FfnMidIdeal.τ).loc Cert.FfnMidIdeal.main_arg5))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v26) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4)
          ∧ r.2.mem ((c.tc : Thread Cert.FfnMidRefIdeal.nD Cert.FfnMidRefIdeal.τ).loc Cert.FfnMidRefIdeal.main_arg5) = m' ((c.tc : Thread Cert.FfnMidRefIdeal.nD Cert.FfnMidRefIdeal.τ).loc Cert.FfnMidRefIdeal.main_arg5))

def preserves_SwaQkv_SwaQkvIdeal : Prop :=
  True

def algebraic_SwaQkvIdeal_SwaQkvRefIdeal [hSwaQkvIdeal : Cert.SwaQkvIdeal.Facts] [hSwaQkvRefIdeal : Cert.SwaQkvRefIdeal.Facts] : Prop :=
  ∀ (m : (ℓ : Loc Cert.SwaQkvIdeal.nD Cert.SwaQkvIdeal.τ Cert.SwaQkvIdeal.sig) → Buf (Elt Ideal) ℓ) (g : Dev Cert.SwaQkvIdeal.nD → PrngReg)
    (m' : (ℓ : Loc Cert.SwaQkvRefIdeal.nD Cert.SwaQkvRefIdeal.τ Cert.SwaQkvRefIdeal.sig) → Buf (Elt Ideal) ℓ) (g' : Dev Cert.SwaQkvRefIdeal.nD → PrngReg), Pre_SwaQkvIdeal m →
    (∀ c : Dev Cert.SwaQkvIdeal.nD,
      m' ((c.tc : Thread Cert.SwaQkvRefIdeal.nD Cert.SwaQkvRefIdeal.τ).loc Cert.SwaQkvRefIdeal.main_arg0) = m ((c.tc : Thread Cert.SwaQkvIdeal.nD Cert.SwaQkvIdeal.τ).loc Cert.SwaQkvIdeal.main_arg0)
      ∧ m' ((c.tc : Thread Cert.SwaQkvRefIdeal.nD Cert.SwaQkvRefIdeal.τ).loc Cert.SwaQkvRefIdeal.main_arg1) = m ((c.tc : Thread Cert.SwaQkvIdeal.nD Cert.SwaQkvIdeal.τ).loc Cert.SwaQkvIdeal.main_arg1)
      ∧ m' ((c.tc : Thread Cert.SwaQkvRefIdeal.nD Cert.SwaQkvRefIdeal.τ).loc Cert.SwaQkvRefIdeal.main_arg2) = m ((c.tc : Thread Cert.SwaQkvIdeal.nD Cert.SwaQkvIdeal.τ).loc Cert.SwaQkvIdeal.main_arg2)
      ∧ m' ((c.tc : Thread Cert.SwaQkvRefIdeal.nD Cert.SwaQkvRefIdeal.τ).loc Cert.SwaQkvRefIdeal.main_arg3) = m ((c.tc : Thread Cert.SwaQkvIdeal.nD Cert.SwaQkvIdeal.τ).loc Cert.SwaQkvIdeal.main_arg3)
      ∧ m' ((c.tc : Thread Cert.SwaQkvRefIdeal.nD Cert.SwaQkvRefIdeal.τ).loc Cert.SwaQkvRefIdeal.main_arg4) = m ((c.tc : Thread Cert.SwaQkvIdeal.nD Cert.SwaQkvIdeal.τ).loc Cert.SwaQkvIdeal.main_arg4)) →
    ∃ (v0 : (c : Dev Cert.SwaQkvIdeal.nD) → Buf (Elt Ideal) ((c.tc : Thread Cert.SwaQkvIdeal.nD Cert.SwaQkvIdeal.τ).loc Cert.SwaQkvIdeal.main_v2_0)) (v1 : (c : Dev Cert.SwaQkvIdeal.nD) → Buf (Elt Ideal) ((c.tc : Thread Cert.SwaQkvIdeal.nD Cert.SwaQkvIdeal.τ).loc Cert.SwaQkvIdeal.main_v2_1)) (v2 : (c : Dev Cert.SwaQkvIdeal.nD) → Buf (Elt Ideal) ((c.tc : Thread Cert.SwaQkvIdeal.nD Cert.SwaQkvIdeal.τ).loc Cert.SwaQkvIdeal.main_v9)) (v3 : (c : Dev Cert.SwaQkvIdeal.nD) → Buf (Elt Ideal) ((c.tc : Thread Cert.SwaQkvIdeal.nD Cert.SwaQkvIdeal.τ).loc Cert.SwaQkvIdeal.main_v11)),
      θ_run (Cert.SwaQkvIdeal.defs (F := Ideal)) (onTc (τ := Cert.SwaQkvIdeal.τ) (Cert.SwaQkvIdeal.main (F := Ideal))) ⟨m, fun _ => 0, g⟩ (fun r => ∀ c : Dev Cert.SwaQkvIdeal.nD,
          r.2.mem ((c.tc : Thread Cert.SwaQkvIdeal.nD Cert.SwaQkvIdeal.τ).loc Cert.SwaQkvIdeal.main_v2_0) = v0 c
          ∧ r.2.mem ((c.tc : Thread Cert.SwaQkvIdeal.nD Cert.SwaQkvIdeal.τ).loc Cert.SwaQkvIdeal.main_v2_1) = v1 c
          ∧ r.2.mem ((c.tc : Thread Cert.SwaQkvIdeal.nD Cert.SwaQkvIdeal.τ).loc Cert.SwaQkvIdeal.main_v9) = v2 c
          ∧ r.2.mem ((c.tc : Thread Cert.SwaQkvIdeal.nD Cert.SwaQkvIdeal.τ).loc Cert.SwaQkvIdeal.main_v11) = v3 c
          ∧ r.2.mem ((c.tc : Thread Cert.SwaQkvIdeal.nD Cert.SwaQkvIdeal.τ).loc Cert.SwaQkvIdeal.main_arg0) = m ((c.tc : Thread Cert.SwaQkvIdeal.nD Cert.SwaQkvIdeal.τ).loc Cert.SwaQkvIdeal.main_arg0)
          ∧ r.2.mem ((c.tc : Thread Cert.SwaQkvIdeal.nD Cert.SwaQkvIdeal.τ).loc Cert.SwaQkvIdeal.main_arg1) = m ((c.tc : Thread Cert.SwaQkvIdeal.nD Cert.SwaQkvIdeal.τ).loc Cert.SwaQkvIdeal.main_arg1)
          ∧ r.2.mem ((c.tc : Thread Cert.SwaQkvIdeal.nD Cert.SwaQkvIdeal.τ).loc Cert.SwaQkvIdeal.main_arg2) = m ((c.tc : Thread Cert.SwaQkvIdeal.nD Cert.SwaQkvIdeal.τ).loc Cert.SwaQkvIdeal.main_arg2)
          ∧ r.2.mem ((c.tc : Thread Cert.SwaQkvIdeal.nD Cert.SwaQkvIdeal.τ).loc Cert.SwaQkvIdeal.main_arg3) = m ((c.tc : Thread Cert.SwaQkvIdeal.nD Cert.SwaQkvIdeal.τ).loc Cert.SwaQkvIdeal.main_arg3)
          ∧ r.2.mem ((c.tc : Thread Cert.SwaQkvIdeal.nD Cert.SwaQkvIdeal.τ).loc Cert.SwaQkvIdeal.main_arg4) = m ((c.tc : Thread Cert.SwaQkvIdeal.nD Cert.SwaQkvIdeal.τ).loc Cert.SwaQkvIdeal.main_arg4))
      ∧ θ_run (Cert.SwaQkvRefIdeal.defs (F := Ideal)) (onTc (τ := Cert.SwaQkvRefIdeal.τ) (Cert.SwaQkvRefIdeal.main (F := Ideal))) ⟨m', fun _ => 0, g'⟩ (fun r => ∀ c : Dev Cert.SwaQkvRefIdeal.nD,
          r.2.mem ((c.tc : Thread Cert.SwaQkvRefIdeal.nD Cert.SwaQkvRefIdeal.τ).loc Cert.SwaQkvRefIdeal.main_v25) = v0 c
          ∧ r.2.mem ((c.tc : Thread Cert.SwaQkvRefIdeal.nD Cert.SwaQkvRefIdeal.τ).loc Cert.SwaQkvRefIdeal.main_v20) = v1 c
          ∧ r.2.mem ((c.tc : Thread Cert.SwaQkvRefIdeal.nD Cert.SwaQkvRefIdeal.τ).loc Cert.SwaQkvRefIdeal.main_v26) = v2 c
          ∧ r.2.mem ((c.tc : Thread Cert.SwaQkvRefIdeal.nD Cert.SwaQkvRefIdeal.τ).loc Cert.SwaQkvRefIdeal.main_v27) = v3 c
          ∧ r.2.mem ((c.tc : Thread Cert.SwaQkvRefIdeal.nD Cert.SwaQkvRefIdeal.τ).loc Cert.SwaQkvRefIdeal.main_arg0) = m' ((c.tc : Thread Cert.SwaQkvRefIdeal.nD Cert.SwaQkvRefIdeal.τ).loc Cert.SwaQkvRefIdeal.main_arg0)
          ∧ r.2.mem ((c.tc : Thread Cert.SwaQkvRefIdeal.nD Cert.SwaQkvRefIdeal.τ).loc Cert.SwaQkvRefIdeal.main_arg1) = m' ((c.tc : Thread Cert.SwaQkvRefIdeal.nD Cert.SwaQkvRefIdeal.τ).loc Cert.SwaQkvRefIdeal.main_arg1)
          ∧ r.2.mem ((c.tc : Thread Cert.SwaQkvRefIdeal.nD Cert.SwaQkvRefIdeal.τ).loc Cert.SwaQkvRefIdeal.main_arg2) = m' ((c.tc : Thread Cert.SwaQkvRefIdeal.nD Cert.SwaQkvRefIdeal.τ).loc Cert.SwaQkvRefIdeal.main_arg2)
          ∧ r.2.mem ((c.tc : Thread Cert.SwaQkvRefIdeal.nD Cert.SwaQkvRefIdeal.τ).loc Cert.SwaQkvRefIdeal.main_arg3) = m' ((c.tc : Thread Cert.SwaQkvRefIdeal.nD Cert.SwaQkvRefIdeal.τ).loc Cert.SwaQkvRefIdeal.main_arg3)
          ∧ r.2.mem ((c.tc : Thread Cert.SwaQkvRefIdeal.nD Cert.SwaQkvRefIdeal.τ).loc Cert.SwaQkvRefIdeal.main_arg4) = m' ((c.tc : Thread Cert.SwaQkvRefIdeal.nD Cert.SwaQkvRefIdeal.τ).loc Cert.SwaQkvRefIdeal.main_arg4))

def preserves_GlaIn_GlaInIdeal : Prop :=
  True

def algebraic_GlaInIdeal_GlaInRefIdeal [hGlaInIdeal : Cert.GlaInIdeal.Facts] [hGlaInRefIdeal : Cert.GlaInRefIdeal.Facts] : Prop :=
  ∀ (m : (ℓ : Loc Cert.GlaInIdeal.nD Cert.GlaInIdeal.τ Cert.GlaInIdeal.sig) → Buf (Elt Ideal) ℓ) (g : Dev Cert.GlaInIdeal.nD → PrngReg)
    (m' : (ℓ : Loc Cert.GlaInRefIdeal.nD Cert.GlaInRefIdeal.τ Cert.GlaInRefIdeal.sig) → Buf (Elt Ideal) ℓ) (g' : Dev Cert.GlaInRefIdeal.nD → PrngReg), Pre_GlaInIdeal m →
    (∀ c : Dev Cert.GlaInIdeal.nD,
      m' ((c.tc : Thread Cert.GlaInRefIdeal.nD Cert.GlaInRefIdeal.τ).loc Cert.GlaInRefIdeal.main_arg0) = m ((c.tc : Thread Cert.GlaInIdeal.nD Cert.GlaInIdeal.τ).loc Cert.GlaInIdeal.main_arg0)
      ∧ m' ((c.tc : Thread Cert.GlaInRefIdeal.nD Cert.GlaInRefIdeal.τ).loc Cert.GlaInRefIdeal.main_arg1) = m ((c.tc : Thread Cert.GlaInIdeal.nD Cert.GlaInIdeal.τ).loc Cert.GlaInIdeal.main_arg1)
      ∧ m' ((c.tc : Thread Cert.GlaInRefIdeal.nD Cert.GlaInRefIdeal.τ).loc Cert.GlaInRefIdeal.main_arg2) = m ((c.tc : Thread Cert.GlaInIdeal.nD Cert.GlaInIdeal.τ).loc Cert.GlaInIdeal.main_arg2)
      ∧ m' ((c.tc : Thread Cert.GlaInRefIdeal.nD Cert.GlaInRefIdeal.τ).loc Cert.GlaInRefIdeal.main_arg3) = m ((c.tc : Thread Cert.GlaInIdeal.nD Cert.GlaInIdeal.τ).loc Cert.GlaInIdeal.main_arg3)
      ∧ m' ((c.tc : Thread Cert.GlaInRefIdeal.nD Cert.GlaInRefIdeal.τ).loc Cert.GlaInRefIdeal.main_arg4) = m ((c.tc : Thread Cert.GlaInIdeal.nD Cert.GlaInIdeal.τ).loc Cert.GlaInIdeal.main_arg4)
      ∧ m' ((c.tc : Thread Cert.GlaInRefIdeal.nD Cert.GlaInRefIdeal.τ).loc Cert.GlaInRefIdeal.main_arg5) = m ((c.tc : Thread Cert.GlaInIdeal.nD Cert.GlaInIdeal.τ).loc Cert.GlaInIdeal.main_arg5)) →
    ∃ (v0 : (c : Dev Cert.GlaInIdeal.nD) → Buf (Elt Ideal) ((c.tc : Thread Cert.GlaInIdeal.nD Cert.GlaInIdeal.τ).loc Cert.GlaInIdeal.main_v6_0)) (v1 : (c : Dev Cert.GlaInIdeal.nD) → Buf (Elt Ideal) ((c.tc : Thread Cert.GlaInIdeal.nD Cert.GlaInIdeal.τ).loc Cert.GlaInIdeal.main_v6_1)),
      θ_run (Cert.GlaInIdeal.defs (F := Ideal)) (onTc (τ := Cert.GlaInIdeal.τ) (Cert.GlaInIdeal.main (F := Ideal))) ⟨m, fun _ => 0, g⟩ (fun r => ∀ c : Dev Cert.GlaInIdeal.nD,
          r.2.mem ((c.tc : Thread Cert.GlaInIdeal.nD Cert.GlaInIdeal.τ).loc Cert.GlaInIdeal.main_v6_0) = v0 c
          ∧ r.2.mem ((c.tc : Thread Cert.GlaInIdeal.nD Cert.GlaInIdeal.τ).loc Cert.GlaInIdeal.main_v6_1) = v1 c
          ∧ r.2.mem ((c.tc : Thread Cert.GlaInIdeal.nD Cert.GlaInIdeal.τ).loc Cert.GlaInIdeal.main_arg0) = m ((c.tc : Thread Cert.GlaInIdeal.nD Cert.GlaInIdeal.τ).loc Cert.GlaInIdeal.main_arg0)
          ∧ r.2.mem ((c.tc : Thread Cert.GlaInIdeal.nD Cert.GlaInIdeal.τ).loc Cert.GlaInIdeal.main_arg1) = m ((c.tc : Thread Cert.GlaInIdeal.nD Cert.GlaInIdeal.τ).loc Cert.GlaInIdeal.main_arg1)
          ∧ r.2.mem ((c.tc : Thread Cert.GlaInIdeal.nD Cert.GlaInIdeal.τ).loc Cert.GlaInIdeal.main_arg2) = m ((c.tc : Thread Cert.GlaInIdeal.nD Cert.GlaInIdeal.τ).loc Cert.GlaInIdeal.main_arg2)
          ∧ r.2.mem ((c.tc : Thread Cert.GlaInIdeal.nD Cert.GlaInIdeal.τ).loc Cert.GlaInIdeal.main_arg3) = m ((c.tc : Thread Cert.GlaInIdeal.nD Cert.GlaInIdeal.τ).loc Cert.GlaInIdeal.main_arg3)
          ∧ r.2.mem ((c.tc : Thread Cert.GlaInIdeal.nD Cert.GlaInIdeal.τ).loc Cert.GlaInIdeal.main_arg4) = m ((c.tc : Thread Cert.GlaInIdeal.nD Cert.GlaInIdeal.τ).loc Cert.GlaInIdeal.main_arg4)
          ∧ r.2.mem ((c.tc : Thread Cert.GlaInIdeal.nD Cert.GlaInIdeal.τ).loc Cert.GlaInIdeal.main_arg5) = m ((c.tc : Thread Cert.GlaInIdeal.nD Cert.GlaInIdeal.τ).loc Cert.GlaInIdeal.main_arg5))
      ∧ θ_run (Cert.GlaInRefIdeal.defs (F := Ideal)) (onTc (τ := Cert.GlaInRefIdeal.τ) (Cert.GlaInRefIdeal.main (F := Ideal))) ⟨m', fun _ => 0, g'⟩ (fun r => ∀ c : Dev Cert.GlaInRefIdeal.nD,
          r.2.mem ((c.tc : Thread Cert.GlaInRefIdeal.nD Cert.GlaInRefIdeal.τ).loc Cert.GlaInRefIdeal.main_v24) = v0 c
          ∧ r.2.mem ((c.tc : Thread Cert.GlaInRefIdeal.nD Cert.GlaInRefIdeal.τ).loc Cert.GlaInRefIdeal.main_v22) = v1 c
          ∧ r.2.mem ((c.tc : Thread Cert.GlaInRefIdeal.nD Cert.GlaInRefIdeal.τ).loc Cert.GlaInRefIdeal.main_arg0) = m' ((c.tc : Thread Cert.GlaInRefIdeal.nD Cert.GlaInRefIdeal.τ).loc Cert.GlaInRefIdeal.main_arg0)
          ∧ r.2.mem ((c.tc : Thread Cert.GlaInRefIdeal.nD Cert.GlaInRefIdeal.τ).loc Cert.GlaInRefIdeal.main_arg1) = m' ((c.tc : Thread Cert.GlaInRefIdeal.nD Cert.GlaInRefIdeal.τ).loc Cert.GlaInRefIdeal.main_arg1)
          ∧ r.2.mem ((c.tc : Thread Cert.GlaInRefIdeal.nD Cert.GlaInRefIdeal.τ).loc Cert.GlaInRefIdeal.main_arg2) = m' ((c.tc : Thread Cert.GlaInRefIdeal.nD Cert.GlaInRefIdeal.τ).loc Cert.GlaInRefIdeal.main_arg2)
          ∧ r.2.mem ((c.tc : Thread Cert.GlaInRefIdeal.nD Cert.GlaInRefIdeal.τ).loc Cert.GlaInRefIdeal.main_arg3) = m' ((c.tc : Thread Cert.GlaInRefIdeal.nD Cert.GlaInRefIdeal.τ).loc Cert.GlaInRefIdeal.main_arg3)
          ∧ r.2.mem ((c.tc : Thread Cert.GlaInRefIdeal.nD Cert.GlaInRefIdeal.τ).loc Cert.GlaInRefIdeal.main_arg4) = m' ((c.tc : Thread Cert.GlaInRefIdeal.nD Cert.GlaInRefIdeal.τ).loc Cert.GlaInRefIdeal.main_arg4)
          ∧ r.2.mem ((c.tc : Thread Cert.GlaInRefIdeal.nD Cert.GlaInRefIdeal.τ).loc Cert.GlaInRefIdeal.main_arg5) = m' ((c.tc : Thread Cert.GlaInRefIdeal.nD Cert.GlaInRefIdeal.τ).loc Cert.GlaInRefIdeal.main_arg5))

def preserves_SwaCache_SwaCacheIdeal : Prop :=
  True

def algebraic_SwaCacheIdeal_SwaCacheRefIdeal [hSwaCacheIdeal : Cert.SwaCacheIdeal.Facts] [hSwaCacheRefIdeal : Cert.SwaCacheRefIdeal.Facts] : Prop :=
  ∀ (m : (ℓ : Loc Cert.SwaCacheIdeal.nD Cert.SwaCacheIdeal.τ Cert.SwaCacheIdeal.sig) → Buf (Elt Ideal) ℓ) (g : Dev Cert.SwaCacheIdeal.nD → PrngReg)
    (m' : (ℓ : Loc Cert.SwaCacheRefIdeal.nD Cert.SwaCacheRefIdeal.τ Cert.SwaCacheRefIdeal.sig) → Buf (Elt Ideal) ℓ) (g' : Dev Cert.SwaCacheRefIdeal.nD → PrngReg), Pre_SwaCacheIdeal m →
    (∀ c : Dev Cert.SwaCacheIdeal.nD,
      m' ((c.tc : Thread Cert.SwaCacheRefIdeal.nD Cert.SwaCacheRefIdeal.τ).loc Cert.SwaCacheRefIdeal.main_arg0) = m ((c.tc : Thread Cert.SwaCacheIdeal.nD Cert.SwaCacheIdeal.τ).loc Cert.SwaCacheIdeal.main_arg0)
      ∧ m' ((c.tc : Thread Cert.SwaCacheRefIdeal.nD Cert.SwaCacheRefIdeal.τ).loc Cert.SwaCacheRefIdeal.main_arg1) = m ((c.tc : Thread Cert.SwaCacheIdeal.nD Cert.SwaCacheIdeal.τ).loc Cert.SwaCacheIdeal.main_arg1)
      ∧ m' ((c.tc : Thread Cert.SwaCacheRefIdeal.nD Cert.SwaCacheRefIdeal.τ).loc Cert.SwaCacheRefIdeal.main_arg2) = m ((c.tc : Thread Cert.SwaCacheIdeal.nD Cert.SwaCacheIdeal.τ).loc Cert.SwaCacheIdeal.main_arg2)
      ∧ m' ((c.tc : Thread Cert.SwaCacheRefIdeal.nD Cert.SwaCacheRefIdeal.τ).loc Cert.SwaCacheRefIdeal.main_arg3) = m ((c.tc : Thread Cert.SwaCacheIdeal.nD Cert.SwaCacheIdeal.τ).loc Cert.SwaCacheIdeal.main_arg3)
      ∧ m' ((c.tc : Thread Cert.SwaCacheRefIdeal.nD Cert.SwaCacheRefIdeal.τ).loc Cert.SwaCacheRefIdeal.main_arg4) = m ((c.tc : Thread Cert.SwaCacheIdeal.nD Cert.SwaCacheIdeal.τ).loc Cert.SwaCacheIdeal.main_arg4)
      ∧ m' ((c.tc : Thread Cert.SwaCacheRefIdeal.nD Cert.SwaCacheRefIdeal.τ).loc Cert.SwaCacheRefIdeal.main_arg5) = m ((c.tc : Thread Cert.SwaCacheIdeal.nD Cert.SwaCacheIdeal.τ).loc Cert.SwaCacheIdeal.main_arg5)) →
    ∃ (v0 : (c : Dev Cert.SwaCacheIdeal.nD) → Buf (Elt Ideal) ((c.tc : Thread Cert.SwaCacheIdeal.nD Cert.SwaCacheIdeal.τ).loc Cert.SwaCacheIdeal.main_v8_1)) (v1 : (c : Dev Cert.SwaCacheIdeal.nD) → Buf (Elt Ideal) ((c.tc : Thread Cert.SwaCacheIdeal.nD Cert.SwaCacheIdeal.τ).loc Cert.SwaCacheIdeal.main_v8_2)),
      θ_run (Cert.SwaCacheIdeal.defs (F := Ideal)) (onTc (τ := Cert.SwaCacheIdeal.τ) (Cert.SwaCacheIdeal.main (F := Ideal))) ⟨m, fun _ => 0, g⟩ (fun r => ∀ c : Dev Cert.SwaCacheIdeal.nD,
          r.2.mem ((c.tc : Thread Cert.SwaCacheIdeal.nD Cert.SwaCacheIdeal.τ).loc Cert.SwaCacheIdeal.main_v8_1) = v0 c
          ∧ r.2.mem ((c.tc : Thread Cert.SwaCacheIdeal.nD Cert.SwaCacheIdeal.τ).loc Cert.SwaCacheIdeal.main_v8_2) = v1 c
          ∧ r.2.mem ((c.tc : Thread Cert.SwaCacheIdeal.nD Cert.SwaCacheIdeal.τ).loc Cert.SwaCacheIdeal.main_arg0) = m ((c.tc : Thread Cert.SwaCacheIdeal.nD Cert.SwaCacheIdeal.τ).loc Cert.SwaCacheIdeal.main_arg0)
          ∧ r.2.mem ((c.tc : Thread Cert.SwaCacheIdeal.nD Cert.SwaCacheIdeal.τ).loc Cert.SwaCacheIdeal.main_arg1) = m ((c.tc : Thread Cert.SwaCacheIdeal.nD Cert.SwaCacheIdeal.τ).loc Cert.SwaCacheIdeal.main_arg1)
          ∧ r.2.mem ((c.tc : Thread Cert.SwaCacheIdeal.nD Cert.SwaCacheIdeal.τ).loc Cert.SwaCacheIdeal.main_arg2) = m ((c.tc : Thread Cert.SwaCacheIdeal.nD Cert.SwaCacheIdeal.τ).loc Cert.SwaCacheIdeal.main_arg2)
          ∧ r.2.mem ((c.tc : Thread Cert.SwaCacheIdeal.nD Cert.SwaCacheIdeal.τ).loc Cert.SwaCacheIdeal.main_arg3) = m ((c.tc : Thread Cert.SwaCacheIdeal.nD Cert.SwaCacheIdeal.τ).loc Cert.SwaCacheIdeal.main_arg3)
          ∧ r.2.mem ((c.tc : Thread Cert.SwaCacheIdeal.nD Cert.SwaCacheIdeal.τ).loc Cert.SwaCacheIdeal.main_arg4) = m ((c.tc : Thread Cert.SwaCacheIdeal.nD Cert.SwaCacheIdeal.τ).loc Cert.SwaCacheIdeal.main_arg4)
          ∧ r.2.mem ((c.tc : Thread Cert.SwaCacheIdeal.nD Cert.SwaCacheIdeal.τ).loc Cert.SwaCacheIdeal.main_arg5) = m ((c.tc : Thread Cert.SwaCacheIdeal.nD Cert.SwaCacheIdeal.τ).loc Cert.SwaCacheIdeal.main_arg5))
      ∧ θ_run (Cert.SwaCacheRefIdeal.defs (F := Ideal)) (onTc (τ := Cert.SwaCacheRefIdeal.τ) (Cert.SwaCacheRefIdeal.main (F := Ideal))) ⟨m', fun _ => 0, g'⟩ (fun r => ∀ c : Dev Cert.SwaCacheRefIdeal.nD,
          r.2.mem ((c.tc : Thread Cert.SwaCacheRefIdeal.nD Cert.SwaCacheRefIdeal.τ).loc Cert.SwaCacheRefIdeal.main_v10) = v0 c
          ∧ r.2.mem ((c.tc : Thread Cert.SwaCacheRefIdeal.nD Cert.SwaCacheRefIdeal.τ).loc Cert.SwaCacheRefIdeal.main_v11) = v1 c
          ∧ r.2.mem ((c.tc : Thread Cert.SwaCacheRefIdeal.nD Cert.SwaCacheRefIdeal.τ).loc Cert.SwaCacheRefIdeal.main_arg0) = m' ((c.tc : Thread Cert.SwaCacheRefIdeal.nD Cert.SwaCacheRefIdeal.τ).loc Cert.SwaCacheRefIdeal.main_arg0)
          ∧ r.2.mem ((c.tc : Thread Cert.SwaCacheRefIdeal.nD Cert.SwaCacheRefIdeal.τ).loc Cert.SwaCacheRefIdeal.main_arg1) = m' ((c.tc : Thread Cert.SwaCacheRefIdeal.nD Cert.SwaCacheRefIdeal.τ).loc Cert.SwaCacheRefIdeal.main_arg1)
          ∧ r.2.mem ((c.tc : Thread Cert.SwaCacheRefIdeal.nD Cert.SwaCacheRefIdeal.τ).loc Cert.SwaCacheRefIdeal.main_arg2) = m' ((c.tc : Thread Cert.SwaCacheRefIdeal.nD Cert.SwaCacheRefIdeal.τ).loc Cert.SwaCacheRefIdeal.main_arg2)
          ∧ r.2.mem ((c.tc : Thread Cert.SwaCacheRefIdeal.nD Cert.SwaCacheRefIdeal.τ).loc Cert.SwaCacheRefIdeal.main_arg3) = m' ((c.tc : Thread Cert.SwaCacheRefIdeal.nD Cert.SwaCacheRefIdeal.τ).loc Cert.SwaCacheRefIdeal.main_arg3)
          ∧ r.2.mem ((c.tc : Thread Cert.SwaCacheRefIdeal.nD Cert.SwaCacheRefIdeal.τ).loc Cert.SwaCacheRefIdeal.main_arg4) = m' ((c.tc : Thread Cert.SwaCacheRefIdeal.nD Cert.SwaCacheRefIdeal.τ).loc Cert.SwaCacheRefIdeal.main_arg4)
          ∧ r.2.mem ((c.tc : Thread Cert.SwaCacheRefIdeal.nD Cert.SwaCacheRefIdeal.τ).loc Cert.SwaCacheRefIdeal.main_arg5) = m' ((c.tc : Thread Cert.SwaCacheRefIdeal.nD Cert.SwaCacheRefIdeal.τ).loc Cert.SwaCacheRefIdeal.main_arg5))

def preserves_ProjRes_ProjResIdeal : Prop :=
  True

def algebraic_ProjResIdeal_ProjResRefIdeal [hProjResIdeal : Cert.ProjResIdeal.Facts] [hProjResRefIdeal : Cert.ProjResRefIdeal.Facts] : Prop :=
  ∀ (m : (ℓ : Loc Cert.ProjResIdeal.nD Cert.ProjResIdeal.τ Cert.ProjResIdeal.sig) → Buf (Elt Ideal) ℓ) (g : Dev Cert.ProjResIdeal.nD → PrngReg)
    (m' : (ℓ : Loc Cert.ProjResRefIdeal.nD Cert.ProjResRefIdeal.τ Cert.ProjResRefIdeal.sig) → Buf (Elt Ideal) ℓ) (g' : Dev Cert.ProjResRefIdeal.nD → PrngReg), Pre_ProjResIdeal m →
    (∀ c : Dev Cert.ProjResIdeal.nD,
      m' ((c.tc : Thread Cert.ProjResRefIdeal.nD Cert.ProjResRefIdeal.τ).loc Cert.ProjResRefIdeal.main_arg0) = m ((c.tc : Thread Cert.ProjResIdeal.nD Cert.ProjResIdeal.τ).loc Cert.ProjResIdeal.main_arg0)
      ∧ m' ((c.tc : Thread Cert.ProjResRefIdeal.nD Cert.ProjResRefIdeal.τ).loc Cert.ProjResRefIdeal.main_arg1) = m ((c.tc : Thread Cert.ProjResIdeal.nD Cert.ProjResIdeal.τ).loc Cert.ProjResIdeal.main_arg1)
      ∧ m' ((c.tc : Thread Cert.ProjResRefIdeal.nD Cert.ProjResRefIdeal.τ).loc Cert.ProjResRefIdeal.main_arg2) = m ((c.tc : Thread Cert.ProjResIdeal.nD Cert.ProjResIdeal.τ).loc Cert.ProjResIdeal.main_arg2)
      ∧ m' ((c.tc : Thread Cert.ProjResRefIdeal.nD Cert.ProjResRefIdeal.τ).loc Cert.ProjResRefIdeal.main_arg3) = m ((c.tc : Thread Cert.ProjResIdeal.nD Cert.ProjResIdeal.τ).loc Cert.ProjResIdeal.main_arg3)
      ∧ m' ((c.tc : Thread Cert.ProjResRefIdeal.nD Cert.ProjResRefIdeal.τ).loc Cert.ProjResRefIdeal.main_arg4) = m ((c.tc : Thread Cert.ProjResIdeal.nD Cert.ProjResIdeal.τ).loc Cert.ProjResIdeal.main_arg4)
      ∧ m' ((c.tc : Thread Cert.ProjResRefIdeal.nD Cert.ProjResRefIdeal.τ).loc Cert.ProjResRefIdeal.main_arg5) = m ((c.tc : Thread Cert.ProjResIdeal.nD Cert.ProjResIdeal.τ).loc Cert.ProjResIdeal.main_arg5)) →
    ∃ (v0 : (c : Dev Cert.ProjResIdeal.nD) → Buf (Elt Ideal) ((c.tc : Thread Cert.ProjResIdeal.nD Cert.ProjResIdeal.τ).loc Cert.ProjResIdeal.main_v1_0)) (v1 : (c : Dev Cert.ProjResIdeal.nD) → Buf (Elt Ideal) ((c.tc : Thread Cert.ProjResIdeal.nD Cert.ProjResIdeal.τ).loc Cert.ProjResIdeal.main_v1_1)),
      θ_run (Cert.ProjResIdeal.defs (F := Ideal)) (onTc (τ := Cert.ProjResIdeal.τ) (Cert.ProjResIdeal.main (F := Ideal))) ⟨m, fun _ => 0, g⟩ (fun r => ∀ c : Dev Cert.ProjResIdeal.nD,
          r.2.mem ((c.tc : Thread Cert.ProjResIdeal.nD Cert.ProjResIdeal.τ).loc Cert.ProjResIdeal.main_v1_0) = v0 c
          ∧ r.2.mem ((c.tc : Thread Cert.ProjResIdeal.nD Cert.ProjResIdeal.τ).loc Cert.ProjResIdeal.main_v1_1) = v1 c
          ∧ r.2.mem ((c.tc : Thread Cert.ProjResIdeal.nD Cert.ProjResIdeal.τ).loc Cert.ProjResIdeal.main_arg0) = m ((c.tc : Thread Cert.ProjResIdeal.nD Cert.ProjResIdeal.τ).loc Cert.ProjResIdeal.main_arg0)
          ∧ r.2.mem ((c.tc : Thread Cert.ProjResIdeal.nD Cert.ProjResIdeal.τ).loc Cert.ProjResIdeal.main_arg1) = m ((c.tc : Thread Cert.ProjResIdeal.nD Cert.ProjResIdeal.τ).loc Cert.ProjResIdeal.main_arg1)
          ∧ r.2.mem ((c.tc : Thread Cert.ProjResIdeal.nD Cert.ProjResIdeal.τ).loc Cert.ProjResIdeal.main_arg2) = m ((c.tc : Thread Cert.ProjResIdeal.nD Cert.ProjResIdeal.τ).loc Cert.ProjResIdeal.main_arg2)
          ∧ r.2.mem ((c.tc : Thread Cert.ProjResIdeal.nD Cert.ProjResIdeal.τ).loc Cert.ProjResIdeal.main_arg3) = m ((c.tc : Thread Cert.ProjResIdeal.nD Cert.ProjResIdeal.τ).loc Cert.ProjResIdeal.main_arg3)
          ∧ r.2.mem ((c.tc : Thread Cert.ProjResIdeal.nD Cert.ProjResIdeal.τ).loc Cert.ProjResIdeal.main_arg4) = m ((c.tc : Thread Cert.ProjResIdeal.nD Cert.ProjResIdeal.τ).loc Cert.ProjResIdeal.main_arg4)
          ∧ r.2.mem ((c.tc : Thread Cert.ProjResIdeal.nD Cert.ProjResIdeal.τ).loc Cert.ProjResIdeal.main_arg5) = m ((c.tc : Thread Cert.ProjResIdeal.nD Cert.ProjResIdeal.τ).loc Cert.ProjResIdeal.main_arg5))
      ∧ θ_run (Cert.ProjResRefIdeal.defs (F := Ideal)) (onTc (τ := Cert.ProjResRefIdeal.τ) (Cert.ProjResRefIdeal.main (F := Ideal))) ⟨m', fun _ => 0, g'⟩ (fun r => ∀ c : Dev Cert.ProjResRefIdeal.nD,
          r.2.mem ((c.tc : Thread Cert.ProjResRefIdeal.nD Cert.ProjResRefIdeal.τ).loc Cert.ProjResRefIdeal.main_v6) = v0 c
          ∧ r.2.mem ((c.tc : Thread Cert.ProjResRefIdeal.nD Cert.ProjResRefIdeal.τ).loc Cert.ProjResRefIdeal.main_v11) = v1 c
          ∧ r.2.mem ((c.tc : Thread Cert.ProjResRefIdeal.nD Cert.ProjResRefIdeal.τ).loc Cert.ProjResRefIdeal.main_arg0) = m' ((c.tc : Thread Cert.ProjResRefIdeal.nD Cert.ProjResRefIdeal.τ).loc Cert.ProjResRefIdeal.main_arg0)
          ∧ r.2.mem ((c.tc : Thread Cert.ProjResRefIdeal.nD Cert.ProjResRefIdeal.τ).loc Cert.ProjResRefIdeal.main_arg1) = m' ((c.tc : Thread Cert.ProjResRefIdeal.nD Cert.ProjResRefIdeal.τ).loc Cert.ProjResRefIdeal.main_arg1)
          ∧ r.2.mem ((c.tc : Thread Cert.ProjResRefIdeal.nD Cert.ProjResRefIdeal.τ).loc Cert.ProjResRefIdeal.main_arg2) = m' ((c.tc : Thread Cert.ProjResRefIdeal.nD Cert.ProjResRefIdeal.τ).loc Cert.ProjResRefIdeal.main_arg2)
          ∧ r.2.mem ((c.tc : Thread Cert.ProjResRefIdeal.nD Cert.ProjResRefIdeal.τ).loc Cert.ProjResRefIdeal.main_arg3) = m' ((c.tc : Thread Cert.ProjResRefIdeal.nD Cert.ProjResRefIdeal.τ).loc Cert.ProjResRefIdeal.main_arg3)
          ∧ r.2.mem ((c.tc : Thread Cert.ProjResRefIdeal.nD Cert.ProjResRefIdeal.τ).loc Cert.ProjResRefIdeal.main_arg4) = m' ((c.tc : Thread Cert.ProjResRefIdeal.nD Cert.ProjResRefIdeal.τ).loc Cert.ProjResRefIdeal.main_arg4)
          ∧ r.2.mem ((c.tc : Thread Cert.ProjResRefIdeal.nD Cert.ProjResRefIdeal.τ).loc Cert.ProjResRefIdeal.main_arg5) = m' ((c.tc : Thread Cert.ProjResRefIdeal.nD Cert.ProjResRefIdeal.τ).loc Cert.ProjResRefIdeal.main_arg5))

def Claim : Prop :=
  ∃ (hGlaSample : Cert.GlaSample.Facts) (hGlaSampleIdeal : Cert.GlaSampleIdeal.Facts) (hGlaSampleRefIdeal : Cert.GlaSampleRefIdeal.Facts) (hHeadLast : Cert.HeadLast.Facts) (hHeadLastIdeal : Cert.HeadLastIdeal.Facts) (hHeadLastRefIdeal : Cert.HeadLastRefIdeal.Facts) (hFfnLast : Cert.FfnLast.Facts) (hFfnLastIdeal : Cert.FfnLastIdeal.Facts) (hFfnLastRefIdeal : Cert.FfnLastRefIdeal.Facts) (hHeadMid : Cert.HeadMid.Facts) (hHeadMidIdeal : Cert.HeadMidIdeal.Facts) (hHeadMidRefIdeal : Cert.HeadMidRefIdeal.Facts) (hFfnMid : Cert.FfnMid.Facts) (hFfnMidIdeal : Cert.FfnMidIdeal.Facts) (hFfnMidRefIdeal : Cert.FfnMidRefIdeal.Facts) (hSwaQkv : Cert.SwaQkv.Facts) (hSwaQkvIdeal : Cert.SwaQkvIdeal.Facts) (hSwaQkvRefIdeal : Cert.SwaQkvRefIdeal.Facts) (hGlaIn : Cert.GlaIn.Facts) (hGlaInIdeal : Cert.GlaInIdeal.Facts) (hGlaInRefIdeal : Cert.GlaInRefIdeal.Facts) (hSwaCache : Cert.SwaCache.Facts) (hSwaCacheIdeal : Cert.SwaCacheIdeal.Facts) (hSwaCacheRefIdeal : Cert.SwaCacheRefIdeal.Facts) (hProjRes : Cert.ProjRes.Facts) (hProjResIdeal : Cert.ProjResIdeal.Facts) (hProjResRefIdeal : Cert.ProjResRefIdeal.Facts) (hPre_decay_finite : Cert.Pre_decay_finite.Facts) (hOn_head_rows : Cert.On_head_rows.Facts) (hOn_head_mid_rows : Cert.On_head_mid_rows.Facts),
    quiescent_GlaSample (hGlaSample := hGlaSample)
    ∧ quiescent_GlaSampleIdeal (hGlaSampleIdeal := hGlaSampleIdeal)
    ∧ quiescent_GlaSampleIdeal_pre_decay_finite (hGlaSampleIdeal := hGlaSampleIdeal) (hPre_decay_finite := hPre_decay_finite)
    ∧ quiescent_GlaSampleRefIdeal (hGlaSampleRefIdeal := hGlaSampleRefIdeal)
    ∧ quiescent_GlaSampleRefIdeal_pre_decay_finite (hGlaSampleRefIdeal := hGlaSampleRefIdeal) (hPre_decay_finite := hPre_decay_finite)
    ∧ quiescent_HeadLast (hHeadLast := hHeadLast)
    ∧ quiescent_HeadLastIdeal (hHeadLastIdeal := hHeadLastIdeal)
    ∧ quiescent_HeadLastRefIdeal (hHeadLastRefIdeal := hHeadLastRefIdeal)
    ∧ quiescent_FfnLast (hFfnLast := hFfnLast)
    ∧ quiescent_FfnLastIdeal (hFfnLastIdeal := hFfnLastIdeal)
    ∧ quiescent_FfnLastRefIdeal (hFfnLastRefIdeal := hFfnLastRefIdeal)
    ∧ quiescent_HeadMid (hHeadMid := hHeadMid)
    ∧ quiescent_HeadMidIdeal (hHeadMidIdeal := hHeadMidIdeal)
    ∧ quiescent_HeadMidRefIdeal (hHeadMidRefIdeal := hHeadMidRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_SwaQkv (hSwaQkv := hSwaQkv)
    ∧ quiescent_SwaQkvIdeal (hSwaQkvIdeal := hSwaQkvIdeal)
    ∧ quiescent_SwaQkvRefIdeal (hSwaQkvRefIdeal := hSwaQkvRefIdeal)
    ∧ quiescent_GlaIn (hGlaIn := hGlaIn)
    ∧ quiescent_GlaInIdeal (hGlaInIdeal := hGlaInIdeal)
    ∧ quiescent_GlaInRefIdeal (hGlaInRefIdeal := hGlaInRefIdeal)
    ∧ quiescent_SwaCache (hSwaCache := hSwaCache)
    ∧ quiescent_SwaCacheIdeal (hSwaCacheIdeal := hSwaCacheIdeal)
    ∧ quiescent_SwaCacheRefIdeal (hSwaCacheRefIdeal := hSwaCacheRefIdeal)
    ∧ quiescent_ProjRes (hProjRes := hProjRes)
    ∧ quiescent_ProjResIdeal (hProjResIdeal := hProjResIdeal)
    ∧ quiescent_ProjResRefIdeal (hProjResRefIdeal := hProjResRefIdeal)
    ∧ preserves_GlaSample_GlaSampleIdeal
    ∧ algebraic_GlaSampleIdeal_GlaSampleRefIdeal_pre_decay_finite (hGlaSampleIdeal := hGlaSampleIdeal) (hGlaSampleRefIdeal := hGlaSampleRefIdeal) (hPre_decay_finite := hPre_decay_finite)
    ∧ preserves_HeadLast_HeadLastIdeal
    ∧ algebraic_HeadLastIdeal_HeadLastRefIdeal_on_head_rows (hHeadLastIdeal := hHeadLastIdeal) (hHeadLastRefIdeal := hHeadLastRefIdeal) (hOn_head_rows := hOn_head_rows)
    ∧ preserves_FfnLast_FfnLastIdeal
    ∧ algebraic_FfnLastIdeal_FfnLastRefIdeal (hFfnLastIdeal := hFfnLastIdeal) (hFfnLastRefIdeal := hFfnLastRefIdeal)
    ∧ preserves_HeadMid_HeadMidIdeal
    ∧ algebraic_HeadMidIdeal_HeadMidRefIdeal_on_head_mid_rows (hHeadMidIdeal := hHeadMidIdeal) (hHeadMidRefIdeal := hHeadMidRefIdeal) (hOn_head_mid_rows := hOn_head_mid_rows)
    ∧ preserves_FfnMid_FfnMidIdeal
    ∧ algebraic_FfnMidIdeal_FfnMidRefIdeal (hFfnMidIdeal := hFfnMidIdeal) (hFfnMidRefIdeal := hFfnMidRefIdeal)
    ∧ preserves_SwaQkv_SwaQkvIdeal
    ∧ algebraic_SwaQkvIdeal_SwaQkvRefIdeal (hSwaQkvIdeal := hSwaQkvIdeal) (hSwaQkvRefIdeal := hSwaQkvRefIdeal)
    ∧ preserves_GlaIn_GlaInIdeal
    ∧ algebraic_GlaInIdeal_GlaInRefIdeal (hGlaInIdeal := hGlaInIdeal) (hGlaInRefIdeal := hGlaInRefIdeal)
    ∧ preserves_SwaCache_SwaCacheIdeal
    ∧ algebraic_SwaCacheIdeal_SwaCacheRefIdeal (hSwaCacheIdeal := hSwaCacheIdeal) (hSwaCacheRefIdeal := hSwaCacheRefIdeal)
    ∧ preserves_ProjRes_ProjResIdeal
    ∧ algebraic_ProjResIdeal_ProjResRefIdeal (hProjResIdeal := hProjResIdeal) (hProjResRefIdeal := hProjResRefIdeal)
-- ==== On_head_mid_rows.lean ====
abbrev S8192x2048 : Shape := ⟨2, ![8192, 2048]⟩
abbrev S512x2048 : Shape := ⟨2, ![512, 2048]⟩
abbrev S2048 : Shape := ⟨1, ![2048]⟩
abbrev S2x2048x5632 : Shape := ⟨3, ![2, 2048, 5632]⟩
abbrev S2x5632x2048 : Shape := ⟨3, ![2, 5632, 2048]⟩
abbrev S_ : Shape := ⟨0, ![]⟩
abbrev S2048x5632 : Shape := ⟨2, ![2048, 5632]⟩
abbrev S5632x2048 : Shape := ⟨2, ![5632, 2048]⟩

class Facts : Prop where
  bcast_S_S512x2048 : S_.BroadcastsInDim S512x2048 (![] : Fin 0 → Fin S512x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S512x2048 .f32) (main_arg2 : FVec F S2048 .f32) (main_arg3 : FVec F S2x2048x5632 .f32) (main_arg4 : FVec F S2x2048x5632 .f32) (main_arg5 : FVec F S2x5632x2048 .f32) : IVec S8192x2048 1 × IVec S512x2048 1 × IVec S2048x5632 1 × IVec S2048x5632 1 × IVec S5632x2048 1 :=
  let main_c : IVec S_ 1 := constantI S_ 1 1#1
  let main_v0 : IVec S512x2048 1 := broadcastInDim S512x2048 ![] bcast_S_S512x2048 main_c
  let main_c_0 : IVec S_ 1 := constantI S_ 1 1#1
  let main_v1 : IVec S2048x5632 1 := broadcastInDim S2048x5632 ![] bcast_S_S2048x5632 main_c_0
  let main_c_1 : IVec S_ 1 := constantI S_ 1 1#1
  let main_v2 : IVec S2048x5632 1 := broadcastInDim S2048x5632 ![] bcast_S_S2048x5632 main_c_1
  let main_c_2 : IVec S_ 1 := constantI S_ 1 1#1
  let main_v3 : IVec S5632x2048 1 := broadcastInDim S5632x2048 ![] bcast_S_S5632x2048 main_c_2
  let main_v4 : IVec S8192x2048 32 := iotaInDim S8192x2048 32 0
  let main_c_3 : IVec S_ 32 := constantI S_ 32 1024#32
  let main_v5 : IVec S8192x2048 32 := broadcastInDim S8192x2048 ![] bcast_S_S8192x2048 main_c_3
  let main_v6 : IVec S8192x2048 1 := cmpi .slt main_v4 main_v5
  (main_v6, main_v0, main_v1, main_v2, main_v3)
-- ==== On_head_rows.lean ====
abbrev S8192x2048 : Shape := ⟨2, ![8192, 2048]⟩
abbrev S512x2048 : Shape := ⟨2, ![512, 2048]⟩
abbrev S2048 : Shape := ⟨1, ![2048]⟩
abbrev S2x2048x5632 : Shape := ⟨3, ![2, 2048, 5632]⟩
abbrev S2x5632x2048 : Shape := ⟨3, ![2, 5632, 2048]⟩
abbrev S_ : Shape := ⟨0, ![]⟩
abbrev S2048x5632 : Shape := ⟨2, ![2048, 5632]⟩
abbrev S5632x2048 : Shape := ⟨2, ![5632, 2048]⟩

class Facts : Prop where
  bcast_S_S512x2048 : S_.BroadcastsInDim S512x2048 (![] : Fin 0 → Fin S512x2048.rank)
  bcast_S_S2048x5632 : S_.BroadcastsInDim S2048x5632 (![] : Fin 0 → Fin S2048x5632.rank)
  bcast_S_S5632x2048 : S_.BroadcastsInDim S5632x2048 (![] : Fin 0 → Fin S5632x2048.rank)
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S512x2048 .f32) (main_arg2 : FVec F S2048 .f32) (main_arg3 : FVec F S2x2048x5632 .f32) (main_arg4 : FVec F S2x2048x5632 .f32) (main_arg5 : FVec F S2x5632x2048 .f32) (main_arg6 : FVec F S2048 .f32) : IVec S8192x2048 1 × IVec S512x2048 1 × IVec S2048x5632 1 × IVec S2048x5632 1 × IVec S5632x2048 1 :=
  let main_c : IVec S_ 1 := constantI S_ 1 1#1
  let main_v0 : IVec S512x2048 1 := broadcastInDim S512x2048 ![] bcast_S_S512x2048 main_c
  let main_c_0 : IVec S_ 1 := constantI S_ 1 1#1
  let main_v1 : IVec S2048x5632 1 := broadcastInDim S2048x5632 ![] bcast_S_S2048x5632 main_c_0
  let main_c_1 : IVec S_ 1 := constantI S_ 1 1#1
  let main_v2 : IVec S2048x5632 1 := broadcastInDim S2048x5632 ![] bcast_S_S2048x5632 main_c_1
  let main_c_2 : IVec S_ 1 := constantI S_ 1 1#1
  let main_v3 : IVec S5632x2048 1 := broadcastInDim S5632x2048 ![] bcast_S_S5632x2048 main_c_2
  let main_v4 : IVec S8192x2048 32 := iotaInDim S8192x2048 32 0
  let main_c_3 : IVec S_ 32 := constantI S_ 32 1024#32
  let main_v5 : IVec S8192x2048 32 := broadcastInDim S8192x2048 ![] bcast_S_S8192x2048 main_c_3
  let main_v6 : IVec S8192x2048 1 := cmpi .slt main_v4 main_v5
  (main_v6, main_v0, main_v1, main_v2, main_v3)
-- ==== Pre_decay_finite.lean ====
abbrev S8704x6144 : Shape := ⟨2, ![8704, 6144]⟩
abbrev S8704x1024 : Shape := ⟨2, ![8704, 1024]⟩
abbrev S128x4x256x512 : Shape := ⟨4, ![128, 4, 256, 512]⟩
abbrev S1x512 : Shape := ⟨2, ![1, 512]⟩
abbrev S_ : Shape := ⟨0, ![]⟩

class Facts : Prop where
  bcast_S_S8704x1024 : S_.BroadcastsInDim S8704x1024 (![] : Fin 0 → Fin S8704x1024.rank)

variable [Facts]

def fn {F : FTy → Type} [FloatOps F] (main_arg0 : FVec F S8704x6144 .bf16) (main_arg1 : FVec F S8704x1024 .f32) (main_arg2 : FVec F S128x4x256x512 .f32) (main_arg3 : FVec F S1x512 .f32) : IVec S8704x1024 1 :=
  let main_cst : FVec F S_ .f32 := constant S_ .f32 0x7F800000#32
  let main_v0 : FVec F S8704x1024 .f32 := broadcastInDim S8704x1024 ![] bcast_S_S8704x1024 main_cst
  let main_v1 : IVec S8704x1024 1 := cmpf .olt main_arg1 main_v0
  main_v1
-- ==== GlaSample.lean ====
abbrev S8704x6144 : Shape := ⟨2, ![8704, 6144]⟩
abbrev S8704x1024 : Shape := ⟨2, ![8704, 1024]⟩
abbrev S128x4x256x512 : Shape := ⟨4, ![128, 4, 256, 512]⟩
abbrev S1x512 : Shape := ⟨2, ![1, 512]⟩
abbrev S512x2048 : Shape := ⟨2, ![512, 2048]⟩
abbrev S16x6144 : Shape := ⟨2, ![16, 6144]⟩
abbrev S16x1024 : Shape := ⟨2, ![16, 1024]⟩
abbrev S4x4x256x512 : Shape := ⟨4, ![4, 4, 256, 512]⟩
abbrev S16x2048 : Shape := ⟨2, ![16, 2048]⟩
abbrev S4x128 : Shape := ⟨2, ![4, 128]⟩
abbrev S4x256 : Shape := ⟨2, ![4, 256]⟩
abbrev S4x512 : Shape := ⟨2, ![4, 512]⟩
abbrev S1x256 : Shape := ⟨2, ![1, 256]⟩
abbrev S4x4 : Shape := ⟨2, ![4, 4]⟩
abbrev S1x1x256x512 : Shape := ⟨4, ![1, 1, 256, 512]⟩
abbrev S256x512 : Shape := ⟨2, ![256, 512]⟩
abbrev S256x128 : Shape := ⟨2, ![256, 128]⟩
abbrev S4 : Shape := ⟨1, ![4]⟩
abbrev S4x1 : Shape := ⟨2, ![4, 1]⟩

abbrev nBuf : Space → Nat
  | .hbm => 6
  | .vmem => 11
  | .smem => 0
  | _ => 0

abbrev bufTy : (tb : Table) → Fin (tcTables nBuf tb) → BufTy
  | .hbm, ⟨0, _⟩ => ⟨S8704x6144, .bf16⟩
  | .hbm, ⟨1, _⟩ => ⟨S8704x1024, .f32⟩
  | .hbm, ⟨2, _⟩ => ⟨S128x4x256x512, .f32⟩
  | .hbm, ⟨3, _⟩ => ⟨S1x512, .f32⟩
  | .hbm, ⟨4, _⟩ => ⟨S512x2048, .f32⟩
  | .hbm, ⟨5, _⟩ => ⟨S128x4x256x512, .f32⟩
  | .local _ .vmem, ⟨0, _⟩ => ⟨S16x6144, .bf16⟩
  | .local _ .vmem, ⟨1, _⟩ => ⟨S16x6144, .bf16⟩
  | .local _ .vmem, ⟨2, _⟩ => ⟨S16x1024, .f32⟩
  | .local _ .vmem, ⟨3, _⟩ => ⟨S16x1024, .f32⟩
  | .local _ .vmem, ⟨4, _⟩ => ⟨S4x4x256x512, .f32⟩
  | .local _ .vmem, ⟨5, _⟩ => ⟨S4x4x256x512, .f32⟩
  | .local _ .vmem, ⟨6, _⟩ => ⟨S1x512, .f32⟩
  | .local _ .vmem, ⟨7, _⟩ => ⟨S16x2048, .f32⟩
  | .local _ .vmem, ⟨8, _⟩ => ⟨S16x2048, .f32⟩
  | .local _ .vmem, ⟨9, _⟩ => ⟨S4x4x256x512, .f32⟩
  | .local _ .vmem, ⟨10, _⟩ => ⟨S4x4x256x512, .f32⟩
  | _, _ => ⟨S8704x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c512_i32 : BitVec 32 := 512#32
  let v0 : BitVec 32 := Scalar.addi c512_i32 arg0
  let c0_i32 : BitVec 32 := 0#32
  let c0_i32_0 : BitVec 32 := 0#32
  ![v0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x4x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S16x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x4x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GlaSampleRefIdeal.lean ====
abbrev S8704x6144 : Shape := ⟨2, ![8704, 6144]⟩
abbrev S8704x1024 : Shape := ⟨2, ![8704, 1024]⟩
abbrev S128x4x256x512 : Shape := ⟨4, ![128, 4, 256, 512]⟩
abbrev S1x512 : Shape := ⟨2, ![1, 512]⟩
abbrev S512x6144 : Shape := ⟨2, ![512, 6144]⟩
abbrev S128x4x6144 : Shape := ⟨3, ![128, 4, 6144]⟩
abbrev S128x4x1024 : Shape := ⟨3, ![128, 4, 1024]⟩
abbrev S128x4x2048 : Shape := ⟨3, ![128, 4, 2048]⟩
abbrev S128x4x4x256 : Shape := ⟨4, ![128, 4, 4, 256]⟩
abbrev S_ : Shape := ⟨0, ![]⟩
abbrev S128x4x4x512 : Shape := ⟨4, ![128, 4, 4, 512]⟩
abbrev S512x1024 : Shape := ⟨2, ![512, 1024]⟩
abbrev S4x4 : Shape := ⟨2, ![4, 4]⟩
abbrev S128x4x4x4 : Shape := ⟨4, ![128, 4, 4, 4]⟩
abbrev S128x4x1x256 : Shape := ⟨4, ![128, 4, 1, 256]⟩
abbrev S128x4x256 : Shape := ⟨3, ![128, 4, 256]⟩
abbrev S128x4x256x1 : Shape := ⟨4, ![128, 4, 256, 1]⟩
abbrev S128x4x4 : Shape := ⟨3, ![128, 4, 4]⟩
abbrev S128x4x4x1 : Shape := ⟨4, ![128, 4, 4, 1]⟩
abbrev S512 : Shape := ⟨1, ![512]⟩
abbrev S1x1x1x512 : Shape := ⟨4, ![1, 1, 1, 512]⟩
abbrev S512x2048 : Shape := ⟨2, ![512, 2048]⟩

abbrev nBuf : Space → Nat
  | .hbm => 93
  | .vmem => 0
  | .smem => 0
  | _ => 0

abbrev bufTy : (tb : Table) → Fin (tcTables nBuf tb) → BufTy
  | .hbm, ⟨0, _⟩ => ⟨S8704x6144, .bf16⟩
  | .hbm, ⟨1, _⟩ => ⟨S8704x1024, .f32⟩
  | .hbm, ⟨2, _⟩ => ⟨S128x4x256x512, .f32⟩
  | .hbm, ⟨3, _⟩ => ⟨S1x512, .f32⟩
  | .hbm, ⟨4, _⟩ => ⟨S512x6144, .bf16⟩
  | .hbm, ⟨5, _⟩ => ⟨S512x6144, .f32⟩
  | .hbm, ⟨6, _⟩ => ⟨S128x4x6144, .f32⟩
  | .hbm, ⟨7, _⟩ => ⟨S128x4x1024, .f32⟩
  | .hbm, ⟨8, _⟩ => ⟨S128x4x1024, .f32⟩
  | .hbm, ⟨9, _⟩ => ⟨S128x4x2048, .f32⟩
  | .hbm, ⟨10, _⟩ => ⟨S128x4x2048, .f32⟩
  | .hbm, ⟨11, _⟩ => ⟨S128x4x4x256, .f32⟩
  | .hbm, ⟨12, _⟩ => ⟨S128x4x4x256, .f32⟩
  | .hbm, ⟨13, _⟩ => ⟨S_, .f32⟩
  | .hbm, ⟨14, _⟩ => ⟨S128x4x4x256, .f32⟩
  | .hbm, ⟨15, _⟩ => ⟨S128x4x4x256, .f32⟩
  | .hbm, ⟨16, _⟩ => ⟨S128x4x4x256, .f32⟩
  | .hbm, ⟨17, _⟩ => ⟨S128x4x4x256, .f32⟩
  | .hbm, ⟨18, _⟩ => ⟨S128x4x4x512, .f32⟩
  | .hbm, ⟨19, _⟩ => ⟨S128x4x4x512, .f32⟩
  | .hbm, ⟨20, _⟩ => ⟨S512x1024, .f32⟩
  | .hbm, ⟨21, _⟩ => ⟨S128x4x4x256, .f32⟩
  | .hbm, ⟨22, _⟩ => ⟨S128x4x4x256, .f32⟩
  | .hbm, ⟨23, _⟩ => ⟨S_, .f32⟩
  | .hbm, ⟨24, _⟩ => ⟨S_, .f32⟩
  | .hbm, ⟨25, _⟩ => ⟨S128x4x4x256, .f32⟩
  | .hbm, ⟨26, _⟩ => ⟨S128x4x4x256, .f32⟩
  | .hbm, ⟨27, _⟩ => ⟨S128x4x4x256, .f32⟩
  | .hbm, ⟨28, _⟩ => ⟨S128x4x4x256, .f32⟩
  | .hbm, ⟨29, _⟩ => ⟨S128x4x4x256, .f32⟩
  | .hbm, ⟨30, _⟩ => ⟨S128x4x4x256, .f32⟩
  | .hbm, ⟨31, _⟩ => ⟨S_, .i1⟩
  | .hbm, ⟨32, _⟩ => ⟨S4x4, .i1⟩
  | .hbm, ⟨33, _⟩ => ⟨S4x4, .i32⟩
  | .hbm, ⟨34, _⟩ => ⟨S_, .i32⟩
  | .hbm, ⟨35, _⟩ => ⟨S4x4, .i32⟩
  | .hbm, ⟨36, _⟩ => ⟨S4x4, .i32⟩
  | .hbm, ⟨37, _⟩ => ⟨S4x4, .i32⟩
  | .hbm, ⟨38, _⟩ => ⟨S4x4, .i1⟩
  | .hbm, ⟨39, _⟩ => ⟨S_, .i1⟩
  | .hbm, ⟨40, _⟩ => ⟨S4x4, .i1⟩
  | .hbm, ⟨41, _⟩ => ⟨S4x4, .i1⟩
  | .hbm, ⟨42, _⟩ => ⟨S128x4x4x4, .f32⟩
  | .hbm, ⟨43, _⟩ => ⟨S_, .f32⟩
  | .hbm, ⟨44, _⟩ => ⟨S_, .f32⟩
  | .hbm, ⟨45, _⟩ => ⟨S128x4x4x4, .i1⟩
  | .hbm, ⟨46, _⟩ => ⟨S128x4x4x4, .f32⟩
  | .hbm, ⟨47, _⟩ => ⟨S128x4x4x4, .f32⟩
  | .hbm, ⟨48, _⟩ => ⟨S128x4x4x512, .f32⟩
  | .hbm, ⟨49, _⟩ => ⟨S128x4x4x512, .f32⟩
  | .hbm, ⟨50, _⟩ => ⟨S128x4x4x512, .f32⟩
  | .hbm, ⟨51, _⟩ => ⟨S128x4x1x256, .f32⟩
  | .hbm, ⟨52, _⟩ => ⟨S128x4x256, .f32⟩
  | .hbm, ⟨53, _⟩ => ⟨S128x4x256, .f32⟩
  | .hbm, ⟨54, _⟩ => ⟨S128x4x256x1, .f32⟩
  | .hbm, ⟨55, _⟩ => ⟨S128x4x256x512, .f32⟩
  | .hbm, ⟨56, _⟩ => ⟨S128x4x256x512, .f32⟩
  | .hbm, ⟨57, _⟩ => ⟨S128x4x4x256, .f32⟩
  | .hbm, ⟨58, _⟩ => ⟨S128x4x4x256, .f32⟩
  | .hbm, ⟨59, _⟩ => ⟨S128x4x4x256, .f32⟩
  | .hbm, ⟨60, _⟩ => ⟨S128x4x4x256, .f32⟩
  | .hbm, ⟨61, _⟩ => ⟨S128x4x256x512, .f32⟩
  | .hbm, ⟨62, _⟩ => ⟨S128x4x256x512, .f32⟩
  | .hbm, ⟨63, _⟩ => ⟨S128x4x4x512, .f32⟩
  | .hbm, ⟨64, _⟩ => ⟨S128x4x4x512, .f32⟩
  | .hbm, ⟨65, _⟩ => ⟨S_, .f32⟩
  | .hbm, ⟨66, _⟩ => ⟨S128x4x4, .f32⟩
  | .hbm, ⟨67, _⟩ => ⟨S128x4x4x1, .f32⟩
  | .hbm, ⟨68, _⟩ => ⟨S_, .f32⟩
  | .hbm, ⟨69, _⟩ => ⟨S128x4x4x1, .f32⟩
  | .hbm, ⟨70, _⟩ => ⟨S128x4x4x1, .f32⟩
  | .hbm, ⟨71, _⟩ => ⟨S_, .f32⟩
  | .hbm, ⟨72, _⟩ => ⟨S128x4x4x1, .f32⟩
  | .hbm, ⟨73, _⟩ => ⟨S128x4x4x1, .f32⟩
  | .hbm, ⟨74, _⟩ => ⟨S128x4x4x1, .f32⟩
  | .hbm, ⟨75, _⟩ => ⟨S128x4x4x512, .f32⟩
  | .hbm, ⟨76, _⟩ => ⟨S128x4x4x512, .f32⟩
  | .hbm, ⟨77, _⟩ => ⟨S512, .f32⟩
  | .hbm, ⟨78, _⟩ => ⟨S1x1x1x512, .f32⟩
  | .hbm, ⟨79, _⟩ => ⟨S128x4x4x512, .f32⟩
  | .hbm, ⟨80, _⟩ => ⟨S128x4x4x512, .f32⟩
  | .hbm, ⟨81, _⟩ => ⟨S128x4x4x512, .f32⟩
  | .hbm, ⟨82, _⟩ => ⟨S128x4x4x512, .f32⟩
  | .hbm, ⟨83, _⟩ => ⟨S128x4x4x512, .f32⟩
  | .hbm, ⟨84, _⟩ => ⟨S_, .f32⟩
  | .hbm, ⟨85, _⟩ => ⟨S128x4x4x512, .f32⟩
  | .hbm, ⟨86, _⟩ => ⟨S128x4x4x512, .f32⟩
  | .hbm, ⟨87, _⟩ => ⟨S_, .f32⟩
  | .hbm, ⟨88, _⟩ => ⟨S128x4x4x512, .f32⟩
  | .hbm, ⟨89, _⟩ => ⟨S128x4x4x512, .f32⟩
  | .hbm, ⟨90, _⟩ => ⟨S128x4x4x512, .f32⟩
  | .hbm, ⟨91, _⟩ => ⟨S128x4x4x512, .f32⟩
  | .hbm, ⟨92, _⟩ => ⟨S512x2048, .f32⟩
  | _, _ => ⟨S8704x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_call0_cst : Ref sig .tc := ⟨.hbm, 23, rfl⟩
abbrev main_call0_call0_v0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_c : Ref sig .tc := ⟨.hbm, 31, rfl⟩
abbrev main_v24 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_c_0 : Ref sig .tc := ⟨.hbm, 39, rfl⟩
abbrev main_call1_v5 : Ref sig .tc := ⟨.hbm, 40, rfl⟩
abbrev main_v25 : Ref sig .tc := ⟨.hbm, 41, rfl⟩
abbrev main_v26 : Ref sig .tc := ⟨.hbm, 42, rfl⟩
abbrev main_cst_0 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_1 : Ref sig .tc := ⟨.hbm, 65, rfl⟩
abbrev main_v45 : Ref sig .tc := ⟨.hbm, 66, rfl⟩
abbrev main_v46 : Ref sig .tc := ⟨.hbm, 67, rfl⟩
abbrev main_cst_2 : Ref sig .tc := ⟨.hbm, 68, rfl⟩
abbrev main_v47 : Ref sig .tc := ⟨.hbm, 69, rfl⟩
abbrev main_v48 : Ref sig .tc := ⟨.hbm, 70, rfl⟩
abbrev main_cst_3 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== HeadLast.lean ====
abbrev S8192x2048 : Shape := ⟨2, ![8192, 2048]⟩
abbrev S512x2048 : Shape := ⟨2, ![512, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩
abbrev S512 : Shape := ⟨1, ![512]⟩
abbrev S512x1 : Shape := ⟨2, ![512, 1]⟩
abbrev S512x256 : Shape := ⟨2, ![512, 256]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .hbm, ⟨10, _⟩ => ⟨S512x2048, .f32⟩
  | .hbm, ⟨11, _⟩ => ⟨S2048x5632, .bf16⟩
  | .hbm, ⟨12, _⟩ => ⟨S2048x5632, .bf16⟩
  | .hbm, ⟨13, _⟩ => ⟨S5632x2048, .bf16⟩
  | .local _ .vmem, ⟨0, _⟩ => ⟨S1024x2048, .f32⟩
  | .local _ .vmem, ⟨1, _⟩ => ⟨S512x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1x2048, .f32⟩
  | .local _ .vmem, ⟨10, _⟩ => ⟨S1024x2048, .f32⟩
  | .local _ .vmem, ⟨11, _⟩ => ⟨S512x2048, .f32⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S256x2048, .bf16⟩
  | .local _ .vmem, ⟨17, _⟩ => ⟨S256x2048, .bf16⟩
  | .local _ .vmem, ⟨18, _⟩ => ⟨S1024x2048, .bf16⟩
  | .local _ .vmem, ⟨19, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg0 : BitVec 32 := BitVec.ofNat 32 (i 0).val
  let c21_i32 : BitVec 32 := 21#32
  let v6 : BitVec 1 := Scalar.cmpi .eq arg0 c21_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== HeadLastRefIdeal.lean ====
abbrev S8192x2048 : Shape := ⟨2, ![8192, 2048]⟩
abbrev S512x2048 : Shape := ⟨2, ![512, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S512 : Shape := ⟨1, ![512]⟩
abbrev S512x1 : Shape := ⟨2, ![512, 1]⟩
abbrev S512x5632 : Shape := ⟨2, ![512, 5632]⟩

abbrev nBuf : Space → Nat
  | .hbm => 114
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S2048, .f32⟩
  | .hbm, ⟨7, _⟩ => ⟨S1x2048x5632, .f32⟩
  | .hbm, ⟨8, _⟩ => ⟨S2048x5632, .f32⟩
  | .hbm, ⟨9, _⟩ => ⟨S1x2048x5632, .f32⟩
  | .hbm, ⟨10, _⟩ => ⟨S2048x5632, .f32⟩
  | .hbm, ⟨11, _⟩ => ⟨S1x5632x2048, .f32⟩
  | .hbm, ⟨12, _⟩ => ⟨S5632x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x5632, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S_, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x5632, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192x1, .f32⟩
  | .hbm, ⟨55, _⟩ => ⟨S8192x1, .f32⟩
  | .hbm, ⟨56, _⟩ => ⟨S8192x1, .f32⟩
  | .hbm, ⟨57, _⟩ => ⟨S8192x2048, .f32⟩
  | .hbm, ⟨58, _⟩ => ⟨S8192x2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S512x2048, .f32⟩
  | .hbm, ⟨63, _⟩ => ⟨S_, .f32⟩
  | .hbm, ⟨64, _⟩ => ⟨S512, .f32⟩
  | .hbm, ⟨65, _⟩ => ⟨S512x1, .f32⟩
  | .hbm, ⟨66, _⟩ => ⟨S_, .f32⟩
  | .hbm, ⟨67, _⟩ => ⟨S512x1, .f32⟩
  | .hbm, ⟨68, _⟩ => ⟨S512x1, .f32⟩
  | .hbm, ⟨69, _⟩ => ⟨S_, .f32⟩
  | .hbm, ⟨70, _⟩ => ⟨S512x1, .f32⟩
  | .hbm, ⟨71, _⟩ => ⟨S512x1, .f32⟩
  | .hbm, ⟨72, _⟩ => ⟨S512x1, .f32⟩
  | .hbm, ⟨73, _⟩ => ⟨S512x2048, .f32⟩
  | .hbm, ⟨74, _⟩ => ⟨S512x2048, .f32⟩
  | .hbm, ⟨75, _⟩ => ⟨S1x2048, .f32⟩
  | .hbm, ⟨76, _⟩ => ⟨S512x2048, .f32⟩
  | .hbm, ⟨77, _⟩ => ⟨S512x2048, .f32⟩
  | .hbm, ⟨78, _⟩ => ⟨S512x5632, .f32⟩
  | .hbm, ⟨79, _⟩ => ⟨S512x5632, .f32⟩
  | .hbm, ⟨80, _⟩ => ⟨S512x5632, .f32⟩
  | .hbm, ⟨81, _⟩ => ⟨S_, .f32⟩
  | .hbm, ⟨82, _⟩ => ⟨S512x5632, .f32⟩
  | .hbm, ⟨83, _⟩ => ⟨S512x5632, .f32⟩
  | .hbm, ⟨84, _⟩ => ⟨S_, .f32⟩
  | .hbm, ⟨85, _⟩ => ⟨S512x5632, .f32⟩
  | .hbm, ⟨86, _⟩ => ⟨S512x5632, .f32⟩
  | .hbm, ⟨87, _⟩ => ⟨S512x5632, .f32⟩
  | .hbm, ⟨88, _⟩ => ⟨S512x5632, .f32⟩
  | .hbm, ⟨89, _⟩ => ⟨S512x5632, .f32⟩
  | .hbm, ⟨90, _⟩ => ⟨S512x2048, .f32⟩
  | .hbm, ⟨91, _⟩ => ⟨S_, .f32⟩
  | .hbm, ⟨92, _⟩ => ⟨S512x2048, .f32⟩
  | .hbm, ⟨93, _⟩ => ⟨S512x2048, .f32⟩
  | .hbm, ⟨94, _⟩ => ⟨S512x2048, .f32⟩
  | .hbm, ⟨95, _⟩ => ⟨S512x2048, .f32⟩
  | .hbm, ⟨96, _⟩ => ⟨S_, .f32⟩
  | .hbm, ⟨97, _⟩ => ⟨S512, .f32⟩
  | .hbm, ⟨98, _⟩ => ⟨S512x1, .f32⟩
  | .hbm, ⟨99, _⟩ => ⟨S_, .f32⟩
  | .hbm, ⟨100, _⟩ => ⟨S512x1, .f32⟩
  | .hbm, ⟨101, _⟩ => ⟨S512x1, .f32⟩
  | .hbm, ⟨102, _⟩ => ⟨S_, .f32⟩
  | .hbm, ⟨103, _⟩ => ⟨S512x1, .f32⟩
  | .hbm, ⟨104, _⟩ => ⟨S512x1, .f32⟩
  | .hbm, ⟨105, _⟩ => ⟨S512x1, .f32⟩
  | .hbm, ⟨106, _⟩ => ⟨S512x2048, .f32⟩
  | .hbm, ⟨107, _⟩ => ⟨S512x2048, .f32⟩
  | .hbm, ⟨108, _⟩ => ⟨S1x2048, .f32⟩
  | .hbm, ⟨109, _⟩ => ⟨S512x2048, .f32⟩
  | .hbm, ⟨110, _⟩ => ⟨S512x2048, .f32⟩
  | .hbm, ⟨111, _⟩ => ⟨S2048x5632, .bf16⟩
  | .hbm, ⟨112, _⟩ => ⟨S2048x5632, .bf16⟩
  | .hbm, ⟨113, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_3 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_v30 : Ref sig .tc := ⟨.hbm, 51, rfl⟩
abbrev main_v31 : Ref sig .tc := ⟨.hbm, 52, rfl⟩
abbrev main_cst_5 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_cst_7 : Ref sig .tc := ⟨.hbm, 66, rfl⟩
abbrev main_v43 : Ref sig .tc := ⟨.hbm, 67, rfl⟩
abbrev main_v44 : Ref sig .tc := ⟨.hbm, 68, rfl⟩
abbrev main_cst_8 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_v0 : Ref sig .tc := ⟨.hbm, 79, rfl⟩
abbrev main_call1_v1 : Ref sig .tc := ⟨.hbm, 80, rfl⟩
abbrev main_call1_cst : Ref sig .tc := ⟨.hbm, 81, rfl⟩
abbrev main_call1_v2 : Ref sig .tc := ⟨.hbm, 82, rfl⟩
abbrev main_call1_v3 : Ref sig .tc := ⟨.hbm, 83, rfl⟩
abbrev main_call1_cst_0 : Ref sig .tc := ⟨.hbm, 84, rfl⟩
abbrev main_call1_v4 : Ref sig .tc := ⟨.hbm, 85, rfl⟩
abbrev main_call1_v5 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_9 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_10 : Ref sig .tc := ⟨.hbm, 96, rfl⟩
abbrev main_v62 : Ref sig .tc := ⟨.hbm, 97, rfl⟩
abbrev main_v63 : Ref sig .tc := ⟨.hbm, 98, rfl⟩
abbrev main_cst_11 : Ref sig .tc := ⟨.hbm, 99, rfl⟩
abbrev main_v64 : Ref sig .tc := ⟨.hbm, 100, rfl⟩
abbrev main_v65 : Ref sig .tc := ⟨.hbm, 101, rfl⟩
abbrev main_cst_12 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== FfnLast.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 10
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![7, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg1 : BitVec 32 := BitVec.ofNat 32 (i 1).val
  let c10_i32 : BitVec 32 := 10#32
  let v6 : BitVec 1 := Scalar.cmpi .eq arg1 c10_i32
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnLastRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S7168x2048 : Shape := ⟨2, ![7168, 2048]⟩
abbrev S_ : Shape := ⟨0, ![]⟩
abbrev S7168 : Shape := ⟨1, ![7168]⟩
abbrev S7168x1 : Shape := ⟨2, ![7168, 1]⟩
abbrev S1x2048 : Shape := ⟨2, ![1, 2048]⟩
abbrev S7168x5632 : Shape := ⟨2, ![7168, 5632]⟩
abbrev S1024x2048 : Shape := ⟨2, ![1024, 2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S2048, .f32⟩
  | .hbm, ⟨6, _⟩ => ⟨S8192x2048, .f32⟩
  | .hbm, ⟨7, _⟩ => ⟨S7168x2048, .f32⟩
  | .hbm, ⟨8, _⟩ => ⟨S2048x5632, .f32⟩
  | .hbm, ⟨9, _⟩ => ⟨S2048x5632, .f32⟩
  | .hbm, ⟨10, _⟩ => ⟨S5632x2048, .f32⟩
  | .hbm, ⟨11, _⟩ => ⟨S7168x2048, .f32⟩
  | .hbm, ⟨12, _⟩ => ⟨S_, .f32⟩
  | .hbm, ⟨13, _⟩ => ⟨S7168, .f32⟩
  | .hbm, ⟨14, _⟩ => ⟨S7168x1, .f32⟩
  | .hbm, ⟨15, _⟩ => ⟨S_, .f32⟩
  | .hbm, ⟨16, _⟩ => ⟨S7168x1, .f32⟩
  | .hbm, ⟨17, _⟩ => ⟨S7168x1, .f32⟩
  | .hbm, ⟨18, _⟩ => ⟨S_, .f32⟩
  | .hbm, ⟨19, _⟩ => ⟨S7168x1, .f32⟩
  | .hbm, ⟨20, _⟩ => ⟨S7168x1, .f32⟩
  | .hbm, ⟨21, _⟩ => ⟨S7168x1, .f32⟩
  | .hbm, ⟨22, _⟩ => ⟨S7168x2048, .f32⟩
  | .hbm, ⟨23, _⟩ => ⟨S7168x2048, .f32⟩
  | .hbm, ⟨24, _⟩ => ⟨S1x2048, .f32⟩
  | .hbm, ⟨25, _⟩ => ⟨S7168x2048, .f32⟩
  | .hbm, ⟨26, _⟩ => ⟨S7168x2048, .f32⟩
  | .hbm, ⟨27, _⟩ => ⟨S7168x5632, .f32⟩
  | .hbm, ⟨28, _⟩ => ⟨S7168x5632, .f32⟩
  | .hbm, ⟨29, _⟩ => ⟨S7168x5632, .f32⟩
  | .hbm, ⟨30, _⟩ => ⟨S_, .f32⟩
  | .hbm, ⟨31, _⟩ => ⟨S7168x5632, .f32⟩
  | .hbm, ⟨32, _⟩ => ⟨S7168x5632, .f32⟩
  | .hbm, ⟨33, _⟩ => ⟨S_, .f32⟩
  | .hbm, ⟨34, _⟩ => ⟨S7168x5632, .f32⟩
  | .hbm, ⟨35, _⟩ => ⟨S7168x5632, .f32⟩
  | .hbm, ⟨36, _⟩ => ⟨S7168x5632, .f32⟩
  | .hbm, ⟨37, _⟩ => ⟨S7168x5632, .f32⟩
  | .hbm, ⟨38, _⟩ => ⟨S7168x5632, .f32⟩
  | .hbm, ⟨39, _⟩ => ⟨S7168x2048, .f32⟩
  | .hbm, ⟨40, _⟩ => ⟨S_, .f32⟩
  | .hbm, ⟨41, _⟩ => ⟨S7168x2048, .f32⟩
  | .hbm, ⟨42, _⟩ => ⟨S7168x2048, .f32⟩
  | .hbm, ⟨43, _⟩ => ⟨S7168x2048, .f32⟩
  | .hbm, ⟨44, _⟩ => ⟨S7168x2048, .f32⟩
  | .hbm, ⟨45, _⟩ => ⟨S_, .f32⟩
  | .hbm, ⟨46, _⟩ => ⟨S7168, .f32⟩
  | .hbm, ⟨47, _⟩ => ⟨S7168x1, .f32⟩
  | .hbm, ⟨48, _⟩ => ⟨S_, .f32⟩
  | .hbm, ⟨49, _⟩ => ⟨S7168x1, .f32⟩
  | .hbm, ⟨50, _⟩ => ⟨S7168x1, .f32⟩
  | .hbm, ⟨51, _⟩ => ⟨S_, .f32⟩
  | .hbm, ⟨52, _⟩ => ⟨S7168x1, .f32⟩
  | .hbm, ⟨53, _⟩ => ⟨S7168x1, .f32⟩
  | .hbm, ⟨54, _⟩ => ⟨S7168x1, .f32⟩
  | .hbm, ⟨55, _⟩ => ⟨S7168x2048, .f32⟩
  | .hbm, ⟨56, _⟩ => ⟨S7168x2048, .f32⟩
  | .hbm, ⟨57, _⟩ => ⟨S1x2048, .f32⟩
  | .hbm, ⟨58, _⟩ => ⟨S7168x2048, .f32⟩
  | .hbm, ⟨59, _⟩ => ⟨S7168x2048, .f32⟩
  | .hbm, ⟨60, _⟩ => ⟨S1024x2048, .f32⟩
  | .hbm, ⟨61, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_cst_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩

abbrev nD : Nat := 1
abbrev τ : Topo := Topo.v7x

variable {F : FTy → Type} [FloatOps F]
-- ==== HeadMid.lean ====
abbrev S8192x2048 : Shape := ⟨2, ![8192, 2048]⟩
abbrev S512x2048 : Shape := ⟨2, ![512, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048 : Shape := ⟨2, ![1, 2048]⟩
abbrev S2048x5632 : Shape := ⟨2, ![2048, 5632]⟩
abbrev S5632x2048 : Shape := ⟨2, ![5632, 2048]⟩
abbrev S1024x2048 : Shape := ⟨2, ![1024, 2048]⟩
abbrev S1x2048x256 : Shape := ⟨3, ![1, 2048, 256]⟩
abbrev S1x256x2048 : Shape := ⟨3, ![1, 256, 2048]⟩
abbrev S2048x256 : Shape := ⟨2, ![2048, 256]⟩
abbrev S256x2048 : Shape := ⟨2, ![256, 2048]⟩
abbrev S1024 : Shape := ⟨1, ![1024]⟩
abbrev S1024x1 : Shape := ⟨2, ![1024, 1]⟩
abbrev S1024x256 : Shape := ⟨2, ![1024, 256]⟩
abbrev S512 : Shape := ⟨1, ![512]⟩
abbrev S512x1 : Shape := ⟨2, ![512, 1]⟩
abbrev S512x256 : Shape := ⟨2, ![512, 256]⟩

abbrev nBuf : Space → Nat
  | .hbm => 12
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S1x2048, .f32⟩
  | .hbm, ⟨7, _⟩ => ⟨S8192x2048, .f32⟩
  | .hbm, ⟨8, _⟩ => ⟨S512x2048, .f32⟩
  | .hbm, ⟨9, _⟩ => ⟨S2048x5632, .bf16⟩
  | .hbm, ⟨10, _⟩ => ⟨S2048x5632, .bf16⟩
  | .hbm, ⟨11, _⟩ => ⟨S5632x2048, .bf16⟩
  | .local _ .vmem, ⟨0, _⟩ => ⟨S1024x2048, .f32⟩
  | .local _ .vmem, ⟨1, _⟩ => ⟨S512x2048, .f32⟩
  | .local _ .vmem, ⟨2, _⟩ => ⟨S1x2048, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x2048x256, .f32⟩
  | .local _ .vmem, ⟨7, _⟩ => ⟨S1x256x2048, .f32⟩
  | .local _ .vmem, ⟨8, _⟩ => ⟨S1x256x2048, .f32⟩
  | .local _ .vmem, ⟨9, _⟩ => ⟨S1024x2048, .f32⟩
  | .local _ .vmem, ⟨10, _⟩ => ⟨S512x2048, .f32⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S256x2048, .bf16⟩
  | .local _ .vmem, ⟨16, _⟩ => ⟨S256x2048, .bf16⟩
  | .local _ .vmem, ⟨17, _⟩ => ⟨S1024x2048, .bf16⟩
  | .local _ .vmem, ⟨18, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev main_v1_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== HeadMidRefIdeal.lean ====
abbrev S8192x2048 : Shape := ⟨2, ![8192, 2048]⟩
abbrev S512x2048 : Shape := ⟨2, ![512, 2048]⟩
abbrev S2048 : Shape := ⟨1, ![2048]⟩
abbrev S2x2048x5632 : Shape := ⟨3, ![2, 2048, 5632]⟩
abbrev S2x5632x2048 : Shape := ⟨3, ![2, 5632, 2048]⟩
abbrev S1x2048x5632 : Shape := ⟨3, ![1, 2048, 5632]⟩
abbrev S2048x5632 : Shape := ⟨2, ![2048, 5632]⟩
abbrev S1x5632x2048 : Shape := ⟨3, ![1, 5632, 2048]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩
abbrev S512 : Shape := ⟨1, ![512]⟩
abbrev S512x1 : Shape := ⟨2, ![512, 1]⟩
abbrev S512x5632 : Shape := ⟨2, ![512, 5632]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2x2048x5632, .f32⟩
  | .hbm, ⟨4, _⟩ => ⟨S2x2048x5632, .f32⟩
  | .hbm, ⟨5, _⟩ => ⟨S2x5632x2048, .f32⟩
  | .hbm, ⟨6, _⟩ => ⟨S1x2048x5632, .f32⟩
  | .hbm, ⟨7, _⟩ => ⟨S2048x5632, .f32⟩
  | .hbm, ⟨8, _⟩ => ⟨S1x2048x5632, .f32⟩
  | .hbm, ⟨9, _⟩ => ⟨S2048x5632, .f32⟩
  | .hbm, ⟨10, _⟩ => ⟨S1x5632x2048, .f32⟩
  | .hbm, ⟨11, _⟩ => ⟨S5632x2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x5632, .f32⟩
  | .hbm, ⟨29, _⟩ => ⟨S8192x5632, .f32⟩
  | .hbm, ⟨30, _⟩ => ⟨S8192x5632, .f32⟩
  | .hbm, ⟨31, _⟩ => ⟨S_, .f32⟩
  | .hbm, ⟨32, _⟩ => ⟨S8192x5632, .f32⟩
  | .hbm, ⟨33, _⟩ => ⟨S8192x5632, .f32⟩
  | .hbm, ⟨34, _⟩ => ⟨S_, .f32⟩
  | .hbm, ⟨35, _⟩ => ⟨S8192x5632, .f32⟩
  | .hbm, ⟨36, _⟩ => ⟨S8192x5632, .f32⟩
  | .hbm, ⟨37, _⟩ => ⟨S8192x5632, .f32⟩
  | .hbm, ⟨38, _⟩ => ⟨S8192x5632, .f32⟩
  | .hbm, ⟨39, _⟩ => ⟨S8192x5632, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S512x2048, .f32⟩
  | .hbm, ⟨46, _⟩ => ⟨S_, .f32⟩
  | .hbm, ⟨47, _⟩ => ⟨S512, .f32⟩
  | .hbm, ⟨48, _⟩ => ⟨S512x1, .f32⟩
  | .hbm, ⟨49, _⟩ => ⟨S_, .f32⟩
  | .hbm, ⟨50, _⟩ => ⟨S512x1, .f32⟩
  | .hbm, ⟨51, _⟩ => ⟨S512x1, .f32⟩
  | .hbm, ⟨52, _⟩ => ⟨S_, .f32⟩
  | .hbm, ⟨53, _⟩ => ⟨S512x1, .f32⟩
  | .hbm, ⟨54, _⟩ => ⟨S512x1, .f32⟩
  | .hbm, ⟨55, _⟩ => ⟨S512x1, .f32⟩
  | .hbm, ⟨56, _⟩ => ⟨S512x2048, .f32⟩
  | .hbm, ⟨57, _⟩ => ⟨S512x2048, .f32⟩
  | .hbm, ⟨58, _⟩ => ⟨S1x2048, .f32⟩
  | .hbm, ⟨59, _⟩ => ⟨S512x2048, .f32⟩
  | .hbm, ⟨60, _⟩ => ⟨S512x2048, .f32⟩
  | .hbm, ⟨61, _⟩ => ⟨S512x5632, .f32⟩
  | .hbm, ⟨62, _⟩ => ⟨S512x5632, .f32⟩
  | .hbm, ⟨63, _⟩ => ⟨S512x5632, .f32⟩
  | .hbm, ⟨64, _⟩ => ⟨S_, .f32⟩
  | .hbm, ⟨65, _⟩ => ⟨S512x5632, .f32⟩
  | .hbm, ⟨66, _⟩ => ⟨S512x5632, .f32⟩
  | .hbm, ⟨67, _⟩ => ⟨S_, .f32⟩
  | .hbm, ⟨68, _⟩ => ⟨S512x5632, .f32⟩
  | .hbm, ⟨69, _⟩ => ⟨S512x5632, .f32⟩
  | .hbm, ⟨70, _⟩ => ⟨S512x5632, .f32⟩
  | .hbm, ⟨71, _⟩ => ⟨S512x5632, .f32⟩
  | .hbm, ⟨72, _⟩ => ⟨S512x5632, .f32⟩
  | .hbm, ⟨73, _⟩ => ⟨S512x2048, .f32⟩
  | .hbm, ⟨74, _⟩ => ⟨S_, .f32⟩
  | .hbm, ⟨75, _⟩ => ⟨S512x2048, .f32⟩
  | .hbm, ⟨76, _⟩ => ⟨S512x2048, .f32⟩
  | .hbm, ⟨77, _⟩ => ⟨S512x2048, .f32⟩
  | .hbm, ⟨78, _⟩ => ⟨S2048x5632, .bf16⟩
  | .hbm, ⟨79, _⟩ => ⟨S2048x5632, .bf16⟩
  | .hbm, ⟨80, _⟩ => ⟨S5632x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_cst_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_call1_v0 : Ref sig .tc := ⟨.hbm, 62, rfl⟩
abbrev main_call1_v1 : Ref sig .tc := ⟨.hbm, 63, rfl⟩
abbrev main_call1_cst : Ref sig .tc := ⟨.hbm, 64, rfl⟩
abbrev main_call1_v2 : Ref sig .tc := ⟨.hbm, 65, rfl⟩
abbrev main_call1_v3 : Ref sig .tc := ⟨.hbm, 66, rfl⟩
abbrev main_call1_cst_0 : Ref sig .tc := ⟨.hbm, 67, rfl⟩
abbrev main_call1_v4 : Ref sig .tc := ⟨.hbm, 68, rfl⟩
abbrev main_call1_v5 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_6 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩

abbrev nD : Nat := 1
abbrev τ : Topo := Topo.v7x

variable {F : FTy → Type} [FloatOps F]
-- ==== FfnMid.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S1x2048, .f32⟩
  | .hbm, ⟨7, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![7, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnMidRefIdeal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S7168x2048 : Shape := ⟨2, ![7168, 2048]⟩
abbrev S_ : Shape := ⟨0, ![]⟩
abbrev S7168 : Shape := ⟨1, ![7168]⟩
abbrev S7168x1 : Shape := ⟨2, ![7168, 1]⟩
abbrev S1x2048 : Shape := ⟨2, ![1, 2048]⟩
abbrev S7168x5632 : Shape := ⟨2, ![7168, 5632]⟩
abbrev S1024x2048 : Shape := ⟨2, ![1024, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S7168x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S7168x2048, .f32⟩
  | .hbm, ⟨11, _⟩ => ⟨S_, .f32⟩
  | .hbm, ⟨12, _⟩ => ⟨S7168, .f32⟩
  | .hbm, ⟨13, _⟩ => ⟨S7168x1, .f32⟩
  | .hbm, ⟨14, _⟩ => ⟨S_, .f32⟩
  | .hbm, ⟨15, _⟩ => ⟨S7168x1, .f32⟩
  | .hbm, ⟨16, _⟩ => ⟨S7168x1, .f32⟩
  | .hbm, ⟨17, _⟩ => ⟨S_, .f32⟩
  | .hbm, ⟨18, _⟩ => ⟨S7168x1, .f32⟩
  | .hbm, ⟨19, _⟩ => ⟨S7168x1, .f32⟩
  | .hbm, ⟨20, _⟩ => ⟨S7168x1, .f32⟩
  | .hbm, ⟨21, _⟩ => ⟨S7168x2048, .f32⟩
  | .hbm, ⟨22, _⟩ => ⟨S7168x2048, .f32⟩
  | .hbm, ⟨23, _⟩ => ⟨S1x2048, .f32⟩
  | .hbm, ⟨24, _⟩ => ⟨S7168x2048, .f32⟩
  | .hbm, ⟨25, _⟩ => ⟨S7168x2048, .f32⟩
  | .hbm, ⟨26, _⟩ => ⟨S7168x5632, .f32⟩
  | .hbm, ⟨27, _⟩ => ⟨S7168x5632, .f32⟩
  | .hbm, ⟨28, _⟩ => ⟨S7168x5632, .f32⟩
  | .hbm, ⟨29, _⟩ => ⟨S_, .f32⟩
  | .hbm, ⟨30, _⟩ => ⟨S7168x5632, .f32⟩
  | .hbm, ⟨31, _⟩ => ⟨S7168x5632, .f32⟩
  | .hbm, ⟨32, _⟩ => ⟨S_, .f32⟩
  | .hbm, ⟨33, _⟩ => ⟨S7168x5632, .f32⟩
  | .hbm, ⟨34, _⟩ => ⟨S7168x5632, .f32⟩
  | .hbm, ⟨35, _⟩ => ⟨S7168x5632, .f32⟩
  | .hbm, ⟨36, _⟩ => ⟨S7168x5632, .f32⟩
  | .hbm, ⟨37, _⟩ => ⟨S7168x5632, .f32⟩
  | .hbm, ⟨38, _⟩ => ⟨S7168x2048, .f32⟩
  | .hbm, ⟨39, _⟩ => ⟨S_, .f32⟩
  | .hbm, ⟨40, _⟩ => ⟨S7168x2048, .f32⟩
  | .hbm, ⟨41, _⟩ => ⟨S7168x2048, .f32⟩
  | .hbm, ⟨42, _⟩ => ⟨S7168x2048, .f32⟩
  | .hbm, ⟨43, _⟩ => ⟨S1024x2048, .f32⟩
  | .hbm, ⟨44, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩

abbrev nD : Nat := 1
abbrev τ : Topo := Topo.v7x

variable {F : FTy → Type} [FloatOps F]
-- ==== SwaQkv.lean ====
abbrev S8192x2048 : Shape := ⟨2, ![8192, 2048]⟩
abbrev S512x2048 : Shape := ⟨2, ![512, 2048]⟩
abbrev S2048 : Shape := ⟨1, ![2048]⟩
abbrev S2048x3072 : Shape := ⟨2, ![2048, 3072]⟩
abbrev S3072 : Shape := ⟨1, ![3072]⟩
abbrev S1x2048 : Shape := ⟨2, ![1, 2048]⟩
abbrev S1x3072 : Shape := ⟨2, ![1, 3072]⟩
abbrev S8704x2048 : Shape := ⟨2, ![8704, 2048]⟩
abbrev S8704x1024 : Shape := ⟨2, ![8704, 1024]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S128x1024 : Shape := ⟨2, ![128, 1024]⟩
abbrev S1x128x1024 : Shape := ⟨3, ![1, 128, 1024]⟩
abbrev S2x128x1024 : Shape := ⟨3, ![2, 128, 1024]⟩
abbrev S2x128x512 : Shape := ⟨3, ![2, 128, 512]⟩
abbrev S2x128x8x64 : Shape := ⟨4, ![2, 128, 8, 64]⟩

abbrev nBuf : Space → Nat
  | .hbm => 18
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048x3072, .bf16⟩
  | .hbm, ⟨4, _⟩ => ⟨S3072, .f32⟩
  | .hbm, ⟨5, _⟩ => ⟨S1x2048, .f32⟩
  | .hbm, ⟨6, _⟩ => ⟨S1x3072, .f32⟩
  | .hbm, ⟨7, _⟩ => ⟨S8704x2048, .bf16⟩
  | .hbm, ⟨8, _⟩ => ⟨S8704x1024, .f32⟩
  | .hbm, ⟨9, _⟩ => ⟨S128x1024, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S2x128x512, .f32⟩
  | .hbm, ⟨15, _⟩ => ⟨S2x128x8x64, .f32⟩
  | .hbm, ⟨16, _⟩ => ⟨S2x128x512, .f32⟩
  | .hbm, ⟨17, _⟩ => ⟨S2x128x8x64, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x3072, .bf16⟩
  | .local _ .vmem, ⟨6, _⟩ => ⟨S1x3072, .f32⟩
  | .local _ .vmem, ⟨7, _⟩ => ⟨S512x2048, .bf16⟩
  | .local _ .vmem, ⟨8, _⟩ => ⟨S512x2048, .bf16⟩
  | .local _ .vmem, ⟨9, _⟩ => ⟨S512x1024, .f32⟩
  | .local _ .vmem, ⟨10, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwaQkvRefIdeal.lean ====
abbrev S8192x2048 : Shape := ⟨2, ![8192, 2048]⟩
abbrev S512x2048 : Shape := ⟨2, ![512, 2048]⟩
abbrev S2048 : Shape := ⟨1, ![2048]⟩
abbrev S2048x3072 : Shape := ⟨2, ![2048, 3072]⟩
abbrev S3072 : Shape := ⟨1, ![3072]⟩
abbrev S8704x2048 : Shape := ⟨2, ![8704, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x3072 : Shape := ⟨2, ![8704, 3072]⟩
abbrev S1x3072 : Shape := ⟨2, ![1, 3072]⟩
abbrev S8704x1024 : Shape := ⟨2, ![8704, 1024]⟩
abbrev S8192x512 : Shape := ⟨2, ![8192, 512]⟩
abbrev S2x4096x8x64 : Shape := ⟨4, ![2, 4096, 8, 64]⟩
abbrev S2x128x8x64 : Shape := ⟨4, ![2, 128, 8, 64]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048x3072, .bf16⟩
  | .hbm, ⟨4, _⟩ => ⟨S3072, .f32⟩
  | .hbm, ⟨5, _⟩ => ⟨S8704x2048, .f32⟩
  | .hbm, ⟨6, _⟩ => ⟨S8704x2048, .f32⟩
  | .hbm, ⟨7, _⟩ => ⟨S_, .f32⟩
  | .hbm, ⟨8, _⟩ => ⟨S8704, .f32⟩
  | .hbm, ⟨9, _⟩ => ⟨S8704x1, .f32⟩
  | .hbm, ⟨10, _⟩ => ⟨S_, .f32⟩
  | .hbm, ⟨11, _⟩ => ⟨S8704x1, .f32⟩
  | .hbm, ⟨12, _⟩ => ⟨S8704x1, .f32⟩
  | .hbm, ⟨13, _⟩ => ⟨S_, .f32⟩
  | .hbm, ⟨14, _⟩ => ⟨S8704x1, .f32⟩
  | .hbm, ⟨15, _⟩ => ⟨S8704x1, .f32⟩
  | .hbm, ⟨16, _⟩ => ⟨S8704x1, .f32⟩
  | .hbm, ⟨17, _⟩ => ⟨S8704x2048, .f32⟩
  | .hbm, ⟨18, _⟩ => ⟨S8704x2048, .f32⟩
  | .hbm, ⟨19, _⟩ => ⟨S1x2048, .f32⟩
  | .hbm, ⟨20, _⟩ => ⟨S8704x2048, .f32⟩
  | .hbm, ⟨21, _⟩ => ⟨S8704x2048, .f32⟩
  | .hbm, ⟨22, _⟩ => ⟨S2048x3072, .f32⟩
  | .hbm, ⟨23, _⟩ => ⟨S8704x3072, .f32⟩
  | .hbm, ⟨24, _⟩ => ⟨S1x3072, .f32⟩
  | .hbm, ⟨25, _⟩ => ⟨S8704x3072, .f32⟩
  | .hbm, ⟨26, _⟩ => ⟨S8704x3072, .f32⟩
  | .hbm, ⟨27, _⟩ => ⟨S8704x2048, .f32⟩
  | .hbm, ⟨28, _⟩ => ⟨S8704x1024, .f32⟩
  | .hbm, ⟨29, _⟩ => ⟨S8192x512, .f32⟩
  | .hbm, ⟨30, _⟩ => ⟨S2x4096x8x64, .f32⟩
  | .hbm, ⟨31, _⟩ => ⟨S8192x512, .f32⟩
  | .hbm, ⟨32, _⟩ => ⟨S2x4096x8x64, .f32⟩
  | .hbm, ⟨33, _⟩ => ⟨S8704x2048, .bf16⟩
  | .hbm, ⟨34, _⟩ => ⟨S2x128x8x64, .f32⟩
  | .hbm, ⟨35, _⟩ => ⟨S2x128x8x64, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== GlaIn.lean ====
abbrev S8192x2048 : Shape := ⟨2, ![8192, 2048]⟩
abbrev S512x2048 : Shape := ⟨2, ![512, 2048]⟩
abbrev S2048 : Shape := ⟨1, ![2048]⟩
abbrev S2048x6160 : Shape := ⟨2, ![2048, 6160]⟩
abbrev S16x1024 : Shape := ⟨2, ![16, 1024]⟩
abbrev S1024 : Shape := ⟨1, ![1024]⟩
abbrev S_ : Shape := ⟨0, ![]⟩
abbrev S6144 : Shape := ⟨1, ![6144]⟩
abbrev S1x2048 : Shape := ⟨2, ![1, 2048]⟩
abbrev S1x6144 : Shape := ⟨2, ![1, 6144]⟩
abbrev S1x1024 : Shape := ⟨2, ![1, 1024]⟩
abbrev S8704x6144 : Shape := ⟨2, ![8704, 6144]⟩
abbrev S8704x1024 : Shape := ⟨2, ![8704, 1024]⟩
abbrev S512x6144 : Shape := ⟨2, ![512, 6144]⟩
abbrev S512x1024 : Shape := ⟨2, ![512, 1024]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩
abbrev S1x512 : Shape := ⟨2, ![1, 512]⟩
abbrev S2048x16 : Shape := ⟨2, ![2048, 16]⟩
abbrev S512x16 : Shape := ⟨2, ![512, 16]⟩

abbrev nBuf : Space → Nat
  | .hbm => 15
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048x6160, .f32⟩
  | .hbm, ⟨4, _⟩ => ⟨S16x1024, .f32⟩
  | .hbm, ⟨5, _⟩ => ⟨S1024, .f32⟩
  | .hbm, ⟨6, _⟩ => ⟨S2048x6160, .bf16⟩
  | .hbm, ⟨7, _⟩ => ⟨S_, .f32⟩
  | .hbm, ⟨8, _⟩ => ⟨S6144, .f32⟩
  | .hbm, ⟨9, _⟩ => ⟨S16x1024, .bf16⟩
  | .hbm, ⟨10, _⟩ => ⟨S1x2048, .f32⟩
  | .hbm, ⟨11, _⟩ => ⟨S1x6144, .f32⟩
  | .hbm, ⟨12, _⟩ => ⟨S1x1024, .f32⟩
  | .hbm, ⟨13, _⟩ => ⟨S8704x6144, .bf16⟩
  | .hbm, ⟨14, _⟩ => ⟨S8704x1024, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S2048x6160, .bf16⟩
  | .local _ .vmem, ⟨6, _⟩ => ⟨S1x6144, .f32⟩
  | .local _ .vmem, ⟨7, _⟩ => ⟨S16x1024, .bf16⟩
  | .local _ .vmem, ⟨8, _⟩ => ⟨S1x1024, .f32⟩
  | .local _ .vmem, ⟨9, _⟩ => ⟨S512x6144, .bf16⟩
  | .local _ .vmem, ⟨10, _⟩ => ⟨S512x6144, .bf16⟩
  | .local _ .vmem, ⟨11, _⟩ => ⟨S512x1024, .f32⟩
  | .local _ .vmem, ⟨12, _⟩ => ⟨S512x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x6160 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x6144 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x6144 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GlaInRefIdeal.lean ====
abbrev S8192x2048 : Shape := ⟨2, ![8192, 2048]⟩
abbrev S512x2048 : Shape := ⟨2, ![512, 2048]⟩
abbrev S2048 : Shape := ⟨1, ![2048]⟩
abbrev S2048x6160 : Shape := ⟨2, ![2048, 6160]⟩
abbrev S16x1024 : Shape := ⟨2, ![16, 1024]⟩
abbrev S1024 : Shape := ⟨1, ![1024]⟩
abbrev S8704x2048 : Shape := ⟨2, ![8704, 2048]⟩
abbrev S_ : Shape := ⟨0, ![]⟩
abbrev S8704 : Shape := ⟨1, ![8704]⟩
abbrev S8704x1 : Shape := ⟨2, ![8704, 1]⟩
abbrev S1x2048 : Shape := ⟨2, ![1, 2048]⟩
abbrev S8704x6160 : Shape := ⟨2, ![8704, 6160]⟩
abbrev S8704x16 : Shape := ⟨2, ![8704, 16]⟩
abbrev S8704x1024 : Shape := ⟨2, ![8704, 1024]⟩
abbrev S1x1024 : Shape := ⟨2, ![1, 1024]⟩
abbrev S8704x6144 : Shape := ⟨2, ![8704, 6144]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S512x2048, .f32⟩
  | .hbm, ⟨2, _⟩ => ⟨S2048, .f32⟩
  | .hbm, ⟨3, _⟩ => ⟨S2048x6160, .f32⟩
  | .hbm, ⟨4, _⟩ => ⟨S16x1024, .f32⟩
  | .hbm, ⟨5, _⟩ => ⟨S1024, .f32⟩
  | .hbm, ⟨6, _⟩ => ⟨S8704x2048, .f32⟩
  | .hbm, ⟨7, _⟩ => ⟨S8704x2048, .f32⟩
  | .hbm, ⟨8, _⟩ => ⟨S_, .f32⟩
  | .hbm, ⟨9, _⟩ => ⟨S8704, .f32⟩
  | .hbm, ⟨10, _⟩ => ⟨S8704x1, .f32⟩
  | .hbm, ⟨11, _⟩ => ⟨S_, .f32⟩
  | .hbm, ⟨12, _⟩ => ⟨S8704x1, .f32⟩
  | .hbm, ⟨13, _⟩ => ⟨S8704x1, .f32⟩
  | .hbm, ⟨14, _⟩ => ⟨S_, .f32⟩
  | .hbm, ⟨15, _⟩ => ⟨S8704x1, .f32⟩
  | .hbm, ⟨16, _⟩ => ⟨S8704x1, .f32⟩
  | .hbm, ⟨17, _⟩ => ⟨S8704x1, .f32⟩
  | .hbm, ⟨18, _⟩ => ⟨S8704x2048, .f32⟩
  | .hbm, ⟨19, _⟩ => ⟨S8704x2048, .f32⟩
  | .hbm, ⟨20, _⟩ => ⟨S1x2048, .f32⟩
  | .hbm, ⟨21, _⟩ => ⟨S8704x2048, .f32⟩
  | .hbm, ⟨22, _⟩ => ⟨S8704x2048, .f32⟩
  | .hbm, ⟨23, _⟩ => ⟨S8704x6160, .f32⟩
  | .hbm, ⟨24, _⟩ => ⟨S8704x16, .f32⟩
  | .hbm, ⟨25, _⟩ => ⟨S8704x1024, .f32⟩
  | .hbm, ⟨26, _⟩ => ⟨S1x1024, .f32⟩
  | .hbm, ⟨27, _⟩ => ⟨S8704x1024, .f32⟩
  | .hbm, ⟨28, _⟩ => ⟨S8704x1024, .f32⟩
  | .hbm, ⟨29, _⟩ => ⟨S8704x1024, .f32⟩
  | .hbm, ⟨30, _⟩ => ⟨S_, .f32⟩
  | .hbm, ⟨31, _⟩ => ⟨S8704x1024, .f32⟩
  | .hbm, ⟨32, _⟩ => ⟨S8704x1024, .f32⟩
  | .hbm, ⟨33, _⟩ => ⟨S8704x1024, .f32⟩
  | .hbm, ⟨34, _⟩ => ⟨S8704x1024, .f32⟩
  | .hbm, ⟨35, _⟩ => ⟨S8704x1024, .i1⟩
  | .hbm, ⟨36, _⟩ => ⟨S8704x1024, .f32⟩
  | .hbm, ⟨37, _⟩ => ⟨S8704x1024, .f32⟩
  | .hbm, ⟨38, _⟩ => ⟨S8704x1024, .f32⟩
  | .hbm, ⟨39, _⟩ => ⟨S8704x1024, .f32⟩
  | .hbm, ⟨40, _⟩ => ⟨S8704x1024, .f32⟩
  | .hbm, ⟨41, _⟩ => ⟨S8704x1024, .f32⟩
  | .hbm, ⟨42, _⟩ => ⟨S8704x1024, .f32⟩
  | .hbm, ⟨43, _⟩ => ⟨S8704x1024, .f32⟩
  | .hbm, ⟨44, _⟩ => ⟨S8704x1024, .f32⟩
  | .hbm, ⟨45, _⟩ => ⟨S_, .f32⟩
  | .hbm, ⟨46, _⟩ => ⟨S8704x1024, .f32⟩
  | .hbm, ⟨47, _⟩ => ⟨S8704x1024, .f32⟩
  | .hbm, ⟨48, _⟩ => ⟨S8704x6144, .f32⟩
  | .hbm, ⟨49, _⟩ => ⟨S8704x6144, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_call0_cst : Ref sig .tc := ⟨.hbm, 30, rfl⟩
abbrev main_call0_call0_v0 : Ref sig .tc := ⟨.hbm, 31, rfl⟩
abbrev main_call0_call0_v1 : Ref sig .tc := ⟨.hbm, 32, rfl⟩
abbrev main_call0_call0_v2 : Ref sig .tc := ⟨.hbm, 33, rfl⟩
abbrev main_call0_call0_v3 : Ref sig .tc := ⟨.hbm, 34, rfl⟩
abbrev main_call0_call0_v4 : Ref sig .tc := ⟨.hbm, 35, rfl⟩
abbrev main_call0_call0_v5 : Ref sig .tc := ⟨.hbm, 36, rfl⟩
abbrev main_call0_call0_v6 : Ref sig .tc := ⟨.hbm, 37, rfl⟩
abbrev main_call0_call0_v7 : Ref sig .tc := ⟨.hbm, 38, rfl⟩
abbrev main_call0_call0_v8 : Ref sig .tc := ⟨.hbm, 39, rfl⟩
abbrev main_call0_call0_v9 : Ref sig .tc := ⟨.hbm, 40, rfl⟩
abbrev main_call0_call0_v10 : Ref sig .tc := ⟨.hbm, 41, rfl⟩
abbrev main_call0_call0_v11 : Ref sig .tc := ⟨.hbm, 42, rfl⟩
abbrev main_call0_v1 : Ref sig .tc := ⟨.hbm, 43, rfl⟩
abbrev main_v20 : Ref sig .tc := ⟨.hbm, 44, rfl⟩
abbrev main_cst_2 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩

abbrev nD : Nat := 1
abbrev τ : Topo := Topo.v7x

variable {F : FTy → Type} [FloatOps F]
-- ==== SwaCache.lean ====
abbrev S128x128x64 : Shape := ⟨3, ![128, 128, 64]⟩
abbrev S8704x1024 : Shape := ⟨2, ![8704, 1024]⟩
abbrev S128x128x8x64 : Shape := ⟨4, ![128, 128, 8, 64]⟩
abbrev S128x256 : Shape := ⟨2, ![128, 256]⟩
abbrev S128x1 : Shape := ⟨2, ![128, 1]⟩
abbrev S512x1024 : Shape := ⟨2, ![512, 1024]⟩
abbrev S128x4x1024 : Shape := ⟨3, ![128, 4, 1024]⟩
abbrev S128x4x512 : Shape := ⟨3, ![128, 4, 512]⟩
abbrev S_ : Shape := ⟨0, ![]⟩
abbrev S128x8x512 : Shape := ⟨3, ![128, 8, 512]⟩
abbrev S128x128x512 : Shape := ⟨3, ![128, 128, 512]⟩
abbrev S8x128x64 : Shape := ⟨3, ![8, 128, 64]⟩
abbrev S8x8x512 : Shape := ⟨3, ![8, 8, 512]⟩
abbrev S8x128x512 : Shape := ⟨3, ![8, 128, 512]⟩
abbrev S128x512 : Shape := ⟨2, ![128, 512]⟩
abbrev S120x512 : Shape := ⟨2, ![120, 512]⟩
abbrev S1x128x64 : Shape := ⟨3, ![1, 128, 64]⟩
abbrev S128x64 : Shape := ⟨2, ![128, 64]⟩
abbrev S1x128x512 : Shape := ⟨3, ![1, 128, 512]⟩
abbrev S1x8x512 : Shape := ⟨3, ![1, 8, 512]⟩
abbrev S8x512 : Shape := ⟨2, ![8, 512]⟩
abbrev S256x512 : Shape := ⟨2, ![256, 512]⟩
abbrev S128 : Shape := ⟨1, ![128]⟩
abbrev S1x124x512 : Shape := ⟨3, ![1, 124, 512]⟩
abbrev S124x512 : Shape := ⟨2, ![124, 512]⟩
abbrev S1x4x512 : Shape := ⟨3, ![1, 4, 512]⟩
abbrev S4x512 : Shape := ⟨2, ![4, 512]⟩

abbrev nBuf : Space → Nat
  | .hbm => 21
  | .vmem => 18
  | .smem => 0
  | _ => 0

abbrev bufTy : (tb : Table) → Fin (tcTables nBuf tb) → BufTy
  | .hbm, ⟨0, _⟩ => ⟨S128x128x64, .f32⟩
  | .hbm, ⟨1, _⟩ => ⟨S8704x1024, .f32⟩
  | .hbm, ⟨2, _⟩ => ⟨S128x128x8x64, .f32⟩
  | .hbm, ⟨3, _⟩ => ⟨S128x128x8x64, .f32⟩
  | .hbm, ⟨4, _⟩ => ⟨S128x256, .f32⟩
  | .hbm, ⟨5, _⟩ => ⟨S128x1, .f32⟩
  | .hbm, ⟨6, _⟩ => ⟨S512x1024, .f32⟩
  | .hbm, ⟨7, _⟩ => ⟨S128x4x1024, .f32⟩
  | .hbm, ⟨8, _⟩ => ⟨S128x4x512, .f32⟩
  | .hbm, ⟨9, _⟩ => ⟨S_, .i32⟩
  | .hbm, ⟨10, _⟩ => ⟨S_, .f32⟩
  | .hbm, ⟨11, _⟩ => ⟨S128x8x512, .f32⟩
  | .hbm, ⟨12, _⟩ => ⟨S128x4x512, .f32⟩
  | .hbm, ⟨13, _⟩ => ⟨S_, .i32⟩
  | .hbm, ⟨14, _⟩ => ⟨S_, .f32⟩
  | .hbm, ⟨15, _⟩ => ⟨S128x8x512, .f32⟩
  | .hbm, ⟨16, _⟩ => ⟨S128x128x512, .f32⟩
  | .hbm, ⟨17, _⟩ => ⟨S128x128x512, .f32⟩
  | .hbm, ⟨18, _⟩ => ⟨S128x128x64, .f32⟩
  | .hbm, ⟨19, _⟩ => ⟨S128x128x512, .f32⟩
  | .hbm, ⟨20, _⟩ => ⟨S128x128x512, .f32⟩
  | .local _ .vmem, ⟨0, _⟩ => ⟨S8x128x64, .f32⟩
  | .local _ .vmem, ⟨1, _⟩ => ⟨S8x128x64, .f32⟩
  | .local _ .vmem, ⟨2, _⟩ => ⟨S8x8x512, .f32⟩
  | .local _ .vmem, ⟨3, _⟩ => ⟨S8x8x512, .f32⟩
  | .local _ .vmem, ⟨4, _⟩ => ⟨S8x8x512, .f32⟩
  | .local _ .vmem, ⟨5, _⟩ => ⟨S8x8x512, .f32⟩
  | .local _ .vmem, ⟨6, _⟩ => ⟨S8x128x512, .f32⟩
  | .local _ .vmem, ⟨7, _⟩ => ⟨S8x128x512, .f32⟩
  | .local _ .vmem, ⟨8, _⟩ => ⟨S8x128x512, .f32⟩
  | .local _ .vmem, ⟨9, _⟩ => ⟨S8x128x512, .f32⟩
  | .local _ .vmem, ⟨10, _⟩ => ⟨S128x256, .f32⟩
  | .local _ .vmem, ⟨11, _⟩ => ⟨S128x1, .f32⟩
  | .local _ .vmem, ⟨12, _⟩ => ⟨S8x128x64, .f32⟩
  | .local _ .vmem, ⟨13, _⟩ => ⟨S8x128x64, .f32⟩
  | .local _ .vmem, ⟨14, _⟩ => ⟨S8x128x512, .f32⟩
  | .local _ .vmem, ⟨15, _⟩ => ⟨S8x128x512, .f32⟩
  | .local _ .vmem, ⟨16, _⟩ => ⟨S8x128x512, .f32⟩
  | .local _ .vmem, ⟨17, _⟩ => ⟨S8x128x512, .f32⟩
  | _, _ => ⟨S128x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8_0 : Ref sig .tc := ⟨.hbm, 18, rfl⟩
abbrev main_v8_1 : Ref sig .tc := ⟨.hbm, 19, rfl⟩
abbrev main_v8_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x128x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SwaCacheRefIdeal.lean ====
abbrev S128x128x64 : Shape := ⟨3, ![128, 128, 64]⟩
abbrev S8704x1024 : Shape := ⟨2, ![8704, 1024]⟩
abbrev S128x128x8x64 : Shape := ⟨4, ![128, 128, 8, 64]⟩
abbrev S128x256 : Shape := ⟨2, ![128, 256]⟩
abbrev S128x1 : Shape := ⟨2, ![128, 1]⟩
abbrev S512x1024 : Shape := ⟨2, ![512, 1024]⟩
abbrev S128x4x2x8x64 : Shape := ⟨5, ![128, 4, 2, 8, 64]⟩
abbrev S128x4x1x8x64 : Shape := ⟨5, ![128, 4, 1, 8, 64]⟩
abbrev S128x4x8x64 : Shape := ⟨4, ![128, 4, 8, 64]⟩
abbrev S128x132x8x64 : Shape := ⟨4, ![128, 132, 8, 64]⟩
abbrev S128x128x512 : Shape := ⟨3, ![128, 128, 512]⟩

abbrev nBuf : Space → Nat
  | .hbm => 18
  | .vmem => 0
  | .smem => 0
  | _ => 0

abbrev bufTy : (tb : Table) → Fin (tcTables nBuf tb) → BufTy
  | .hbm, ⟨0, _⟩ => ⟨S128x128x64, .f32⟩
  | .hbm, ⟨1, _⟩ => ⟨S8704x1024, .f32⟩
  | .hbm, ⟨2, _⟩ => ⟨S128x128x8x64, .f32⟩
  | .hbm, ⟨3, _⟩ => ⟨S128x128x8x64, .f32⟩
  | .hbm, ⟨4, _⟩ => ⟨S128x256, .f32⟩
  | .hbm, ⟨5, _⟩ => ⟨S128x1, .f32⟩
  | .hbm, ⟨6, _⟩ => ⟨S512x1024, .f32⟩
  | .hbm, ⟨7, _⟩ => ⟨S128x4x2x8x64, .f32⟩
  | .hbm, ⟨8, _⟩ => ⟨S128x4x1x8x64, .f32⟩
  | .hbm, ⟨9, _⟩ => ⟨S128x4x8x64, .f32⟩
  | .hbm, ⟨10, _⟩ => ⟨S128x132x8x64, .f32⟩
  | .hbm, ⟨11, _⟩ => ⟨S128x128x8x64, .f32⟩
  | .hbm, ⟨12, _⟩ => ⟨S128x4x1x8x64, .f32⟩
  | .hbm, ⟨13, _⟩ => ⟨S128x4x8x64, .f32⟩
  | .hbm, ⟨14, _⟩ => ⟨S128x132x8x64, .f32⟩
  | .hbm, ⟨15, _⟩ => ⟨S128x128x8x64, .f32⟩
  | .hbm, ⟨16, _⟩ => ⟨S128x128x512, .f32⟩
  | .hbm, ⟨17, _⟩ => ⟨S128x128x512, .f32⟩
  | _, _ => ⟨S128x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== ProjRes.lean ====
abbrev S8192x2048 : Shape := ⟨2, ![8192, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩
abbrev S2048x512 : Shape := ⟨2, ![2048, 512]⟩
abbrev S512x512 : Shape := ⟨2, ![512, 512]⟩
abbrev S1x512 : Shape := ⟨2, ![1, 512]⟩

abbrev nBuf : Space → Nat
  | .hbm => 9
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S512x2048, .f32⟩
  | .hbm, ⟨2, _⟩ => ⟨S2048x2048, .bf16⟩
  | .hbm, ⟨3, _⟩ => ⟨S2048, .f32⟩
  | .hbm, ⟨4, _⟩ => ⟨S8192x2048, .f32⟩
  | .hbm, ⟨5, _⟩ => ⟨S512x2048, .f32⟩
  | .hbm, ⟨6, _⟩ => ⟨S1x2048, .f32⟩
  | .hbm, ⟨7, _⟩ => ⟨S8192x2048, .f32⟩
  | .hbm, ⟨8, _⟩ => ⟨S512x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .f32⟩
  | .local _ .vmem, ⟨12, _⟩ => ⟨S512x2048, .f32⟩
  | .local _ .vmem, ⟨13, _⟩ => ⟨S512x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v0 : BitVec 1 := Scalar.cmpi .slt arg0 c16_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c16_i32_0 : BitVec 32 := 16#32
  let v3 : BitVec 1 := Scalar.cmpi .sge arg0 c16_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjResRefIdeal.lean ====
abbrev S8192x2048 : Shape := ⟨2, ![8192, 2048]⟩
abbrev S512x2048 : Shape := ⟨2, ![512, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S512x2048, .f32⟩
  | .hbm, ⟨2, _⟩ => ⟨S2048x2048, .bf16⟩
  | .hbm, ⟨3, _⟩ => ⟨S2048, .f32⟩
  | .hbm, ⟨4, _⟩ => ⟨S8192x2048, .f32⟩
  | .hbm, ⟨5, _⟩ => ⟨S512x2048, .f32⟩
  | .hbm, ⟨6, _⟩ => ⟨S2048x2048, .f32⟩
  | .hbm, ⟨7, _⟩ => ⟨S8192x2048, .f32⟩
  | .hbm, ⟨8, _⟩ => ⟨S8192x2048, .f32⟩
  | .hbm, ⟨9, _⟩ => ⟨S1x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S512x2048, .f32⟩
  | .hbm, ⟨14, _⟩ => ⟨S1x2048, .f32⟩
  | .hbm, ⟨15, _⟩ => ⟨S512x2048, .f32⟩
  | .hbm, ⟨16, _⟩ => ⟨S512x2048, .f32⟩
  | .hbm, ⟨17, _⟩ => ⟨S512x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== Proof.GlaSample.Core.lean ====
/- What the body of the recurrence kernel computes for one sequence and one head, as vector terms: the kernel's
   sixteen pieces of each output block are these two terms at sixteen slices of the input blocks. -/
module

public import proofs.«01_k».proof.Proof.Gen.GlaSampleIdeal.Frame
public import Idealize.ShloMosaic.Lib.Pipeline.ValueKit
public import Idealize.ShloMosaic.Lib.Pointwise

@[expose] public section

set_option maxRecDepth 16384

noncomputable section

namespace Cert.K.GlaSample

open Idealize.ShloMosaic Idealize.ShloMosaic.TcCoe Idealize.SL.Sem
open Idealize.ShloMosaic.Pipeline (Dat)
open Cert.GlaSampleIdeal Cert.GlaSampleIdeal.Gen

/-- The first partial sum of the four log-decay rows. -/
def sum1 (g : FVec Ideal S4x256 .f32) : FVec Ideal S1x256 .f32 :=
  extractStridedSlice S1x256 ![0, 0] g slices_S4x256_o0_0_S1x256
/-- The second partial sum. -/
def sum2 (g : FVec Ideal S4x256 .f32) : FVec Ideal S1x256 .f32 :=
  addf (sum1 g) (extractStridedSlice S1x256 ![1, 0] g slices_S4x256_o1_0_S1x256)
/-- The third partial sum. -/
def sum3 (g : FVec Ideal S4x256 .f32) : FVec Ideal S1x256 .f32 :=
  addf (sum2 g) (extractStridedSlice S1x256 ![2, 0] g slices_S4x256_o2_0_S1x256)
/-- The sum of all four rows. -/
def sum4 (g : FVec Ideal S4x256 .f32) : FVec Ideal S1x256 .f32 :=
  addf (sum3 g) (extractStridedSlice S1x256 ![3, 0] g slices_S4x256_o3_0_S1x256)
/-- The cumulative log decay, the four partial sums stacked. -/
def cum (g : FVec Ideal S4x256 .f32) : FVec Ideal S4x256 .f32 :=
  concatenate S4x256 0 [⟨S1x256, sum1 g⟩, ⟨S1x256, sum2 g⟩, ⟨S1x256, sum3 g⟩, ⟨S1x256, sum4 g⟩]
    concatenates_S1x256_S1x256_S1x256_S1x256_S4x256_d0

/-- The decayed queries: scaled by 1/16, times the exponential of the cumulative log decay. -/
def qdec (q g : FVec Ideal S4x256 .f32) : FVec Ideal S4x256 .bf16 :=
  truncf .bf16 (mulf (mulf q (broadcast S4x256 (Scalar.ofBits .f32 0x3D800000#32))) (exp (cum g))) bitsLt_bf16_f32
/-- The keys with the decay undone. -/
def kdec (k g : FVec Ideal S4x256 .f32) : FVec Ideal S4x256 .bf16 :=
  truncf .bf16 (mulf k (exp (subf (broadcast S4x256 (Scalar.ofBits .f32 0x00000000#32)) (cum g)))) bitsLt_bf16_f32
/-- The causal scores of the four tokens against each other. -/
def scores (q k g : FVec Ideal S4x256 .f32) : FVec Ideal S4x4 .bf16 :=
  truncf .bf16 (select (cmpi .sge (iota .tc S4x4 32 [0] iota_S4x4_d0_w32) (iota .tc S4x4 32 [1] iota_S4x4_d1_w32))
    (matmul dot_S4x256_S4x256_S4x4_1_1_0_0_n_n none (qdec q g) (kdec k g) (constant S4x4 .f32 0x00000000#32))
    (broadcast S4x4 (Scalar.ofBits .f32 0x00000000#32))) bitsLt_bf16_f32
/-- The attention output before normalization: scores times values, plus the decayed queries times the state. -/
def mix (q k g : FVec Ideal S4x256 .f32) (v : FVec Ideal S4x512 .f32) (s : FVec Ideal S1x1x256x512 .f32) :
    FVec Ideal S4x512 .f32 :=
  addf
    (matmul dot_S4x4_S4x512_S4x512_1_0_0_1_n_n none (scores q k g) (truncf .bf16 v bitsLt_bf16_f32)
      (constant S4x512 .f32 0x00000000#32))
    (matmul dot_S4x256_S256x512_S4x512_1_0_0_1_n_n none (qdec q g)
      (truncf .bf16 (shapeCast S256x512 s shapeCasts_S1x1x256x512_S256x512) bitsLt_bf16_f32)
      (constant S4x512 .f32 0x00000000#32))
/-- The gated, normalized output from the attention output `o`, the gate and the norm's weights. -/
def gated (o gate : FVec Ideal S4x512 .f32) (w : Vec Ideal S1x512 .f32) : FVec Ideal S4x512 .f32 :=
  mulf
    (mulf
      (mulf o (broadcastTo S4x512
        (rsqrt (addf
          (divf (shapeCast S4x1 (multiReduction .add [1] S4 (mulf o o) 0x00000000#32 reduces_S4x512_S4 (.inl rfl) rfl)
            shapeCasts_S4_S4x1) (broadcast S4x1 (Scalar.ofBits .f32 0x44000000#32)))
          (broadcast S4x1 (Scalar.ofBits .f32 0x358637BD#32))))
        broadcasts_S4x1_S4x512))
      (broadcastTo S4x512 w broadcasts_S1x512_S4x512))
    (mulf gate (logistic gate))

/-- The log decays' first remainder after the leading part is taken off. -/
def rest1 (g : FVec Ideal S4x256 .f32) : FVec Ideal S4x256 .f32 :=
  subf g (extf .f32 (truncf .bf16 g bitsLt_bf16_f32) bitsLt_bf16_f32)
/-- The second remainder. -/
def rest2 (g : FVec Ideal S4x256 .f32) : FVec Ideal S4x256 .f32 :=
  subf (rest1 g) (extf .f32 (truncf .bf16 (rest1 g) bitsLt_bf16_f32) bitsLt_bf16_f32)
/-- One part of the log decays summed over the four tokens, on 128 equal lanes. -/
def lanes (g : FVec Ideal S4x256 .f32) : FVec Ideal S256x128 .f32 :=
  matmul dot_S4x256_S4x128_S256x128_0_0_1_1_n_n none (truncf .bf16 g bitsLt_bf16_f32)
    (broadcast S4x128 (Scalar.ofBits .bf16 0x3F80#16)) (constant S256x128 .f32 0x00000000#32)
/-- The decay of the state over the four tokens, from the three parts of the log decays. -/
def decay (g : FVec Ideal S4x256 .f32) : FVec Ideal S256x128 .f32 :=
  exp (addf (addf (addf (broadcast S256x128 (Scalar.ofBits .f32 0x00000000#32)) (lanes g)) (lanes (rest1 g)))
    (lanes (rest2 g)))
/-- The keys decayed to the end of the four tokens. -/
def kend (k g : FVec Ideal S4x256 .f32) : FVec Ideal S4x256 .bf16 :=
  truncf .bf16 (mulf k (exp (subf (broadcastTo S4x256 (sum4 g) broadcasts_S1x256_S4x256) (cum g)))) bitsLt_bf16_f32
/-- The new state of one sequence and head. -/
def next (k g : FVec Ideal S4x256 .f32) (v : FVec Ideal S4x512 .f32) (s : FVec Ideal S1x1x256x512 .f32) :
    FVec Ideal S1x1x256x512 .f32 :=
  shapeCast S1x1x256x512
    (addf
      (mulf (shapeCast S256x512 s shapeCasts_S1x1x256x512_S256x512)
        (concatenate S256x512 1 [⟨S256x128, decay g⟩, ⟨S256x128, decay g⟩, ⟨S256x128, decay g⟩, ⟨S256x128, decay g⟩]
          concatenates_S256x128_S256x128_S256x128_S256x128_S256x512_d1))
      (matmul dot_S4x256_S4x512_S256x512_0_0_1_1_n_n none (kend k g) (truncf .bf16 v bitsLt_bf16_f32)
        (constant S256x512 .f32 0x00000000#32)))
    shapeCasts_S256x512_S1x1x256x512

/-- The slice of four rows and 256 lanes of the projected block at row `r` and lane `n`. -/
def proj4 (x0 : Vec Ideal S16x6144 .bf16) (r n : ℕ) (h : S16x6144.Slices ![r, n] S4x256) : FVec Ideal S4x256 .f32 :=
  extractStridedSlice S4x256 ![r, n] (extf .f32 (View.ld x0 r0_0) bitsLt_bf16_f32 : FVec Ideal S16x6144 .f32) h
/-- The slice of four rows and 512 lanes of the projected block at row `r` and lane `n`. -/
def proj8 (x0 : Vec Ideal S16x6144 .bf16) (r n : ℕ) (h : S16x6144.Slices ![r, n] S4x512) : FVec Ideal S4x512 .f32 :=
  extractStridedSlice S4x512 ![r, n] (extf .f32 (View.ld x0 r0_0) bitsLt_bf16_f32 : FVec Ideal S16x6144 .f32) h

end Cert.K.GlaSample

end
-- ==== Proof.GlaSample.Pieces.lean ====
/- The kernel's two output blocks as sixteen stored pieces each, one per sequence and head, every one the same two
   vector terms (`Core`) at that sequence's rows and that head's lanes. -/
module

public import proofs.«01_k».proof.Proof.GlaSample.Core

@[expose] public section

set_option maxRecDepth 16384

noncomputable section

namespace Cert.K.GlaSample

open Idealize.ShloMosaic Idealize.ShloMosaic.TcCoe Idealize.SL.Sem
open Idealize.ShloMosaic.Pipeline (Dat)
open Cert.GlaSampleIdeal Cert.GlaSampleIdeal.Gen

theorem slices_q : ∀ i h : Fin 4, S16x6144.Slices ![4 * i.val, 256 * h.val] S4x256 := by decide
theorem slices_k : ∀ i h : Fin 4, S16x6144.Slices ![4 * i.val, 1024 + 256 * h.val] S4x256 := by decide
theorem slices_v : ∀ i h : Fin 4, S16x6144.Slices ![4 * i.val, 2048 + 512 * h.val] S4x512 := by decide
theorem slices_gate : ∀ i h : Fin 4, S16x6144.Slices ![4 * i.val, 4096 + 512 * h.val] S4x512 := by decide
theorem slices_g : ∀ i h : Fin 4, S16x1024.Slices ![4 * i.val, 256 * h.val] S4x256 := by decide

/-- The log decays of sequence `i` and head `h` in the block. -/
def gOf (x1 : Vec Ideal S16x1024 .f32) (i h : Fin 4) : FVec Ideal S4x256 .f32 :=
  extractStridedSlice (s := S16x1024) S4x256 ![4 * i.val, 256 * h.val] (View.ld x1 r0_1) (slices_g i h)

/-- The normalized output of sequence `i` and head `h` in the block. -/
def pieceO (x0 : Vec Ideal S16x6144 .bf16) (x1 : Vec Ideal S16x1024 .f32) (x3 : Vec Ideal S1x512 .f32)
    (s : Vec Ideal S1x1x256x512 .f32) (i h : Fin 4) : FVec Ideal S4x512 .f32 :=
  gated
    (mix (proj4 x0 _ _ (slices_q i h)) (proj4 x0 _ _ (slices_k i h)) (gOf x1 i h) (proj8 x0 _ _ (slices_v i h)) s)
    (proj8 x0 _ _ (slices_gate i h)) (View.ld x3 r0_3)

/-- The new state of sequence `i` and head `h` in the block. -/
def pieceS (x0 : Vec Ideal S16x6144 .bf16) (x1 : Vec Ideal S16x1024 .f32)
    (s : Vec Ideal S1x1x256x512 .f32) (i h : Fin 4) : FVec Ideal S1x1x256x512 .f32 :=
  next (proj4 x0 _ _ (slices_k i h)) (gOf x1 i h) (proj8 x0 _ _ (slices_v i h)) s

/-- The output block is its sixteen pieces. -/
theorem out4_pieces (x0 : Vec Ideal S16x6144 .bf16) (x1 : Vec Ideal S16x1024 .f32)
    (x2 : Vec Ideal S4x4x256x512 .f32) (x3 : Vec Ideal S1x512 .f32) :
    out0_4 x0 x1 x2 x3 = View.canon [⟨r0_34, pieceO x0 x1 x3 (View.ld x2 r0_33) 3 3⟩,
    ⟨r0_32, pieceO x0 x1 x3 (View.ld x2 r0_31) 3 2⟩,
    ⟨r0_30, pieceO x0 x1 x3 (View.ld x2 r0_29) 3 1⟩,
    ⟨r0_28, pieceO x0 x1 x3 (View.ld x2 r0_27) 3 0⟩,
    ⟨r0_26, pieceO x0 x1 x3 (View.ld x2 r0_25) 2 3⟩,
    ⟨r0_24, pieceO x0 x1 x3 (View.ld x2 r0_23) 2 2⟩,
    ⟨r0_22, pieceO x0 x1 x3 (View.ld x2 r0_21) 2 1⟩,
    ⟨r0_20, pieceO x0 x1 x3 (View.ld x2 r0_19) 2 0⟩,
    ⟨r0_18, pieceO x0 x1 x3 (View.ld x2 r0_17) 1 3⟩,
    ⟨r0_16, pieceO x0 x1 x3 (View.ld x2 r0_15) 1 2⟩,
    ⟨r0_14, pieceO x0 x1 x3 (View.ld x2 r0_13) 1 1⟩,
    ⟨r0_12, pieceO x0 x1 x3 (View.ld x2 r0_11) 1 0⟩,
    ⟨r0_10, pieceO x0 x1 x3 (View.ld x2 r0_9) 0 3⟩,
    ⟨r0_8, pieceO x0 x1 x3 (View.ld x2 r0_7) 0 2⟩,
    ⟨r0_6, pieceO x0 x1 x3 (View.ld x2 r0_5) 0 1⟩,
    ⟨r0_4, pieceO x0 x1 x3 (View.ld x2 r0_2) 0 0⟩] := by
  unfold_out out0_4; rfl

/-- The state block is its sixteen pieces. -/
theorem out5_pieces (x0 : Vec Ideal S16x6144 .bf16) (x1 : Vec Ideal S16x1024 .f32)
    (x2 : Vec Ideal S4x4x256x512 .f32) (x3 : Vec Ideal S1x512 .f32) :
    out0_5 x0 x1 x2 x3 = View.canon [⟨r0_33, pieceS x0 x1 (View.ld x2 r0_33) 3 3⟩,
    ⟨r0_31, pieceS x0 x1 (View.ld x2 r0_31) 3 2⟩,
    ⟨r0_29, pieceS x0 x1 (View.ld x2 r0_29) 3 1⟩,
    ⟨r0_27, pieceS x0 x1 (View.ld x2 r0_27) 3 0⟩,
    ⟨r0_25, pieceS x0 x1 (View.ld x2 r0_25) 2 3⟩,
    ⟨r0_23, pieceS x0 x1 (View.ld x2 r0_23) 2 2⟩,
    ⟨r0_21, pieceS x0 x1 (View.ld x2 r0_21) 2 1⟩,
    ⟨r0_19, pieceS x0 x1 (View.ld x2 r0_19) 2 0⟩,
    ⟨r0_17, pieceS x0 x1 (View.ld x2 r0_17) 1 3⟩,
    ⟨r0_15, pieceS x0 x1 (View.ld x2 r0_15) 1 2⟩,
    ⟨r0_13, pieceS x0 x1 (View.ld x2 r0_13) 1 1⟩,
    ⟨r0_11, pieceS x0 x1 (View.ld x2 r0_11) 1 0⟩,
    ⟨r0_9, pieceS x0 x1 (View.ld x2 r0_9) 0 3⟩,
    ⟨r0_7, pieceS x0 x1 (View.ld x2 r0_7) 0 2⟩,
    ⟨r0_5, pieceS x0 x1 (View.ld x2 r0_5) 0 1⟩,
    ⟨r0_2, pieceS x0 x1 (View.ld x2 r0_2) 0 0⟩] := by
  unfold_out out0_5; rfl

end Cert.K.GlaSample

end
-- ==== Proof.GlaSample.Spec.lean ====
/- The gated linear recurrence of one sequence and one head over four tokens, in plain numbers: what both programs
   compute, entry by entry. -/
module

public import Idealize.ShloMosaic.PureOps.Ideal.Laws
public import Idealize.ShloMosaic.Lib.Pointwise

@[expose] public section

noncomputable section

namespace Cert.K.GlaSample

open Idealize.ShloMosaic

/-- The cumulative log decay at token `t`: the sum over the tokens up to `t`. -/
def psum (g : Fin 4 → Fin 256 → EReal) (t : Fin 4) (d : Fin 256) : EReal := ∑ s : Fin 4, if s ≤ t then g s d else 0

/-- The scaled query times the exponential of the cumulative log decay. -/
def qd (q g : Fin 4 → Fin 256 → EReal) (t : Fin 4) (d : Fin 256) : EReal :=
  q t d * Ideal.ofBits .f32 0x3D800000#32 * Ideal.exp (psum g t d)

/-- The causal score of query token `t` against key token `s`. -/
def score (q k g : Fin 4 → Fin 256 → EReal) (t s : Fin 4) : EReal :=
  if s ≤ t then ∑ d, qd q g t d * (k s d * Ideal.exp (-psum g s d)) else 0

/-- The attention output at token `t` and value lane `c`, from the state `S`. -/
def mixed (q k g : Fin 4 → Fin 256 → EReal) (v : Fin 4 → Fin 512 → EReal) (S : Fin 256 → Fin 512 → EReal)
    (t : Fin 4) (c : Fin 512) : EReal :=
  ∑ s, score q k g t s * v s c + ∑ d, qd q g t d * S d c

/-- The normalized and gated output from the attention output `o` of one token. -/
def normed (o gate w : Fin 512 → EReal) (c : Fin 512) : EReal :=
  o c * Ideal.rsqrt (Ideal.div (∑ x, o x * o x) (Ideal.ofBits .f32 0x44000000#32) + Ideal.ofBits .f32 0x358637BD#32)
    * w c * (gate c * Ideal.logistic (gate c))

/-- The new state at key lane `d` and value lane `c`. -/
def state (k g : Fin 4 → Fin 256 → EReal) (v : Fin 4 → Fin 512 → EReal) (S : Fin 256 → Fin 512 → EReal)
    (d : Fin 256) (c : Fin 512) : EReal :=
  Ideal.exp (psum g 3 d) * S d c + ∑ t, k t d * Ideal.exp (psum g 3 d - psum g t d) * v t c

/-- The four partial sums written out. -/
theorem psum_eq (g : Fin 4 → Fin 256 → EReal) (d : Fin 256) :
    psum g 0 d = g 0 d ∧ psum g 1 d = g 0 d + g 1 d ∧ psum g 2 d = g 0 d + g 1 d + g 2 d
      ∧ psum g 3 d = g 0 d + g 1 d + g 2 d + g 3 d := by
  simp [psum, Fin.sum_univ_four, Fin.le_def]

/-- A number below +∞, minus itself and added again, is itself. -/
theorem add_sub_self_of_ne_top {x : EReal} (h : x ≠ ⊤) : x + (x - x) = x := by
  induction x with
  | bot => simp
  | coe r => rw [← EReal.coe_sub, sub_self, EReal.coe_zero, add_zero]
  | top => exact absurd rfl h

/-- The three-way split of a number below +∞ adds up to the number. -/
theorem split_eq {x : EReal} (h : x ≠ ⊤) : x + (x - x) + (x - x - (x - x)) = x := by
  induction x with
  | bot => simp
  | coe r => rw [← EReal.coe_sub, sub_self, EReal.coe_zero, add_zero, sub_zero, add_zero]
  | top => exact absurd rfl h

/-- Summed over the tokens, the three parts of the split give the last partial sum. -/
theorem split_sum (g : Fin 4 → Fin 256 → EReal) (hg : ∀ t d, g t d ≠ ⊤) (d : Fin 256) :
    ∑ t, g t d + ∑ t, (g t d - g t d) + ∑ t, (g t d - g t d - (g t d - g t d)) = psum g 3 d := by
  rw [← Finset.sum_add_distrib, ← Finset.sum_add_distrib, (psum_eq g d).2.2.2, ← Fin.sum_univ_four (fun t => g t d)]
  exact Finset.sum_congr rfl fun t _ => split_eq (hg t d)

end Cert.K.GlaSample

end
-- ==== Proof.GlaSample.Apply.lean ====
/- The vector terms of `Core` and the kernel's two output blocks, read at an index. -/
module

public import proofs.«01_k».proof.Proof.GlaSample.Pieces
public import proofs.«01_k».proof.Proof.GlaSample.Spec

@[expose] public section

set_option maxRecDepth 16384

noncomputable section

namespace Cert.K.GlaSample

open Idealize.ShloMosaic Idealize.ShloMosaic.TcCoe Idealize.SL.Sem
open Idealize.ShloMosaic.Pipeline (Dat)
open Cert.GlaSampleIdeal Cert.GlaSampleIdeal.Gen

/-- The stacked partial sums are the cumulative log decay. -/
theorem cum_apply (g : FVec Ideal S4x256 .f32) (t : Fin 4) (d : Fin 256) :
    cum g (ix2 t d) = psum (fun t d => g (ix2 t d)) t d := by
  obtain ⟨h0, h1, h2, h3⟩ := psum_eq (fun t d => g (ix2 t d)) d
  pointwise [cum, sum1, sum2, sum3, sum4]
  fin_cases t
  · exact h0.symm
  · exact h1.symm
  · exact h2.symm
  · exact h3.symm

/-- The sum of the four rows is the last cumulative log decay. -/
theorem sum4_apply (g : FVec Ideal S4x256 .f32) (d : Fin 256) :
    sum4 g (ix2 0 d) = psum (fun t d => g (ix2 t d)) 3 d := by
  obtain ⟨h0, h1, h2, h3⟩ := psum_eq (fun t d => g (ix2 t d)) d
  pointwise [sum1, sum2, sum3, sum4]
  exact h3.symm

theorem qdec_apply (q g : FVec Ideal S4x256 .f32) (t : Fin 4) (d : Fin 256) :
    qdec q g (ix2 t d) = qd (fun t d => q (ix2 t d)) (fun t d => g (ix2 t d)) t d := by
  pointwise [qdec]
  rw [cum_apply]; rfl

/-- The causal select keeps a score where the key token is not later than the query token. -/
theorem select_le (t s : Fin 4) (x : EReal) :
    Scalar.select (IntOp.cmpi CmpIPredicate.sge (BitVec.ofNat 32 t.val) (BitVec.ofNat 32 s.val)) x 0
      = if s ≤ t then x else 0 := by
  fin_cases t <;> fin_cases s <;> rfl

theorem scores_apply (q k g : FVec Ideal S4x256 .f32) (t s : Fin 4) :
    scores q k g (ix2 t s)
      = score (fun t d => q (ix2 t d)) (fun t d => k (ix2 t d)) (fun t d => g (ix2 t d)) t s := by
  pointwise [scores, kdec]
  simp only [cum_apply, qdec_apply, zero_sub]
  exact select_le t s _

theorem mix_apply (q k g : FVec Ideal S4x256 .f32) (v : FVec Ideal S4x512 .f32) (s : FVec Ideal S1x1x256x512 .f32)
    (t : Fin 4) (c : Fin 512) :
    mix q k g v s (ix2 t c) = mixed (fun t d => q (ix2 t d)) (fun t d => k (ix2 t d)) (fun t d => g (ix2 t d))
      (fun t c => v (ix2 t c)) (fun d c => s (ix4 0 0 d c)) t c := by
  pointwise [mix]
  simp only [scores_apply, qdec_apply]; rfl

theorem gated_apply (o gate : FVec Ideal S4x512 .f32) (w : Vec Ideal S1x512 .f32) (t : Fin 4) (c : Fin 512) :
    gated o gate w (ix2 t c)
      = normed (fun c => o (ix2 t c)) (fun c => gate (ix2 t c)) (fun c => w (ix2 0 c)) c := by
  pointwise [gated]
  rfl

/-- The decay of the state is the exponential of the last cumulative log decay, where no log decay is +∞. -/
theorem decay_apply (g : FVec Ideal S4x256 .f32) (hg : ∀ t d, g (ix2 t d) ≠ ⊤) (d : Fin 256) (n : Fin 128) :
    decay g (ix2 d n) = Ideal.exp (psum (fun t d => g (ix2 t d)) 3 d) := by
  rw [← split_sum _ hg]
  pointwise [decay, lanes, rest1, rest2]

theorem next_apply (k g : FVec Ideal S4x256 .f32) (hg : ∀ t d, g (ix2 t d) ≠ ⊤) (v : FVec Ideal S4x512 .f32)
    (s : FVec Ideal S1x1x256x512 .f32) (d : Fin 256) (c : Fin 512) :
    next k g v s (ix4 0 0 d c) = state (fun t d => k (ix2 t d)) (fun t d => g (ix2 t d))
      (fun t c => v (ix2 t c)) (fun d c => s (ix4 0 0 d c)) d c := by
  pointwise [next, kend]
  simp only [cum_apply, sum4_apply, decay_apply g hg, dite_eq_ite, ite_self]
  rw [mul_comm]; rfl

end Cert.K.GlaSample

end
-- ==== Proof.GlaSample.Ref.lean ====
/- What the reference of the recurrence computes, entry by entry: its two results at sequence `b` and head `h` are the
   plain numbers of `Spec` at that sequence's rows and that head's columns of the arguments. -/
module

public import proofs.«01_k».proof.Proof.GlaSample.Spec
public import proofs.«01_k».proof.Proof.Gen.GlaSampleRefIdeal.Read

@[expose] public section

set_option maxRecDepth 16384

noncomputable section

namespace Cert.K.GlaSample

open Idealize.ShloMosaic Idealize.ShloMosaic.TcCoe Idealize.SL.Sem
open Cert.GlaSampleRefIdeal Cert.GlaSampleRefIdeal.Gen Cert.GlaSampleRefIdeal.Read

variable (x0 : FVec Ideal S8704x6144 .bf16) (x1 : FVec Ideal S8704x1024 .f32)
  (x2 : FVec Ideal S128x4x256x512 .f32) (x3 : FVec Ideal S1x512 .f32)

/-- The queries of sequence `b`, head `h`. -/
def qAt (b : Fin 128) (h t : Fin 4) (d : Fin 256) : EReal :=
  x0 (ix2 ⟨8192 + (b.val * 4 + t.val), by omega⟩ ⟨h.val * 256 + d.val, by omega⟩)
/-- The keys of sequence `b`, head `h`. -/
def kAt (b : Fin 128) (h t : Fin 4) (d : Fin 256) : EReal :=
  x0 (ix2 ⟨8192 + (b.val * 4 + t.val), by omega⟩ ⟨1024 + (h.val * 256 + d.val), by omega⟩)
/-- The values of sequence `b`, head `h`. -/
def vAt (b : Fin 128) (h t : Fin 4) (c : Fin 512) : EReal :=
  x0 (ix2 ⟨8192 + (b.val * 4 + t.val), by omega⟩ ⟨2048 + (h.val * 512 + c.val), by omega⟩)
/-- The gate of sequence `b`, head `h`. -/
def gateAt (b : Fin 128) (h t : Fin 4) (c : Fin 512) : EReal :=
  x0 (ix2 ⟨8192 + (b.val * 4 + t.val), by omega⟩ ⟨4096 + (h.val * 512 + c.val), by omega⟩)
/-- The log decays of sequence `b`, head `h`. -/
def gAt (b : Fin 128) (h t : Fin 4) (d : Fin 256) : EReal :=
  x1 (ix2 ⟨8192 + (b.val * 4 + t.val), by omega⟩ ⟨h.val * 256 + d.val, by omega⟩)
/-- The incoming state of sequence `b`, head `h`. -/
def sAt (b : Fin 128) (h : Fin 4) (d : Fin 256) (c : Fin 512) : EReal := x2 (ix4 b h d c)
/-- The norm's weights. -/
def wAt (c : Fin 512) : EReal := x3 (ix2 0 c)

theorem q_read (b : Fin 128) (h t : Fin 4) (d : Fin 256) :
    val_main_v8 (F := Ideal) x0 (ix4 b h t d) = qAt x0 b h t d := by
  pointwise [val_main_v8, val_main_v7, val_main_v3, val_main_v2, val_main_v1, val_main_v0]; rfl

theorem k_read (b : Fin 128) (h t : Fin 4) (d : Fin 256) :
    val_main_v12 (F := Ideal) x0 (ix4 b h t d) = kAt x0 b h t d := by
  pointwise [val_main_v12, val_main_v11, val_main_v4, val_main_v2, val_main_v1, val_main_v0]; rfl

theorem v_read (b : Fin 128) (h t : Fin 4) (c : Fin 512) :
    val_main_v14 (F := Ideal) x0 (ix4 b h t c) = vAt x0 b h t c := by
  pointwise [val_main_v14, val_main_v13, val_main_v5, val_main_v2, val_main_v1, val_main_v0]; rfl

theorem gate_read (b : Fin 128) (h t : Fin 4) (c : Fin 512) :
    val_main_v58 (F := Ideal) x0 (ix4 b t h c) = gateAt x0 b h t c := by
  pointwise [val_main_v58, val_main_v6, val_main_v2, val_main_v1, val_main_v0]; rfl

theorem g_read (b : Fin 128) (h t : Fin 4) (d : Fin 256) :
    val_main_v17 (F := Ideal) x1 (ix4 b h t d) = gAt x1 b h t d := by
  pointwise [val_main_v17, val_main_v16, val_main_v15]; rfl

/-- A left fold of additions is the start plus the sum of the list. -/
theorem foldl_add {n : ℕ} (f : Fin n → EReal) (l : List (Fin n)) (a : EReal) :
    l.foldl (fun r i => r + f i) a = a + (l.map f).sum := by
  induction l generalizing a with
  | nil => simp
  | cons x l ih => simp [ih, add_assoc]

/-- A window of four tokens padded three low, read at token `t`, sums the tokens up to `t`. -/
theorem window_sum (x : S128x4x4x256.Idx → EReal) (hw) (b : Fin 128) (h t : Fin 4) (d : Fin 256) :
    Ideal.hostReduceWindowAdd (s := S128x4x4x256) ![1, 1, 4, 1] ![1, 1, 1, 1] ![0, 0, 3, 0] ![0, 0, 0, 0] (t := S128x4x4x256)
      hw x 0 (ix4 b h t d) = psum (fun t d => x (ix4 b h t d)) t d := by
  obtain ⟨h0, h1, h2, h3⟩ := psum_eq (fun t d => x (ix4 b h t d)) d
  have key : ∀ (n : Fin (⟨4, ![1, 1, 4, 1]⟩ : Shape).numel) (p : Fin 4 → ℕ)
      (hp : ∀ a, p a = ((ix4 b h t d : S128x4x4x256.Idx) a).val * ![1, 1, 1, 1] a + ((⟨4, ![1, 1, 4, 1]⟩ : Shape).rowMajor.symm n a).val)
      (dec : Decidable (∀ a, ![0, 0, 3, 0] a ≤ p a ∧ p a - ![0, 0, 3, 0] a < S128x4x4x256.size a)),
      (if hin : ∀ a, ![0, 0, 3, 0] a ≤ p a ∧ p a - ![0, 0, 3, 0] a < S128x4x4x256.size a
        then x (fun a => ⟨p a - ![0, 0, 3, 0] a, (hin a).2⟩) else 0)
      = if hs : 3 ≤ t.val + n.val ∧ t.val + n.val - 3 < 4 then x (ix4 b h ⟨t.val + n.val - 3, hs.2⟩ d) else 0 := by
    have hn : ∀ n a, (((⟨4, ![1, 1, 4, 1]⟩ : Shape).rowMajor.symm n a).val : ℕ) = if a = 2 then n.val else 0 := by
      decide
    intro n p hp dec
    obtain rfl : p = _ := funext hp
    simp only [hn]
    have hb := b.isLt; have hh := h.isLt; have hd := d.isLt
    refine dite_congr (propext ⟨fun H => by simpa using H 2, fun H a => ?_⟩) (fun H => congrArg x (funext fun a => Fin.ext ?_))
      fun _ => rfl
    · match a with
      | 0 => simp
      | 1 => simp
      | 2 => simpa using H
      | 3 => simp
    · match a with
      | 0 => simp
      | 1 => simp
      | 2 => simp
      | 3 => simp
  unfold Ideal.hostReduceWindowAdd Host.reduceWindow
  refine (foldl_add _ _ _).trans ?_
  rw [zero_add]
  refine (congrArg List.sum (List.map_congr_left fun n _ => key n _ (fun _ => rfl) _)).trans ?_
  let f : ℕ → EReal := fun n => if hs : 3 ≤ t.val + n ∧ t.val + n - 3 < 4 then x (ix4 b h ⟨t.val + n - 3, hs.2⟩ d) else 0
  have hl : (List.finRange (⟨4, ![1, 1, 4, 1]⟩ : Shape).numel).map (fun n => n.val) = [0, 1, 2, 3] := by decide
  refine (congrArg List.sum (List.map_map (g := f) (f := fun n : Fin (⟨4, ![1, 1, 4, 1]⟩ : Shape).numel => n.val)).symm).trans ?_
  rw [hl]
  clear key
  fin_cases t
  · refine Eq.trans ?_ h0.symm; simp [f]
  · refine Eq.trans ?_ h1.symm; simp [f]
  · refine Eq.trans ?_ h2.symm; simp [f, add_assoc]
  · refine Eq.trans ?_ h3.symm; simp [f, add_assoc]
/-- The host's cumulative sum is the partial sum. -/
theorem psum_read (b : Fin 128) (h t : Fin 4) (d : Fin 256) :
    val_main_v18 (F := Ideal) x1 (ix4 b h t d) = psum (gAt x1 b h) t d := by
  have e : val_main_call0_call0_v0 (F := Ideal) (Shape.Idx.first h_S_) = (0 : EReal) := by
    pointwise [val_main_call0_call0_v0, val_main_call0_call0_cst]
  unfold val_main_v18 Host.reduceWindowAdd
  rw [e]
  refine (window_sum _ _ b h t d).trans ?_
  simp only [g_read]

theorem qd_read (b : Fin 128) (h t : Fin 4) (d : Fin 256) :
    val_main_v20 (F := Ideal) x0 x1 (ix4 b h t d) = qd (qAt x0 b h) (gAt x1 b h) t d := by
  pointwise [val_main_v20, val_main_v19, val_main_v10, val_main_v9, val_main_cst]
  rw [q_read, psum_read]; rfl

theorem kd_read (b : Fin 128) (h t : Fin 4) (d : Fin 256) :
    val_main_v23 (F := Ideal) x0 x1 (ix4 b h t d) = kAt x0 b h t d * Ideal.exp (-psum (gAt x1 b h) t d) := by
  pointwise [val_main_v23, val_main_v22, val_main_v21]
  rw [k_read, psum_read]

/-- The lower-triangular mask, then the select it drives. -/
theorem select_tril (t s : Fin 4) (x : EReal) :
    Scalar.select (Scalar.select (IntOp.cmpi CmpIPredicate.sge (IntOp.addi (BitVec.ofNat 32 t.val) 0#32) (BitVec.ofNat 32 s.val))
      1#1 0#1) x (0 : EReal) = if s ≤ t then x else 0 := by
  fin_cases t <;> fin_cases s <;> rfl

theorem score_read (b : Fin 128) (h t s : Fin 4) :
    val_main_v27 (F := Ideal) x0 x1 (ix4 b h t s) = score (qAt x0 b h) (kAt x0 b h) (gAt x1 b h) t s := by
  have e : val_main_cst_0 (F := Ideal) ix0 = (0 : EReal) := by pointwise [val_main_cst_0]
  pointwise [val_main_v27, val_main_call2_v2, val_main_call2_v1, val_main_call2_v0, val_main_v26, val_main_v25,
    val_main_v24, val_main_call1_v5, val_main_call1_v4, val_main_call1_v3, val_main_call1_v2, val_main_call1_v1,
    val_main_call1_v0]
  simp only [qd_read, kd_read, id, e]
  exact select_tril t s _

theorem mixed_read (b : Fin 128) (h t : Fin 4) (c : Fin 512) :
    val_main_v30 (F := Ideal) x0 x1 x2 (ix4 b h t c)
      = mixed (qAt x0 b h) (kAt x0 b h) (gAt x1 b h) (vAt x0 b h) (sAt x2 b h) t c := by
  pointwise [val_main_v30, val_main_v29, val_main_v28]
  simp only [qd_read, score_read, v_read]; rfl

/-- The host's silu: the gate times one over one plus the exponential of minus the gate. -/
theorem silu_read (b : Fin 128) (h t : Fin 4) (c : Fin 512) :
    val_main_v59 (F := Ideal) x0 (ix4 b t h c) = gateAt x0 b h t c * Ideal.logistic (gateAt x0 b h t c) := by
  rw [← gate_read]
  have e : val_main_call3_cst (F := Ideal) ix0 = (1 : EReal) := by pointwise [val_main_call3_cst]
  have e' : val_main_call3_cst_0 (F := Ideal) ix0 = (1 : EReal) := by pointwise [val_main_call3_cst_0]
  pointwise [val_main_v59, val_main_call3_v5, val_main_call3_v4, val_main_call3_v3, val_main_call3_v2,
    val_main_call3_v1, val_main_call3_v0]
  rw [e, e']; rfl

/-- The reference's output at token row `4 b + t` and column `512 h + c`. -/
theorem out_read (r : Fin 512) (n : Fin 2048) :
    val_main_v61 (F := Ideal) x0 x1 x2 x3 (ix2 r n)
      = normed (mixed (qAt x0 ⟨r.val / 4, by omega⟩ ⟨n.val / 512, by omega⟩) (kAt x0 ⟨r.val / 4, by omega⟩ ⟨n.val / 512, by omega⟩)
          (gAt x1 ⟨r.val / 4, by omega⟩ ⟨n.val / 512, by omega⟩) (vAt x0 ⟨r.val / 4, by omega⟩ ⟨n.val / 512, by omega⟩)
          (sAt x2 ⟨r.val / 4, by omega⟩ ⟨n.val / 512, by omega⟩) ⟨r.val % 4, by omega⟩)
        (gateAt x0 ⟨r.val / 4, by omega⟩ ⟨n.val / 512, by omega⟩ ⟨r.val % 4, by omega⟩) (wAt x3) ⟨n.val % 512, by omega⟩ := by
  have e1 : val_main_cst_1 (F := Ideal) (Shape.Idx.first h_S_) = (0 : EReal) := by pointwise [val_main_cst_1]
  pointwise [val_main_v61, val_main_v60, val_main_v57, val_main_v53, val_main_v52, val_main_v51, val_main_v50,
    val_main_v48, val_main_v46, val_main_v45, val_main_v44, val_main_v43, val_main_v56, val_main_v55, val_main_v54,
    val_main_v49, val_main_v47, val_main_cst_2, val_main_cst_3]
  simp only [mixed_read, silu_read, e1, zero_add]; rfl

/-- The same at an index given by sequence, token, head and lane. -/
theorem out_read_at (b : Fin 128) (h t : Fin 4) (n : Fin 512) (j : S512x2048.Idx)
    (h0 : (j 0).val = b.val * 4 + t.val) (h1 : (j 1).val = h.val * 512 + n.val) :
    val_main_v61 (F := Ideal) x0 x1 x2 x3 j
      = normed (mixed (qAt x0 b h) (kAt x0 b h) (gAt x1 b h) (vAt x0 b h) (sAt x2 b h) t) (gateAt x0 b h t) (wAt x3) n := by
  idx_vars j
  replace h0 : j0.val = b.val * 4 + t.val := h0
  replace h1 : j1.val = h.val * 512 + n.val := h1
  have eb : (⟨j0.val / 4, by omega⟩ : Fin 128) = b := Fin.ext (by show _ / 4 = _; omega)
  have et : (⟨j0.val % 4, by omega⟩ : Fin 4) = t := Fin.ext (by show _ % 4 = _; omega)
  have eh : (⟨j1.val / 512, by omega⟩ : Fin 4) = h := Fin.ext (by show _ / 512 = _; omega)
  have en : (⟨j1.val % 512, by omega⟩ : Fin 512) = n := Fin.ext (by show _ % 512 = _; omega)
  rw [out_read, eb, et, eh, en]

/-- The reference's new state. -/
theorem state_read (b : Fin 128) (h : Fin 4) (d : Fin 256) (c : Fin 512) :
    val_main_v42 (F := Ideal) x0 x1 x2 (ix4 b h d c)
      = state (kAt x0 b h) (gAt x1 b h) (vAt x0 b h) (sAt x2 b h) d c := by
  pointwise [val_main_v42, val_main_v41, val_main_v40, val_main_v39, val_main_v38, val_main_v37, val_main_v36,
    val_main_v35, val_main_v34, val_main_v33, val_main_v32, val_main_v31]
  simp only [psum_read, k_read, v_read]; rfl

end Cert.K.GlaSample

end
-- ==== Proof.GlaSample.Value.lean ====
/- What the kernel leaves in its two result arrays: at every index the number the reference's results hold there. -/
module

public import proofs.«01_k».proof.Proof.Gen.GlaSampleIdeal.Value
public import proofs.«01_k».proof.Proof.GlaSample.Apply
public import proofs.«01_k».proof.Proof.GlaSample.Ref

@[expose] public section

set_option maxRecDepth 16384

noncomputable section

namespace Cert.K.GlaSample

open Idealize.ShloMosaic Idealize.ShloMosaic.TcCoe Idealize.SL.Sem
open Idealize.ShloMosaic.Pipeline (Dat)
open Cert.GlaSampleIdeal Cert.GlaSampleIdeal.Gen

variable (m : (ℓ : Loc nD τ sig) → Buf (Elt Ideal) ℓ) (c : Dev nD)

/-- The four argument arrays. -/
abbrev A0 : FVec Ideal S8704x6144 .bf16 := m ((c.tc : Thread nD τ).loc main_arg0)
abbrev A1 : FVec Ideal S8704x1024 .f32 := m ((c.tc : Thread nD τ).loc main_arg1)
abbrev A2 : FVec Ideal S128x4x256x512 .f32 := m ((c.tc : Thread nD τ).loc main_arg2)
abbrev A3 : FVec Ideal S1x512 .f32 := m ((c.tc : Thread nD τ).loc main_arg3)

/-- Every window's block index at a grid point. -/
theorem idx : ∀ t : Fin cfg0.N, win0_0.index t = ![t.val + 512, 0] ∧ win0_1.index t = ![t.val + 512, 0]
    ∧ win0_2.index t = ![t.val, 0, 0, 0] ∧ win0_3.index t = ![0, 0] ∧ win0_4.index t = ![t.val, 0]
    ∧ win0_5.index t = ![t.val, 0, 0, 0] :=
  (by decide +kernel : ∀ t : Fin grid0.N, _)

section pieces
variable (t : Fin cfg0.N) (i h : Fin 4) (b : Fin 128) (hb : b.val = t.val * 4 + i.val)
include hb

theorem q_blk (r : Fin 4) (d : Fin 256) :
    proj4 (iblk m c 0 t) _ _ (slices_q i h) (ix2 r d) = qAt (A0 m c) b h r d := by
  pointwise [proj4, qAt]; blk_point [iblk, V, idx t]

theorem k_blk (r : Fin 4) (d : Fin 256) :
    proj4 (iblk m c 0 t) _ _ (slices_k i h) (ix2 r d) = kAt (A0 m c) b h r d := by
  pointwise [proj4, kAt]; blk_point [iblk, V, idx t]

theorem v_blk (r : Fin 4) (d : Fin 512) :
    proj8 (iblk m c 0 t) _ _ (slices_v i h) (ix2 r d) = vAt (A0 m c) b h r d := by
  pointwise [proj8, vAt]; blk_point [iblk, V, idx t]

theorem gate_blk (r : Fin 4) (d : Fin 512) :
    proj8 (iblk m c 0 t) _ _ (slices_gate i h) (ix2 r d) = gateAt (A0 m c) b h r d := by
  pointwise [proj8, gateAt]; blk_point [iblk, V, idx t]

theorem g_blk (r : Fin 4) (d : Fin 256) : gOf (iblk m c 1 t) i h (ix2 r d) = gAt (A1 m c) b h r d := by
  pointwise [gOf, gAt]; blk_point [iblk, V, idx t]

omit hb in
theorem w_blk (n : Fin 512) : View.ld (iblk m c 3 t) r0_3 (ix2 0 n) = wAt (A3 m c) n := by
  pointwise [wAt]; blk_point [iblk, V, idx t]

/-- A piece of the output block at point `t`: sequence `4 t + i`, head `h`. -/
theorem pieceO_at (s : FVec Ideal S1x1x256x512 .f32) (hs : ∀ d n, s (ix4 0 0 d n) = sAt (A2 m c) b h d n)
    (r : Fin 4) (n : Fin 512) :
    pieceO (iblk m c 0 t) (iblk m c 1 t) (iblk m c 3 t) s i h (ix2 r n)
      = normed (mixed (qAt (A0 m c) b h) (kAt (A0 m c) b h) (gAt (A1 m c) b h) (vAt (A0 m c) b h) (sAt (A2 m c) b h) r)
        (gateAt (A0 m c) b h r) (wAt (A3 m c)) n := by
  unfold pieceO
  rw [gated_apply]
  simp only [mix_apply, q_blk m c t i h b hb, k_blk m c t i h b hb, v_blk m c t i h b hb, gate_blk m c t i h b hb,
    g_blk m c t i h b hb, w_blk m c t, hs]

/-- A piece of the state block at point `t`, where no log decay is +∞. -/
theorem pieceS_at (hg : ∀ i, A1 m c i ≠ ⊤) (s : FVec Ideal S1x1x256x512 .f32)
    (hs : ∀ d n, s (ix4 0 0 d n) = sAt (A2 m c) b h d n) (d : Fin 256) (n : Fin 512) :
    pieceS (iblk m c 0 t) (iblk m c 1 t) s i h (ix4 0 0 d n)
      = state (kAt (A0 m c) b h) (gAt (A1 m c) b h) (vAt (A0 m c) b h) (sAt (A2 m c) b h) d n := by
  unfold pieceS
  rw [next_apply _ _ (fun r d => by rw [g_blk m c t i h b hb]; exact hg _)]
  simp only [k_blk m c t i h b hb, v_blk m c t i h b hb, g_blk m c t i h b hb, hs]

omit hb in
/-- A piece of the output block holds the reference's first result at the places the piece goes to. -/
theorem tileO (y : S16x2048.Idx) (x : S4x512.Idx) (h0 : (y 0).val = 4 * i.val + (x 0).val)
    (h1 : (y 1).val = 512 * h.val + (x 1).val) (s : FVec Ideal S1x1x256x512 .f32)
    (hs : ∀ (b : Fin 128), b.val = t.val * 4 + i.val → ∀ d n, s (ix4 0 0 d n) = sAt (A2 m c) b h d n) :
    pieceO (iblk m c 0 t) (iblk m c 1 t) (iblk m c 3 t) s i h x
      = Cert.GlaSampleRefIdeal.Read.val_main_v61 (F := Ideal) (A0 m c) (A1 m c) (A2 m c) (A3 m c)
          ((win0_4.blk t).view.emb y) := by
  have ht : t.val < 32 := lt_of_lt_of_eq t.isLt N_0
  idx_vars x
  replace h0 : (y 0).val = 4 * i.val + x0.val := h0
  replace h1 : (y 1).val = 512 * h.val + x1.val := h1
  refine (pieceO_at m c t i h ⟨t.val * 4 + i.val, by omega⟩ rfl s (hs _ rfl) x0 x1).trans
    (out_read_at _ _ _ _ ⟨t.val * 4 + i.val, by omega⟩ h x0 x1 _ ?_ ?_).symm
  · blk_simp [idx t]; show _ = (t.val * 4 + i.val) * 4 + x0.val; omega
  · blk_simp [idx t]; omega

omit hb in
/-- A piece of the state block holds the reference's second result at the places the piece goes to. -/
theorem tileS (hg : ∀ i, A1 m c i ≠ ⊤) (y : S4x4x256x512.Idx) (x : S1x1x256x512.Idx) (h0 : (y 0).val = i.val + (x 0).val)
    (h1 : (y 1).val = h.val + (x 1).val) (h2 : (y 2).val = (x 2).val) (h3 : (y 3).val = (x 3).val)
    (s : FVec Ideal S1x1x256x512 .f32)
    (hs : ∀ (b : Fin 128), b.val = t.val * 4 + i.val → ∀ d n, s (ix4 0 0 d n) = sAt (A2 m c) b h d n) :
    pieceS (iblk m c 0 t) (iblk m c 1 t) s i h x
      = Cert.GlaSampleRefIdeal.Read.val_main_v42 (F := Ideal) (A0 m c) (A1 m c) (A2 m c)
          ((win0_5.blk t).view.emb y) := by
  have ht : t.val < 32 := lt_of_lt_of_eq t.isLt N_0
  idx_vars x
  replace h0 : (y 0).val = i.val + x0.val := h0
  replace h1 : (y 1).val = h.val + x1.val := h1
  replace h2 : (y 2).val = x2.val := h2
  replace h3 : (y 3).val = x3.val := h3
  have e : (ix4 x0 x1 x2 x3 : S1x1x256x512.Idx) = ix4 0 0 x2 x3 := by
    rw [Subsingleton.elim x0 0, Subsingleton.elim x1 0]
  have e0 := x0.isLt
  have e1 := x1.isLt
  rw [e]
  refine Eq.trans rfl ((pieceS_at m c t i h ⟨t.val * 4 + i.val, by omega⟩ rfl hg s (hs _ rfl) x2 x3).trans
    ((state_read _ _ _ ⟨t.val * 4 + i.val, by omega⟩ h x2 x3).symm.trans (congrArg _ ?_)))
  refine funext fun a => Fin.ext ?_
  match a with
  | 0 => blk_simp [idx t]; show t.val * 4 + i.val = _; omega
  | 1 => blk_simp [idx t]; show h.val = _; omega
  | 2 => blk_simp [idx t]; show x2.val = _; omega
  | 3 => blk_simp [idx t]; show x3.val = _; omega

end pieces

/-- The first result array is the reference's first result. -/
theorem final4 : (dats m 0 c).arrAt 4 (cfgs 0).N
    = Cert.GlaSampleRefIdeal.Read.val_main_v61 (F := Ideal) (A0 m c) (A1 m c) (A2 m c) (A3 m c) := by
  refine (dats m 0 c).arrAt_eq_of_covers 4 _ (by decide +kernel) fun t _ y => ?_
  blk_simp
  rw [after0_4, out4_pieces]
  canon_tiles x h
  all_goals
    refine tileO m c t _ _ y x (by simpa using h0) (by simpa using h1) _ fun b hb d n => ?_
    pointwise [sAt]; blk_point [iblk, V, idx t]

/-- The second result array is the reference's second result, where no log decay is +∞. -/
theorem final5 (hg : ∀ i, A1 m c i ≠ ⊤) : (dats m 0 c).arrAt 5 (cfgs 0).N
    = Cert.GlaSampleRefIdeal.Read.val_main_v42 (F := Ideal) (A0 m c) (A1 m c) (A2 m c) := by
  refine (dats m 0 c).arrAt_eq_of_covers 5 _ (by decide +kernel) fun t _ y => ?_
  blk_simp
  rw [after0_5, out5_pieces]
  canon_tiles x h
  all_goals
    refine tileS m c t _ _ hg y x (by simpa using h0) (by simpa using h1) h2 h3 _ fun b hb d n => ?_
    pointwise [sAt]; blk_point [iblk, V, idx t]

end Cert.K.GlaSample

end
-- ==== Proof.GlaSample.Claims.lean ====
/- The claims about the recurrence kernel and its reference. -/
module

public import proofs.«01_k».proof.Defs
public import proofs.«01_k».proof.Proof.Gen.GlaSample.Frame
public import proofs.«01_k».proof.Proof.Gen.Pre_decay_finite
public import proofs.«01_k».proof.Proof.GlaSample.Value
public import Idealize.ShloMosaic.Lib.Claim
public import Idealize.ShloMosaic.Lib.Quiescent

@[expose] public section

set_option maxRecDepth 16384

noncomputable section

namespace Cert.K.GlaSample

open Idealize.ShloMosaic Idealize.ShloMosaic.TcCoe Idealize.SL.Sem

/-- The kernel's frame: it runs, leaves its arguments alone and ends quiescent. -/
theorem frame_P : Cert.quiescent_GlaSample := fun m g _ => Cert.GlaSample.Gen.frame m g
/-- The same of its idealization. -/
theorem frame_PI : Cert.quiescent_GlaSampleIdeal := fun m g _ => Cert.GlaSampleIdeal.Gen.frame m g
/-- The same under the precondition. -/
theorem frame_PI_pre : Cert.quiescent_GlaSampleIdeal_pre_decay_finite := fun m g _ => Cert.GlaSampleIdeal.Gen.frame m g
/-- The same of the reference. -/
theorem frame_RI : Cert.quiescent_GlaSampleRefIdeal := by
  intro m g _
  exact (θ_run Cert.GlaSampleRefIdeal.defs _ _).mono
    (fun r h => ⟨fun c => (h c).2.2, sem_eq_zero_of_no_sems (by decide) r.2⟩)
    (Cert.GlaSampleRefIdeal.Value.run (F := Ideal) m g)
/-- The same of the reference under the precondition. -/
theorem frame_RI_pre : Cert.quiescent_GlaSampleRefIdeal_pre_decay_finite := by
  intro m g _
  exact (θ_run Cert.GlaSampleRefIdeal.defs _ _).mono
    (fun r h => ⟨fun c => (h c).2.2, sem_eq_zero_of_no_sems (by decide) r.2⟩)
    (Cert.GlaSampleRefIdeal.Value.run (F := Ideal) m g)

/-- The precondition says that no log decay is +∞. -/
theorem ne_top_of_pre (m : (ℓ : Loc Cert.GlaSampleIdeal.nD Cert.GlaSampleIdeal.τ Cert.GlaSampleIdeal.sig) → Buf (Elt Ideal) ℓ)
    (hpre : Cert.Pre_GlaSampleIdeal_decay_finite m) (c : Dev Cert.GlaSampleIdeal.nD) (i) : A1 m c i ≠ ⊤ := by
  have h := congrFun (hpre c) i
  intro e
  pointwise [Cert.Pre_decay_finite.fn] at h
  have e' : m ((c.tc : Thread Cert.GlaSampleIdeal.nD Cert.GlaSampleIdeal.τ).loc Cert.GlaSampleIdeal.main_arg1) i = (⊤ : EReal) := e
  rw [e'] at h
  simp at h

/-- Kernel and reference compute the same two results over the reals. -/
theorem value : Cert.algebraic_GlaSampleIdeal_GlaSampleRefIdeal_pre_decay_finite := by
  pair_intro
  · run_from Cert.GlaSampleIdeal.Value.run_blocks m g
  · run_from Cert.GlaSampleRefIdeal.Value.run m' g'
    · rw [Cert.GlaSampleRefIdeal.Read.val_main_v61_eq, (hagree c).1, (hagree c).2.1, (hagree c).2.2.1, (hagree c).2.2.2]
      exact (final4 m c).symm
    · exact (final5 m c (ne_top_of_pre m hpre c)).symm

end Cert.K.GlaSample

end
-- ==== Proof.Ffn.Spec.lean ====
/- The half-step feed-forward block in plain numbers: what both programs compute, entry by entry, and how a sum over
   the feed-forward width is gathered tile by tile. -/
module

public import Idealize.ShloMosaic.PureOps.Ideal.Laws
public import Idealize.ShloMosaic.Lib.Pointwise
public import Idealize.ShloMosaic.Lib.Pipeline.ValueKit

@[expose] public section

noncomputable section

namespace Cert.K.Ffn

open Idealize.ShloMosaic

/-- The root-mean-square normalization of the row `x` with weights `w`, at lane `n`. -/
def rms (x w : Fin 2048 → EReal) (n : Fin 2048) : EReal :=
  x n * Ideal.rsqrt (Ideal.div (∑ k, x k * x k) (Ideal.ofBits .f32 0x45000000#32) + Ideal.ofBits .f32 0x358637BD#32) * w n

/-- The product of the row `h` with the column `g`. -/
def dot (h g : Fin 2048 → EReal) : EReal := ∑ k, h k * g k

/-- One unit of the gated feed-forward block, half of it: the silu of the gate times half of the up projection. -/
def act (h g u : Fin 2048 → EReal) : EReal :=
  dot h g * Ideal.logistic (dot h g) * (Ideal.ofBits .f32 0x3F000000#32 * dot h u)

/-- The half-step feed-forward block of the row `x` at lane `c`. -/
def halfStep (x w : Fin 2048 → EReal) (WG WU : Fin 2048 → Fin 5632 → EReal) (WD : Fin 5632 → Fin 2048 → EReal)
    (c : Fin 2048) : EReal :=
  x c + ∑ f, act (rms x w) (fun k => WG k f) (fun k => WU k f) * WD f c

/-- The bits of one half. -/
theorem half_eq : Ideal.ofBits .f32 0x3F000000#32 = ((0.5 : ℝ) : EReal) := by
  simp [Ideal.ofBits, Ideal.ieee, -EReal.coe_mul]
  norm_num

/-- A positive finite factor distributes over a sum of extended reals. -/
theorem mul_sum_half {n : ℕ} (f : Fin n → EReal) :
    Ideal.ofBits .f32 0x3F000000#32 * ∑ i, f i = ∑ i, Ideal.ofBits .f32 0x3F000000#32 * f i := by
  rw [half_eq]
  induction n with
  | zero => simp
  | succ n ih =>
    rw [Fin.sum_univ_succ, Fin.sum_univ_succ, ← ih, EReal.left_distrib_of_nonneg_of_ne_top]
    · exact_mod_cast (by norm_num : (0:ℝ) ≤ 0.5)
    · exact EReal.coe_ne_top _

/-- Taking half of the whole sum, as the reference does, is taking half of each unit's up projection. -/
theorem halfStep_eq (x w : Fin 2048 → EReal) (WG WU : Fin 2048 → Fin 5632 → EReal) (WD : Fin 5632 → Fin 2048 → EReal)
    (c : Fin 2048) :
    x c + Ideal.ofBits .f32 0x3F000000#32 * (∑ f, dot (rms x w) (fun k => WG k f) * Ideal.logistic (dot (rms x w) (fun k => WG k f))
        * dot (rms x w) (fun k => WU k f) * WD f c) = halfStep x w WG WU WD c := by
  rw [mul_sum_half, halfStep]
  refine congrArg (x c + ·) (Finset.sum_congr rfl fun f _ => ?_)
  simp only [act]
  ac_rfl

/-- The part of a sum over the feed-forward width that tile `j` of `T` lanes holds. -/
def part (T : ℕ) (t : Fin 5632 → EReal) (j : ℕ) : EReal :=
  ∑ l : Fin T, t ⟨(j * T + l.val) % 5632, Nat.mod_lt _ (by norm_num)⟩

/-- The tiles' parts add up to the whole sum. -/
theorem sum_parts (T J : ℕ) (hTJ : J * T = 5632) (t : Fin 5632 → EReal) :
    ∑ j ∈ Finset.range J, part T t j = ∑ f, t f := by
  rw [Finset.sum_range]
  refine Fin.sum_mul_add_congr (hL := hTJ.symm) fun s k hl => ?_
  congr 1
  exact Fin.ext (Nat.mod_eq_of_lt hl)

end Cert.K.Ffn

end
-- ==== Proof.HeadLast.Ref.lean ====
/- What the reference of the feed-forward head computes, entry by entry: every prompt row and every sample row is the
   half-step feed-forward block of that row, normalized, and the three weight results are the second layer's weights. -/
module

public import proofs.«01_k».proof.Proof.Ffn.Spec
public import proofs.«01_k».proof.Proof.Gen.HeadLastRefIdeal.Read

@[expose] public section

set_option maxRecDepth 16384

noncomputable section

namespace Cert.K.HeadLast

open Idealize.ShloMosaic Idealize.ShloMosaic.TcCoe Idealize.SL.Sem
open Cert.HeadLastRefIdeal Cert.HeadLastRefIdeal.Gen Cert.HeadLastRefIdeal.Read Cert.K.Ffn

variable (x0 : FVec Ideal S8192x2048 .f32) (x1 : FVec Ideal S512x2048 .f32) (x2 : FVec Ideal S2048 .f32)
  (x3 x4 : FVec Ideal S2x2048x5632 .f32) (x5 : FVec Ideal S2x5632x2048 .f32) (x6 : FVec Ideal S2048 .f32)

/-- A prompt row. -/
def promptAt (r : Fin 8192) (k : Fin 2048) : EReal := x0 (ix2 r k)
/-- A sample row. -/
def sampleAt (r : Fin 512) (k : Fin 2048) : EReal := x1 (ix2 r k)
/-- A vector of weights, lane by lane. -/
def vecAt (k : Fin 2048) : EReal := x2 (ix1 k)
/-- The second layer's gate (or up) projection. -/
def inAt (k : Fin 2048) (f : Fin 5632) : EReal := x3 (ix3 1 k f)
/-- The second layer's down projection. -/
def downAt (f : Fin 5632) (c : Fin 2048) : EReal := x5 (ix3 1 f c)

theorem gate_w (k : Fin 2048) (f : Fin 5632) : val_main_v1 (F := Ideal) x3 (ix2 k f) = inAt x3 k f := by
  pointwise [val_main_v1, val_main_v0]; rfl
theorem up_w (k : Fin 2048) (f : Fin 5632) : val_main_v3 (F := Ideal) x4 (ix2 k f) = inAt x4 k f := by
  pointwise [val_main_v3, val_main_v2]; rfl
theorem down_w (f : Fin 5632) (k : Fin 2048) : val_main_v5 (F := Ideal) x5 (ix2 f k) = downAt x5 f k := by
  pointwise [val_main_v5, val_main_v4]; rfl

/-- The three weight results. -/
theorem gate_out (k : Fin 2048) (f : Fin 5632) : val_main_v74 (F := Ideal) x3 (ix2 k f) = inAt x3 k f := by
  rw [← gate_w]; rfl
theorem up_out (k : Fin 2048) (f : Fin 5632) : val_main_v75 (F := Ideal) x4 (ix2 k f) = inAt x4 k f := by
  rw [← up_w]; rfl
theorem down_out (f : Fin 5632) (k : Fin 2048) : val_main_v76 (F := Ideal) x5 (ix2 f k) = downAt x5 f k := by
  rw [← down_w]; rfl

/-! The prompt's rows. -/

theorem hidden_p (r : Fin 8192) (k : Fin 2048) :
    val_main_v18 (F := Ideal) x0 x2 (ix2 r k) = rms (promptAt x0 r) (vecAt x2) k := by
  pointwise [val_main_v18, val_main_v17, val_main_v16, val_main_v15, val_main_v14, val_main_v13, val_main_v12, val_main_v11,
    val_main_cst_1, val_main_v10, val_main_v9, val_main_cst_0, val_main_v8, val_main_v7, val_main_cst, val_main_v6]
  simp only [rms, promptAt, vecAt]

theorem gate_p (r : Fin 8192) (f : Fin 5632) :
    val_main_v19 (F := Ideal) x0 x2 x3 (ix2 r f) = dot (rms (promptAt x0 r) (vecAt x2)) (fun k => inAt x3 k f) := by
  pointwise [val_main_v19]
  simp only [hidden_p, gate_w, dot]

theorem up_p (r : Fin 8192) (f : Fin 5632) :
    val_main_v21 (F := Ideal) x0 x2 x4 (ix2 r f) = dot (rms (promptAt x0 r) (vecAt x2)) (fun k => inAt x4 k f) := by
  pointwise [val_main_v21]
  simp only [hidden_p, up_w, dot]

theorem unit_p (r : Fin 8192) (f : Fin 5632) :
    val_main_v22 (F := Ideal) x0 x2 x3 x4 (ix2 r f)
      = val_main_v19 (F := Ideal) x0 x2 x3 (ix2 r f) * Ideal.logistic (val_main_v19 (F := Ideal) x0 x2 x3 (ix2 r f))
        * val_main_v21 (F := Ideal) x0 x2 x4 (ix2 r f) := by
  pointwise [val_main_v22, val_main_v20, val_main_call0_v5, val_main_call0_v4, val_main_call0_v3, val_main_call0_v2,
    val_main_call0_v1, val_main_call0_v0, val_main_call0_cst, val_main_call0_cst_0]
  rfl

theorem half_p (r : Fin 8192) (c : Fin 2048) :
    val_main_v26 (F := Ideal) x0 x2 x3 x4 x5 (ix2 r c)
      = halfStep (promptAt x0 r) (vecAt x2) (inAt x3) (inAt x4) (downAt x5) c := by
  rw [← halfStep_eq]
  pointwise [val_main_v26, val_main_v25, val_main_v24, val_main_cst_2, val_main_v23]
  simp only [unit_p, gate_p, up_p, down_w, promptAt]

theorem out_p (r : Fin 8192) (c : Fin 2048) :
    val_main_v39 (F := Ideal) x0 x2 x3 x4 x5 x6 (ix2 r c)
      = rms (halfStep (promptAt x0 r) (vecAt x2) (inAt x3) (inAt x4) (downAt x5)) (vecAt x6) c := by
  pointwise [val_main_v39, val_main_v38, val_main_v37, val_main_v36, val_main_v35, val_main_v34, val_main_v33, val_main_v32,
    val_main_cst_5, val_main_v31, val_main_v30, val_main_cst_4, val_main_v29, val_main_v28, val_main_cst_3, val_main_v27]
  simp only [half_p, rms, vecAt]

/-! The sample's rows. -/

theorem hidden_s (r : Fin 512) (k : Fin 2048) :
    val_main_v52 (F := Ideal) x1 x2 (ix2 r k) = rms (sampleAt x1 r) (vecAt x2) k := by
  pointwise [val_main_v52, val_main_v51, val_main_v50, val_main_v49, val_main_v48, val_main_v47, val_main_v46, val_main_v45,
    val_main_cst_8, val_main_v44, val_main_v43, val_main_cst_7, val_main_v42, val_main_v41, val_main_cst_6, val_main_v40]
  simp only [rms, sampleAt, vecAt]

theorem gate_s (r : Fin 512) (f : Fin 5632) :
    val_main_v53 (F := Ideal) x1 x2 x3 (ix2 r f) = dot (rms (sampleAt x1 r) (vecAt x2)) (fun k => inAt x3 k f) := by
  pointwise [val_main_v53]
  simp only [hidden_s, gate_w, dot]

theorem up_s (r : Fin 512) (f : Fin 5632) :
    val_main_v55 (F := Ideal) x1 x2 x4 (ix2 r f) = dot (rms (sampleAt x1 r) (vecAt x2)) (fun k => inAt x4 k f) := by
  pointwise [val_main_v55]
  simp only [hidden_s, up_w, dot]

theorem unit_s (r : Fin 512) (f : Fin 5632) :
    val_main_v56 (F := Ideal) x1 x2 x3 x4 (ix2 r f)
      = val_main_v53 (F := Ideal) x1 x2 x3 (ix2 r f) * Ideal.logistic (val_main_v53 (F := Ideal) x1 x2 x3 (ix2 r f))
        * val_main_v55 (F := Ideal) x1 x2 x4 (ix2 r f) := by
  pointwise [val_main_v56, val_main_v54, val_main_call1_v5, val_main_call1_v4, val_main_call1_v3, val_main_call1_v2,
    val_main_call1_v1, val_main_call1_v0, val_main_call1_cst, val_main_call1_cst_0]
  rfl

theorem half_s (r : Fin 512) (c : Fin 2048) :
    val_main_v60 (F := Ideal) x1 x2 x3 x4 x5 (ix2 r c)
      = halfStep (sampleAt x1 r) (vecAt x2) (inAt x3) (inAt x4) (downAt x5) c := by
  rw [← halfStep_eq]
  pointwise [val_main_v60, val_main_v59, val_main_v58, val_main_cst_9, val_main_v57]
  simp only [unit_s, gate_s, up_s, down_w, sampleAt]

theorem out_s (r : Fin 512) (c : Fin 2048) :
    val_main_v73 (F := Ideal) x1 x2 x3 x4 x5 x6 (ix2 r c)
      = rms (halfStep (sampleAt x1 r) (vecAt x2) (inAt x3) (inAt x4) (downAt x5)) (vecAt x6) c := by
  pointwise [val_main_v73, val_main_v72, val_main_v71, val_main_v70, val_main_v69, val_main_v68, val_main_v67, val_main_v66,
    val_main_cst_12, val_main_v65, val_main_v64, val_main_cst_11, val_main_v63, val_main_v62, val_main_cst_10, val_main_v61]
  simp only [half_s, rms, vecAt]

end Cert.K.HeadLast

end
-- ==== Proof.HeadLast.Value.lean ====
/- What the feed-forward head leaves in its results: the first block of prompt rows and the sample rows, each the input
   row plus the feed-forward units gathered tile by tile, normalized at the last tile; and the layer's weights, tile by
   tile. -/
module

public import proofs.«01_k».proof.Proof.HeadLast.Ref
public import proofs.«01_k».proof.Proof.Gen.HeadLastIdeal.Value
public import Idealize.ShloMosaic.Lib.Pipeline.ValueKit

@[expose] public section

set_option maxRecDepth 16384

noncomputable section

namespace Cert.K.HeadLast

open Idealize.ShloMosaic Idealize.ShloMosaic.TcCoe Idealize.SL.Sem
open Idealize.ShloMosaic.Pipeline (Dat)
open Cert.HeadLastIdeal Cert.HeadLastIdeal.Gen Cert.K.Ffn

/-- The normalized prompt rows the kernel keeps. -/
theorem hidden_prompt (x : FVec Ideal S1024x2048 .f32) (w : FVec Ideal S1x2048 .f32) (r : Fin 1024) (k : Fin 2048) :
    k0_pay15 (F := Ideal) x (k0_pay13 (F := Ideal) w) (k0_pay14 (F := Ideal) x) (ix2 r k)
      = rms (fun k => x (ix2 r k)) (fun k => w (ix2 0 k)) k := by
  pointwise [k0_pay15, k0_pay13, k0_pay14]
  simp only [rms]

/-- The normalized sample rows the kernel keeps. -/
theorem hidden_sample (x : FVec Ideal S512x2048 .f32) (w : FVec Ideal S1x2048 .f32) (r : Fin 512) (k : Fin 2048) :
    k0_pay1 (F := Ideal) x (k0_pay20 (F := Ideal) w) (k0_pay21 (F := Ideal) x) (k0_pay22 (F := Ideal)) (ix2 r k)
      = rms (fun k => x (ix2 r k)) (fun k => w (ix2 0 k)) k := by
  pointwise [k0_pay1, k0_pay20, k0_pay21, k0_pay22]
  simp only [rms]

/-- The final normalization of prompt rows. -/
theorem pay5_apply (x : FVec Ideal S1024x2048 .f32) (w : FVec Ideal S1x2048 .f32) (r : Fin 1024) (k : Fin 2048) :
    k0_pay5 (F := Ideal) x w (ix2 r k) = rms (fun k => x (ix2 r k)) (fun k => w (ix2 0 k)) k := by
  pointwise [k0_pay5]
  simp only [rms]
/-- The final normalization of sample rows. -/
theorem pay6_apply (x : FVec Ideal S512x2048 .f32) (w : FVec Ideal S1x2048 .f32) (r : Fin 512) (k : Fin 2048) :
    k0_pay6 (F := Ideal) x w (ix2 r k) = rms (fun k => x (ix2 r k)) (fun k => w (ix2 0 k)) k := by
  pointwise [k0_pay6]
  simp only [rms]

/-- A weight tile is the block handed in. -/
theorem pay7_apply (x : FVec Ideal S1x2048x256 .f32) (k : Fin 2048) (l : Fin 256) :
    k0_pay7 (F := Ideal) x (ix2 k l) = x (ix3 0 k l) := by
  pointwise [k0_pay7]
theorem pay9_apply (x : FVec Ideal S1x256x2048 .f32) (k : Fin 2048) (l : Fin 256) :
    k0_pay9 (F := Ideal) x (ix2 l k) = x (ix3 0 l k) := by
  pointwise [k0_pay9]

/-- One tile's units through the down projection, prompt rows. -/
theorem pay26_apply (g u : FVec Ideal S2048x256 .bf16) (d : FVec Ideal S256x2048 .bf16) (h : FVec Ideal S1024x2048 .bf16)
    (r : Fin 1024) (c : Fin 2048) :
    k0_pay26 (F := Ideal) g u d h (ix2 r c)
      = ∑ l : Fin 256, act (fun k => h (ix2 r k)) (fun k => g (ix2 k l)) (fun k => u (ix2 k l)) * d (ix2 l c) := by
  pointwise [k0_pay26]
  simp only [act, dot]

/-- One tile's step on prompt rows: the contents before plus the tile's units through the down projection. -/
theorem prompt_step (g u : FVec Ideal S2048x256 .bf16) (d : FVec Ideal S256x2048 .bf16) (h : FVec Ideal S1024x2048 .bf16)
    (o : FVec Ideal S1024x2048 .f32) (r : Fin 1024) (c : Fin 2048) :
    k0_pay3 (F := Ideal) (k0_pay26 (F := Ideal) g u d h) o (ix2 r c) = o (ix2 r c)
      + ∑ l : Fin 256, act (fun k => h (ix2 r k)) (fun k => g (ix2 k l)) (fun k => u (ix2 k l)) * d (ix2 l c) := by
  rw [← pay26_apply]
  pointwise [k0_pay3]
theorem prompt_first (g u : FVec Ideal S2048x256 .bf16) (d : FVec Ideal S256x2048 .bf16) (h : FVec Ideal S1024x2048 .bf16)
    (o : FVec Ideal S1024x2048 .f32) (r : Fin 1024) (c : Fin 2048) :
    k0_pay16 (F := Ideal) (k0_pay10 (F := Ideal) g) (k0_pay11 (F := Ideal) u) (k0_pay12 (F := Ideal) d) h o (ix2 r c) = o (ix2 r c)
      + ∑ l : Fin 256, act (fun k => h (ix2 r k)) (fun k => g (ix2 k l)) (fun k => u (ix2 k l)) * d (ix2 l c) := by
  pointwise [k0_pay16, k0_pay10, k0_pay11, k0_pay12]
  simp only [act, dot]

/-- The same on sample rows. -/
theorem sample_step (g u : FVec Ideal S2048x256 .bf16) (d : FVec Ideal S256x2048 .bf16) (h : FVec Ideal S512x2048 .bf16)
    (o : FVec Ideal S512x2048 .f32) (r : Fin 512) (c : Fin 2048) :
    k0_pay4 (F := Ideal) g u d h o (ix2 r c) = o (ix2 r c)
      + ∑ l : Fin 256, act (fun k => h (ix2 r k)) (fun k => g (ix2 k l)) (fun k => u (ix2 k l)) * d (ix2 l c) := by
  pointwise [k0_pay4]
  simp only [act, dot]
theorem sample_first (g u : FVec Ideal S2048x256 .bf16) (d : FVec Ideal S256x2048 .bf16) (h : FVec Ideal S512x2048 .bf16)
    (o : FVec Ideal S512x2048 .f32) (r : Fin 512) (c : Fin 2048) :
    k0_pay2 (F := Ideal) (k0_pay17 (F := Ideal) g) (k0_pay18 (F := Ideal) u) (k0_pay19 (F := Ideal) d) h o (ix2 r c) = o (ix2 r c)
      + ∑ l : Fin 256, act (fun k => h (ix2 r k)) (fun k => g (ix2 k l)) (fun k => u (ix2 k l)) * d (ix2 l c) := by
  pointwise [k0_pay2, k0_pay17, k0_pay18, k0_pay19]
  simp only [act, dot]

variable (m : (ℓ : Loc nD τ sig) → Buf (Elt Ideal) ℓ)

/-- The prompt rows. -/
abbrev A0 (c : Dev nD) : FVec Ideal S8192x2048 .f32 := m ((c : Thread nD τ).loc main_arg0)
/-- The sample rows. -/
abbrev A1 (c : Dev nD) : FVec Ideal S512x2048 .f32 := m ((c : Thread nD τ).loc main_arg1)
/-- The norm's weights. -/
abbrev A2 (c : Dev nD) : FVec Ideal S2048 .f32 := m ((c : Thread nD τ).loc main_arg2)
/-- The gate projections of both layers. -/
abbrev A3 (c : Dev nD) : FVec Ideal S2x2048x5632 .f32 := m ((c : Thread nD τ).loc main_arg3)
/-- The up projections of both layers. -/
abbrev A4 (c : Dev nD) : FVec Ideal S2x2048x5632 .f32 := m ((c : Thread nD τ).loc main_arg4)
/-- The down projections of both layers. -/
abbrev A5 (c : Dev nD) : FVec Ideal S2x5632x2048 .f32 := m ((c : Thread nD τ).loc main_arg5)
/-- The final norm's weights. -/
abbrev A6 (c : Dev nD) : FVec Ideal S2048 .f32 := m ((c : Thread nD τ).loc main_arg6)

/-- Which block each window reads or writes at point `t`: the rows' first block, and tile `t` of the second layer. -/
theorem idx : ∀ t : Fin grid0.N,
    win0_0.index t = ![0, 0] ∧ win0_1.index t = ![0, 0] ∧ win0_2.index t = ![0, 0] ∧ win0_3.index t = ![1, 0, t.val]
      ∧ win0_4.index t = ![1, 0, t.val] ∧ win0_5.index t = ![1, t.val, 0] ∧ win0_6.index t = ![0, 0]
      ∧ win0_7.index t = ![0, 0] ∧ win0_8.index t = ![0, 0] ∧ win0_9.index t = ![0, t.val] ∧ win0_10.index t = ![0, t.val]
      ∧ win0_11.index t = ![t.val, 0] := by
  decide +kernel

variable (c : Dev nD) (t : Fin cfg0.N)

/-- Every point writes its weight tiles. -/
theorem wg_out : (outsAt0 m c t.val t.isLt).2.2.1 = k0_pay7 (F := Ideal) (iblk m c 3 t) := by
  have ht := lt_of_lt_of_eq t.isLt N_0
  by_cases h : t.val % 22 = 0
  · rw [outsAt0_A m c t h (by omega) (by omega)]; frame_out
  · by_cases h2 : t.val % 22 = 21
    · rw [outsAt0_C m c t h (by omega) h2]; frame_out; rfl
    · rw [outsAt0_B m c t h (by omega) h2]; frame_out; rfl
theorem wu_out : (outsAt0 m c t.val t.isLt).2.2.2.1 = k0_pay7 (F := Ideal) (iblk m c 4 t) := by
  have ht := lt_of_lt_of_eq t.isLt N_0
  by_cases h : t.val % 22 = 0
  · rw [outsAt0_A m c t h (by omega) (by omega)]; frame_out; rfl
  · by_cases h2 : t.val % 22 = 21
    · rw [outsAt0_C m c t h (by omega) h2]; frame_out; rfl
    · rw [outsAt0_B m c t h (by omega) h2]; frame_out; rfl
theorem wd_out : (outsAt0 m c t.val t.isLt).2.2.2.2.1 = k0_pay9 (F := Ideal) (iblk m c 5 t) := by
  have ht := lt_of_lt_of_eq t.isLt N_0
  by_cases h : t.val % 22 = 0
  · rw [outsAt0_A m c t h (by omega) (by omega)]; frame_out
  · by_cases h2 : t.val % 22 = 21
    · rw [outsAt0_C m c t h (by omega) h2]; frame_out; rfl
    · rw [outsAt0_B m c t h (by omega) h2]; frame_out; rfl

/-- The first point keeps the normalized rows … -/
theorem hid_p_A (h : t.val % 22 = 0) (h1 : ¬1 ≤ t.val) :
    (outsAt0 m c t.val t.isLt).2.2.2.2.2.1 = k0_pay15 (F := Ideal) (iblk m c 0 t) (k0_pay13 (F := Ideal) (iblk m c 2 t))
      (k0_pay14 (F := Ideal) (iblk m c 0 t)) := by
  rw [outsAt0_A m c t h h1 (by omega)]; frame_out
theorem hid_s_A (h : t.val % 22 = 0) (h1 : ¬1 ≤ t.val) :
    (outsAt0 m c t.val t.isLt).2.2.2.2.2.2 = k0_pay1 (F := Ideal) (iblk m c 1 t) (k0_pay20 (F := Ideal) (iblk m c 2 t))
      (k0_pay21 (F := Ideal) (iblk m c 1 t)) (k0_pay22 (F := Ideal)) := by
  rw [outsAt0_A m c t h h1 (by omega)]; frame_out
/-- … and adds its units to the input rows. -/
theorem out_p_A (h : t.val % 22 = 0) (h1 : ¬1 ≤ t.val) :
    (outsAt0 m c t.val t.isLt).1 = k0_pay16 (F := Ideal) (k0_pay10 (F := Ideal) (k0_pay7 (F := Ideal) (iblk m c 3 t)))
      (k0_pay11 (F := Ideal) (k0_pay7 (F := Ideal) (iblk m c 4 t))) (k0_pay12 (F := Ideal) (k0_pay9 (F := Ideal) (iblk m c 5 t)))
      (outsAt0 m c t.val t.isLt).2.2.2.2.2.1 (iblk m c 0 t) := by
  rw [hid_p_A m c t h h1, outsAt0_A m c t h h1 (by omega)]; frame_out; rfl
theorem out_s_A (h : t.val % 22 = 0) (h1 : ¬1 ≤ t.val) :
    (outsAt0 m c t.val t.isLt).2.1 = k0_pay2 (F := Ideal) (k0_pay17 (F := Ideal) (k0_pay7 (F := Ideal) (iblk m c 3 t)))
      (k0_pay18 (F := Ideal) (k0_pay7 (F := Ideal) (iblk m c 4 t))) (k0_pay19 (F := Ideal) (k0_pay9 (F := Ideal) (iblk m c 5 t)))
      (outsAt0 m c t.val t.isLt).2.2.2.2.2.2 (iblk m c 1 t) := by
  rw [hid_s_A m c t h h1, outsAt0_A m c t h h1 (by omega)]; frame_out; rfl
/-- Every other point keeps the rows … -/
theorem hid_p_B (h : ¬t.val % 22 = 0) :
    (outsAt0 m c t.val t.isLt).2.2.2.2.2.1 = (outsAt0 m c (t.val - 1) (by omega)).2.2.2.2.2.1 := by
  by_cases h2 : t.val % 22 = 21
  · rw [outsAt0_C m c t h (by omega) h2]; rfl
  · rw [outsAt0_B m c t h (by omega) h2]; rfl
theorem hid_s_B (h : ¬t.val % 22 = 0) :
    (outsAt0 m c t.val t.isLt).2.2.2.2.2.2 = (outsAt0 m c (t.val - 1) (by omega)).2.2.2.2.2.2 := by
  by_cases h2 : t.val % 22 = 21
  · rw [outsAt0_C m c t h (by omega) h2]; rfl
  · rw [outsAt0_B m c t h (by omega) h2]; rfl

/-- What a later point makes of the prompt rows before the final normalization. -/
def stepP : FVec Ideal S1024x2048 .f32 :=
  k0_pay3 (F := Ideal) (k0_pay26 (F := Ideal) (k0_pay7 (F := Ideal) (iblk m c 3 t)) (k0_pay7 (F := Ideal) (iblk m c 4 t))
    (k0_pay9 (F := Ideal) (iblk m c 5 t)) (outsAt0 m c (t.val - 1) (by omega)).2.2.2.2.2.1) (outsAt0 m c (t.val - 1) (by omega)).1
/-- What a later point makes of the sample rows before the final normalization. -/
def stepS : FVec Ideal S512x2048 .f32 :=
  k0_pay4 (F := Ideal) (k0_pay7 (F := Ideal) (iblk m c 3 t)) (k0_pay7 (F := Ideal) (iblk m c 4 t))
    (k0_pay9 (F := Ideal) (iblk m c 5 t)) (outsAt0 m c (t.val - 1) (by omega)).2.2.2.2.2.2 (outsAt0 m c (t.val - 1) (by omega)).2.1

/-- … and adds its units to the rows so far … -/
theorem out_p_B (h : ¬t.val % 22 = 0) (h2 : ¬t.val % 22 = 21) : (outsAt0 m c t.val t.isLt).1 = stepP m c t := by
  rw [outsAt0_B m c t h (by omega) h2]; frame_out
  exact congrArg (fun h => k0_pay3 (F := Ideal) (k0_pay26 (F := Ideal) _ _ _ h) _) ((Memref.isWhole_whole _).read_unread _)
theorem out_s_B (h : ¬t.val % 22 = 0) (h2 : ¬t.val % 22 = 21) : (outsAt0 m c t.val t.isLt).2.1 = stepS m c t := by
  rw [outsAt0_B m c t h (by omega) h2]; frame_out
  exact congrArg (fun h => k0_pay4 (F := Ideal) _ _ _ h _) ((Memref.isWhole_whole _).read_unread _)
/-- … which the last point normalizes. -/
theorem out_p_C (h2 : t.val % 22 = 21) :
    (outsAt0 m c t.val t.isLt).1 = k0_pay5 (F := Ideal) (stepP m c t) (iblk m c 6 t) := by
  rw [outsAt0_C m c t (by omega) (by omega) h2]; frame_out
  exact congrArg (fun h => k0_pay5 (F := Ideal) (k0_pay3 (F := Ideal) (k0_pay26 (F := Ideal) _ _ _ h) _) _)
    ((Memref.isWhole_whole _).read_unread _)
theorem out_s_C (h2 : t.val % 22 = 21) :
    (outsAt0 m c t.val t.isLt).2.1 = k0_pay6 (F := Ideal) (stepS m c t) (iblk m c 6 t) := by
  rw [outsAt0_C m c t (by omega) (by omega) h2]; frame_out
  exact congrArg (fun h => k0_pay6 (F := Ideal) (k0_pay4 (F := Ideal) _ _ _ h _) _) ((Memref.isWhole_whole _).read_unread _)

end Cert.K.HeadLast

end
-- ==== Proof.HeadLast.Sums.lean ====
/- The rows of the feed-forward head after any number of points, as sums over the units so far. -/
module

public import proofs.«01_k».proof.Proof.HeadLast.Value

@[expose] public section

set_option maxRecDepth 16384

noncomputable section

namespace Cert.K.HeadLast

open Idealize.ShloMosaic Idealize.ShloMosaic.TcCoe Idealize.SL.Sem
open Idealize.ShloMosaic.Pipeline (Dat)
open Cert.HeadLastIdeal Cert.HeadLastIdeal.Gen Cert.K.Ffn

variable (m : (ℓ : Loc nD τ sig) → Buf (Elt Ideal) ℓ) (c : Dev nD) (t : Fin cfg0.N)

/-- The prompt row that row `r` of the first block is. -/
def rowOf (r : Fin 1024) : Fin 8192 := ⟨r.val, by omega⟩

/-- The feed-forward unit that lane `l` of point `t`'s tile is. -/
def unitOf (l : Fin 256) : Fin 5632 := ⟨(t.val * 256 + l.val) % 5632, Nat.mod_lt _ (by norm_num)⟩

theorem p_blk (r : Fin 1024) (k : Fin 2048) : iblk m c 0 t (ix2 r k) = A0 m c (ix2 (rowOf r) k) := by
  blk_point [iblk, V, idx t, rowOf]
theorem s_blk (r : Fin 512) (k : Fin 2048) : iblk m c 1 t (ix2 r k) = A1 m c (ix2 r k) := by
  blk_point [iblk, V, idx t]
theorem w_blk (k : Fin 2048) : iblk m c 2 t (ix2 0 k) = A2 m c (ix1 k) := by
  blk_point [iblk, V, idx t]
theorem fw_blk (k : Fin 2048) : iblk m c 6 t (ix2 0 k) = A6 m c (ix1 k) := by
  blk_point [iblk, V, idx t]
theorem g_blk (k : Fin 2048) (l : Fin 256) : iblk m c 3 t (ix3 0 k l) = A3 m c (ix3 1 k (unitOf t l)) := by
  have ht := lt_of_lt_of_eq t.isLt N_0
  blk_point [iblk, V, idx t, unitOf]
theorem u_blk (k : Fin 2048) (l : Fin 256) : iblk m c 4 t (ix3 0 k l) = A4 m c (ix3 1 k (unitOf t l)) := by
  have ht := lt_of_lt_of_eq t.isLt N_0
  blk_point [iblk, V, idx t, unitOf]
theorem d_blk (l : Fin 256) (k : Fin 2048) : iblk m c 5 t (ix3 0 l k) = A5 m c (ix3 1 (unitOf t l) k) := by
  have ht := lt_of_lt_of_eq t.isLt N_0
  blk_point [iblk, V, idx t, unitOf]

/-- What unit `f` contributes to lane `k` of the row `x`. -/
def units (x : Fin 2048 → EReal) (k : Fin 2048) (f : Fin 5632) : EReal :=
  act (rms x (vecAt (A2 m c))) (fun k => inAt (A3 m c) k f) (fun k => inAt (A4 m c) k f) * downAt (A5 m c) f k

/-- The units of point `t`'s tile are the tile's part of all units. -/
theorem tile (x h : Fin 2048 → EReal) (k : Fin 2048) (hh : ∀ k, h k = rms x (vecAt (A2 m c)) k) :
    ∑ l : Fin 256, act h (fun k => k0_pay7 (F := Ideal) (iblk m c 3 t) (ix2 k l))
        (fun k => k0_pay7 (F := Ideal) (iblk m c 4 t) (ix2 k l)) * k0_pay9 (F := Ideal) (iblk m c 5 t) (ix2 l k)
      = part 256 (units m c x k) t.val := by
  refine Fin.sum_fin_congr fun l => ?_
  simp only [pay7_apply, pay9_apply, g_blk, u_blk, d_blk, funext hh]
  rfl

/-- The rows kept at any point are the normalized rows. -/
theorem hid_p (n : ℕ) (hn : n < cfg0.N) (r : Fin 1024) (k : Fin 2048) :
    (outsAt0 m c n hn).2.2.2.2.2.1 (ix2 r k) = rms (promptAt (A0 m c) (rowOf r)) (vecAt (A2 m c)) k := by
  induction n with
  | zero =>
    rw [hid_p_A m c ⟨0, hn⟩ rfl (by norm_num), hidden_prompt]
    simp only [p_blk, w_blk]; rfl
  | succ n ih =>
    have ht := lt_of_lt_of_eq hn N_0
    rw [hid_p_B m c ⟨n + 1, hn⟩ (by show ¬(n + 1) % 22 = 0; omega)]
    exact ih (by omega)
theorem hid_s (n : ℕ) (hn : n < cfg0.N) (r : Fin 512) (k : Fin 2048) :
    (outsAt0 m c n hn).2.2.2.2.2.2 (ix2 r k) = rms (sampleAt (A1 m c) r) (vecAt (A2 m c)) k := by
  induction n with
  | zero =>
    rw [hid_s_A m c ⟨0, hn⟩ rfl (by norm_num), hidden_sample]
    simp only [s_blk, w_blk]; rfl
  | succ n ih =>
    have ht := lt_of_lt_of_eq hn N_0
    rw [hid_s_B m c ⟨n + 1, hn⟩ (by show ¬(n + 1) % 22 = 0; omega)]
    exact ih (by omega)

theorem stepP_apply (n : ℕ) (hn : n + 1 < cfg0.N) (r : Fin 1024) (k : Fin 2048) :
    stepP m c ⟨n + 1, hn⟩ (ix2 r k) = (outsAt0 m c n (by omega)).1 (ix2 r k)
      + part 256 (units m c (promptAt (A0 m c) (rowOf r)) k) (n + 1) := by
  exact (prompt_step _ _ _ _ _ r k).trans (congrArg _ (tile m c ⟨n + 1, hn⟩ (promptAt (A0 m c) (rowOf r)) _ k fun k => hid_p m c n (by omega) r k))
theorem stepS_apply (n : ℕ) (hn : n + 1 < cfg0.N) (r : Fin 512) (k : Fin 2048) :
    stepS m c ⟨n + 1, hn⟩ (ix2 r k) = (outsAt0 m c n (by omega)).2.1 (ix2 r k)
      + part 256 (units m c (sampleAt (A1 m c) r) k) (n + 1) := by
  exact (sample_step _ _ _ _ _ r k).trans (congrArg _ (tile m c ⟨n + 1, hn⟩ (sampleAt (A1 m c) r) _ k fun k => hid_s m c n (by omega) r k))

/-- Before the last point the rows are the input rows plus the units of the tiles so far. -/
theorem acc_p (n : ℕ) (hn : n < cfg0.N) (h2 : ¬n = 21) (r : Fin 1024) (k : Fin 2048) :
    (outsAt0 m c n hn).1 (ix2 r k) = promptAt (A0 m c) (rowOf r) k
      + ∑ j ∈ Finset.range (n + 1), part 256 (units m c (promptAt (A0 m c) (rowOf r)) k) j := by
  induction n with
  | zero =>
    rw [out_p_A m c ⟨0, hn⟩ rfl (by norm_num), prompt_first,
      tile m c ⟨0, hn⟩ (promptAt (A0 m c) (rowOf r)) _ k (fun k => hid_p m c 0 hn r k), p_blk, Finset.sum_range_one]
    rfl
  | succ n ih =>
    have ht := lt_of_lt_of_eq hn N_0
    rw [out_p_B m c ⟨n + 1, hn⟩ (by show ¬(n + 1) % 22 = 0; omega) (by show ¬(n + 1) % 22 = 21; omega), stepP_apply,
      ih (by omega) (by omega), Finset.sum_range_succ _ (n + 1), ← add_assoc]
theorem acc_s (n : ℕ) (hn : n < cfg0.N) (h2 : ¬n = 21) (r : Fin 512) (k : Fin 2048) :
    (outsAt0 m c n hn).2.1 (ix2 r k) = sampleAt (A1 m c) r k
      + ∑ j ∈ Finset.range (n + 1), part 256 (units m c (sampleAt (A1 m c) r) k) j := by
  induction n with
  | zero =>
    rw [out_s_A m c ⟨0, hn⟩ rfl (by norm_num), sample_first,
      tile m c ⟨0, hn⟩ (sampleAt (A1 m c) r) _ k (fun k => hid_s m c 0 hn r k), s_blk, Finset.sum_range_one]
    rfl
  | succ n ih =>
    have ht := lt_of_lt_of_eq hn N_0
    rw [out_s_B m c ⟨n + 1, hn⟩ (by show ¬(n + 1) % 22 = 0; omega) (by show ¬(n + 1) % 22 = 21; omega), stepS_apply,
      ih (by omega) (by omega), Finset.sum_range_succ _ (n + 1), ← add_assoc]

/-- After the last point the rows are the normalized feed-forward rows. -/
theorem last_p (ht : t.val = 21) (r : Fin 1024) (k : Fin 2048) :
    (outsAt0 m c t.val t.isLt).1 (ix2 r k)
      = rms (halfStep (promptAt (A0 m c) (rowOf r)) (vecAt (A2 m c)) (inAt (A3 m c)) (inAt (A4 m c)) (downAt (A5 m c)))
          (vecAt (A6 m c)) k := by
  obtain ⟨n, hn⟩ := t
  obtain rfl : n = 21 := ht
  rw [out_p_C m c ⟨21, hn⟩ rfl, pay5_apply]
  refine congrArg₂ (fun x w => rms x w k) (funext fun k => ?_) (funext fun k => fw_blk m c _ k)
  · rw [stepP_apply m c 20 hn, acc_p m c 20 (by omega) (by norm_num), add_assoc, ← Finset.sum_range_succ, sum_parts 256 22 rfl]
    rfl
theorem last_s (ht : t.val = 21) (r : Fin 512) (k : Fin 2048) :
    (outsAt0 m c t.val t.isLt).2.1 (ix2 r k)
      = rms (halfStep (sampleAt (A1 m c) r) (vecAt (A2 m c)) (inAt (A3 m c)) (inAt (A4 m c)) (downAt (A5 m c)))
          (vecAt (A6 m c)) k := by
  obtain ⟨n, hn⟩ := t
  obtain rfl : n = 21 := ht
  rw [out_s_C m c ⟨21, hn⟩ rfl, pay6_apply]
  refine congrArg₂ (fun x w => rms x w k) (funext fun k => ?_) (funext fun k => fw_blk m c _ k)
  · rw [stepS_apply m c 20 hn, acc_s m c 20 (by omega) (by norm_num), add_assoc, ← Finset.sum_range_succ, sum_parts 256 22 rfl]
    rfl

end Cert.K.HeadLast

end
-- ==== Proof.HeadLast.Final.lean ====
/- The five results of the feed-forward head, as the reference has them. -/
module

public import proofs.«01_k».proof.Proof.HeadLast.Sums

@[expose] public section

set_option maxRecDepth 16384

noncomputable section

namespace Cert.K.HeadLast

open Idealize.ShloMosaic Idealize.ShloMosaic.TcCoe Idealize.SL.Sem
open Idealize.ShloMosaic.Pipeline (Dat)
open Cert.HeadLastIdeal Cert.HeadLastIdeal.Gen Cert.K.Ffn

variable (m : (ℓ : Loc nD τ sig) → Buf (Elt Ideal) ℓ) (c : Dev nD)

/-- The prompt rows of the first block. -/
theorem final7 (i : S8192x2048.Idx) (hi : (i 0 : ℕ) < 1024) : (dats m 0 c).arrAt 7 (cfgs 0).N i
    = Cert.HeadLastRefIdeal.Read.val_main_v39 (F := Ideal) (A0 m c) (A2 m c) (A3 m c) (A4 m c) (A5 m c) (A6 m c) i := by
  have e : (dats m 0 c).arrAt 7 (cfgs 0).N = fun i => if (i 0 : ℕ) < 1024 then
      Cert.HeadLastRefIdeal.Read.val_main_v39 (F := Ideal) (A0 m c) (A2 m c) (A3 m c) (A4 m c) (A5 m c) (A6 m c) i
      else V m c main_v2_0 i := by
    refine (dats m 0 c).arrAt_eq_of_coversWhere 7 _ (fun β => β 0 = 0) (by decide +kernel) (fun t hf y => ?_)
      (fun j => by blk_simp [Pipeline.Window.cell_apply]; omega)
    blk_simp
    rw [after0_7]
    idx_vars y
    have h21 := (flush0_7 t).mp hf
    have ht := lt_of_lt_of_eq t.isLt N_0
    have hv : t.val = 21 := by omega
    refine (last_p m c t hv y0 y1).trans ((out_p _ _ _ _ _ _ _ _).symm.trans (congrArg _ ?_))
    refine funext fun a => Fin.ext ?_
    match a with
    | 0 => blk_simp [idx t, rowOf]
    | 1 => blk_simp [idx t]
  rw [e]
  exact if_pos hi

/-- The sample rows. -/
theorem final8 : (dats m 0 c).arrAt 8 (cfgs 0).N
    = Cert.HeadLastRefIdeal.Read.val_main_v73 (F := Ideal) (A1 m c) (A2 m c) (A3 m c) (A4 m c) (A5 m c) (A6 m c) := by
  refine (dats m 0 c).arrAt_eq_of_covers 8 _ (by decide +kernel) (fun t hf y => ?_)
  blk_simp
  rw [after0_8]
  idx_vars y
  have h21 := (flush0_8 t).mp hf
  have ht := lt_of_lt_of_eq t.isLt N_0
  have hv : t.val = 21 := by omega
  refine (last_s m c t hv y0 y1).trans ((out_s _ _ _ _ _ _ _ _).symm.trans (congrArg _ ?_))
  refine funext fun a => Fin.ext ?_
  match a with
  | 0 => blk_simp [idx t]
  | 1 => blk_simp [idx t]

/-- The gate projection. -/
theorem final9 : (dats m 0 c).arrAt 9 (cfgs 0).N = Cert.HeadLastRefIdeal.Read.val_main_v74 (F := Ideal) (A3 m c) := by
  refine (dats m 0 c).arrAt_eq_of_covers 9 _ (by decide +kernel) (fun t hf y => ?_)
  have ht := lt_of_lt_of_eq t.isLt N_0
  blk_simp
  rw [after0_9, wg_out]
  idx_vars y
  refine (pay7_apply _ _ _).trans ((g_blk m c t y0 y1).trans ((gate_out _ _ _).symm.trans (congrArg _ ?_)))
  refine funext fun a => Fin.ext ?_
  match a with
  | 0 => blk_simp [idx t]
  | 1 => blk_simp [idx t, unitOf]; exact Nat.mod_eq_of_lt (by omega)

/-- The up projection. -/
theorem final10 : (dats m 0 c).arrAt 10 (cfgs 0).N = Cert.HeadLastRefIdeal.Read.val_main_v75 (F := Ideal) (A4 m c) := by
  refine (dats m 0 c).arrAt_eq_of_covers 10 _ (by decide +kernel) (fun t hf y => ?_)
  have ht := lt_of_lt_of_eq t.isLt N_0
  blk_simp
  rw [after0_10, wu_out]
  idx_vars y
  refine (pay7_apply _ _ _).trans ((u_blk m c t y0 y1).trans ((up_out _ _ _).symm.trans (congrArg _ ?_)))
  refine funext fun a => Fin.ext ?_
  match a with
  | 0 => blk_simp [idx t]
  | 1 => blk_simp [idx t, unitOf]; exact Nat.mod_eq_of_lt (by omega)

/-- The down projection. -/
theorem final11 : (dats m 0 c).arrAt 11 (cfgs 0).N = Cert.HeadLastRefIdeal.Read.val_main_v76 (F := Ideal) (A5 m c) := by
  refine (dats m 0 c).arrAt_eq_of_covers 11 _ (by decide +kernel) (fun t hf y => ?_)
  have ht := lt_of_lt_of_eq t.isLt N_0
  blk_simp
  rw [after0_11, wd_out]
  idx_vars y
  refine (pay9_apply _ _ _).trans ((d_blk m c t y0 y1).trans ((down_out _ _ _).symm.trans (congrArg _ ?_)))
  refine funext fun a => Fin.ext ?_
  match a with
  | 0 => blk_simp [idx t, unitOf]; exact Nat.mod_eq_of_lt (by omega)
  | 1 => blk_simp [idx t]

end Cert.K.HeadLast

end
-- ==== Proof.HeadLast.Claims.lean ====
/- The claims about the half-step FFN with final norm on the first 1024 prompt rows and the sample rows, and its
   reference. -/
module

public import proofs.«01_k».proof.Defs
public import proofs.«01_k».proof.Proof.Gen.HeadLast.Frame
public import proofs.«01_k».proof.Proof.HeadLast.Final
public import proofs.«01_k».proof.Proof.Gen.On_head_rows
public import Idealize.ShloMosaic.Lib.Claim
public import Idealize.ShloMosaic.Lib.Quiescent

@[expose] public section

set_option maxRecDepth 16384

noncomputable section

namespace Cert.K.HeadLast

open Idealize.ShloMosaic Idealize.ShloMosaic.TcCoe Idealize.SL.Sem
open Cert.HeadLastIdeal Cert.HeadLastIdeal.Gen

/-- The kernel's frame: it runs, leaves its arguments alone and ends quiescent. -/
theorem frame_P : Cert.quiescent_HeadLast := fun m g _ => Cert.HeadLast.Gen.frame m g
/-- The same of its idealization. -/
theorem frame_PI : Cert.quiescent_HeadLastIdeal := fun m g _ => Cert.HeadLastIdeal.Gen.frame m g
/-- The same of the reference. -/
theorem frame_RI : Cert.quiescent_HeadLastRefIdeal := by
  intro m g _
  exact (θ_run Cert.HeadLastRefIdeal.defs _ _).mono
    (fun r h => ⟨fun c => (h c).2.2.2.2.2, sem_eq_zero_of_no_sems (by decide) r.2⟩)
    (Cert.HeadLastRefIdeal.Value.run (F := Ideal) m g)

/-- Where the mask is set in the first result, the row is below 1024. -/
theorem row_lt_of_mask (x0 : FVec Ideal S8192x2048 .f32) (x1 : FVec Ideal S512x2048 .f32) (x2 : FVec Ideal S2048 .f32)
    (x3 x4 : FVec Ideal S2x2048x5632 .f32) (x5 : FVec Ideal S2x5632x2048 .f32) (x6 : FVec Ideal S2048 .f32)
    (i : S8192x2048.Idx) (h : (Cert.On_head_rows.fn (F := Ideal) x0 x1 x2 x3 x4 x5 x6).1 i = 1#1) : (i 0 : ℕ) < 1024 := by
  idx_vars i
  pointwise [Cert.On_head_rows.fn] at h
  exact (WordCmp.cmpi_slt_ofNat_eq_one_iff (by have := i0.isLt; omega) (by norm_num)).mp h

/-- Kernel and reference compute the same prompt rows below 1024, the same sample rows and the same weights over the
    reals. -/
theorem value : Cert.algebraic_HeadLastIdeal_HeadLastRefIdeal_on_head_rows := by
  intro m g m' g' _ hagree
  refine ⟨fun c => (dats m 0 c).arrAt 7 (cfgs 0).N, fun c => (dats m 0 c).arrAt 8 (cfgs 0).N,
    fun c => (dats m 0 c).arrAt 9 (cfgs 0).N, fun c => (dats m 0 c).arrAt 10 (cfgs 0).N,
    fun c => (dats m 0 c).arrAt 11 (cfgs 0).N, ?_, ?_⟩
  · exact (θ_run Cert.HeadLastIdeal.defs _ _).mono
      (fun r h c => ⟨fun i _ => congrFun (h c).1 i, fun i _ => congrFun (h c).2.1 i, fun i _ => congrFun (h c).2.2.1 i,
        fun i _ => congrFun (h c).2.2.2.1 i, fun i _ => congrFun (h c).2.2.2.2.1 i, (h c).2.2.2.2.2⟩)
      (Cert.HeadLastIdeal.Value.run_blocks m g)
  · refine (θ_run Cert.HeadLastRefIdeal.defs _ _).mono
      (fun r h c => ⟨fun i hi => (congrFun (h c).1 i).trans ?_, fun i _ => congrFun ((h c).2.1.trans ?_) i,
        fun i _ => congrFun ((h c).2.2.1.trans ?_) i, fun i _ => congrFun ((h c).2.2.2.1.trans ?_) i,
        fun i _ => congrFun ((h c).2.2.2.2.1.trans ?_) i, (h c).2.2.2.2.2⟩)
      (Cert.HeadLastRefIdeal.Value.run (F := Ideal) m' g')
    · rw [Cert.HeadLastRefIdeal.Read.val_main_v39_eq, (hagree c).1, (hagree c).2.2.1, (hagree c).2.2.2.1,
        (hagree c).2.2.2.2.1, (hagree c).2.2.2.2.2.1, (hagree c).2.2.2.2.2.2]
      exact (final7 m c i (row_lt_of_mask _ _ _ _ _ _ _ i hi)).symm
    · rw [Cert.HeadLastRefIdeal.Read.val_main_v73_eq, (hagree c).2.1, (hagree c).2.2.1, (hagree c).2.2.2.1,
        (hagree c).2.2.2.2.1, (hagree c).2.2.2.2.2.1, (hagree c).2.2.2.2.2.2]
      exact (final8 m c).symm
    · rw [(hagree c).2.2.2.1]; exact (final9 m c).symm
    · rw [(hagree c).2.2.2.2.1]; exact (final10 m c).symm
    · rw [(hagree c).2.2.2.2.2.1]; exact (final11 m c).symm

end Cert.K.HeadLast

end
-- ==== Proof.FfnLast.Ref.lean ====
/- What the reference of the feed-forward kernel computes, entry by entry: the first rows are handed through, every
   other row is the half-step feed-forward block of that row, normalized. -/
module

public import proofs.«01_k».proof.Proof.Ffn.Spec
public import proofs.«01_k».proof.Proof.Gen.FfnLastRefIdeal.Read

@[expose] public section

set_option maxRecDepth 16384

noncomputable section

namespace Cert.K.FfnLast

open Idealize.ShloMosaic Idealize.ShloMosaic.TcCoe Idealize.SL.Sem
open Cert.FfnLastRefIdeal Cert.FfnLastRefIdeal.Gen Cert.FfnLastRefIdeal.Read Cert.K.Ffn

variable (x0 : FVec Ideal S8192x2048 .f32) (x1 : FVec Ideal S2048 .f32) (x2 x3 : FVec Ideal S2048x5632 .bf16)
  (x4 : FVec Ideal S5632x2048 .bf16) (x5 : FVec Ideal S2048 .f32) (x6 : FVec Ideal S8192x2048 .f32)

/-- Row `r` of the input. -/
def rowAt (r : Fin 8192) (k : Fin 2048) : EReal := x0 (ix2 r k)
/-- A vector of weights, lane by lane. -/
def vecAt (k : Fin 2048) : EReal := x1 (ix1 k)
/-- The gate (or up) projection. -/
def inAt (k : Fin 2048) (f : Fin 5632) : EReal := x2 (ix2 k f)
/-- The down projection. -/
def downAt (f : Fin 5632) (c : Fin 2048) : EReal := x4 (ix2 f c)

theorem hidden_read (r : Fin 7168) (k : Fin 2048) :
    val_main_v16 (F := Ideal) x0 x1 (ix2 r k) = rms (rowAt x0 ⟨1024 + r.val, by omega⟩) (vecAt x1) k := by
  pointwise [val_main_v16, val_main_v15, val_main_v14, val_main_v13, val_main_v12, val_main_v11, val_main_v10, val_main_v9,
    val_main_cst_1, val_main_v8, val_main_v7, val_main_cst_0, val_main_v6, val_main_v5, val_main_cst, val_main_v4, val_main_v0]
  simp only [rms, rowAt, vecAt]

theorem gate_read (r : Fin 7168) (f : Fin 5632) :
    val_main_v17 (F := Ideal) x0 x1 x2 (ix2 r f)
      = dot (rms (rowAt x0 ⟨1024 + r.val, by omega⟩) (vecAt x1)) (fun k => inAt x2 k f) := by
  pointwise [val_main_v17, val_main_v1]
  simp only [hidden_read, dot, inAt]

theorem up_read (r : Fin 7168) (f : Fin 5632) :
    val_main_v19 (F := Ideal) x0 x1 x3 (ix2 r f)
      = dot (rms (rowAt x0 ⟨1024 + r.val, by omega⟩) (vecAt x1)) (fun k => inAt x3 k f) := by
  pointwise [val_main_v19, val_main_v2]
  simp only [hidden_read, dot, inAt]

theorem unit_read (r : Fin 7168) (f : Fin 5632) :
    val_main_v20 (F := Ideal) x0 x1 x2 x3 (ix2 r f)
      = val_main_v17 (F := Ideal) x0 x1 x2 (ix2 r f) * Ideal.logistic (val_main_v17 (F := Ideal) x0 x1 x2 (ix2 r f))
        * val_main_v19 (F := Ideal) x0 x1 x3 (ix2 r f) := by
  pointwise [val_main_v20, val_main_v18, val_main_call0_v5, val_main_call0_v4, val_main_call0_v3, val_main_call0_v2,
    val_main_call0_v1, val_main_call0_v0, val_main_call0_cst, val_main_call0_cst_0]
  rfl

theorem half_read (r : Fin 7168) (c : Fin 2048) :
    val_main_v24 (F := Ideal) x0 x1 x2 x3 x4 (ix2 r c)
      = halfStep (rowAt x0 ⟨1024 + r.val, by omega⟩) (vecAt x1) (inAt x2) (inAt x3) (downAt x4) c := by
  rw [← halfStep_eq]
  pointwise [val_main_v24, val_main_v23, val_main_v22, val_main_cst_2, val_main_v21, val_main_v3, val_main_v0]
  simp only [unit_read, gate_read, up_read, downAt, rowAt]

theorem last_read (r : Fin 7168) (c : Fin 2048) :
    val_main_v37 (F := Ideal) x0 x1 x2 x3 x4 x5 (ix2 r c)
      = rms (halfStep (rowAt x0 ⟨1024 + r.val, by omega⟩) (vecAt x1) (inAt x2) (inAt x3) (downAt x4)) (vecAt x5) c := by
  pointwise [val_main_v37, val_main_v36, val_main_v35, val_main_v34, val_main_v33, val_main_v32, val_main_v31, val_main_v30,
    val_main_cst_5, val_main_v29, val_main_v28, val_main_cst_4, val_main_v27, val_main_v26, val_main_cst_3, val_main_v25]
  simp only [half_read, rms, vecAt]

theorem out_read (r : Fin 8192) (c : Fin 2048) (h : 1024 ≤ r.val) :
    val_main_v39 (F := Ideal) x0 x1 x2 x3 x4 x5 x6 (ix2 r c)
      = rms (halfStep (rowAt x0 r) (vecAt x1) (inAt x2) (inAt x3) (downAt x4)) (vecAt x5) c := by
  pointwise [val_main_v39, val_main_v38]
  rw [dif_neg (by omega), last_read]
  have e : (⟨1024 + (r.val - 1024), by omega⟩ : Fin 8192) = r := Fin.ext (by simp; omega)
  simp only [e]

theorem kept_read (r : Fin 8192) (c : Fin 2048) (h : r.val < 1024) :
    val_main_v39 (F := Ideal) x0 x1 x2 x3 x4 x5 x6 (ix2 r c) = x6 (ix2 r c) := by
  pointwise [val_main_v39, val_main_v38]
  exact dif_pos h

end Cert.K.FfnLast

end
-- ==== Proof.FfnLast.Value.lean ====
/- What the feed-forward kernel leaves in its result: block by block, the input row plus the feed-forward units gathered
   tile by tile over the grid's second axis, normalized at the last tile. -/
module

public import proofs.«01_k».proof.Proof.FfnLast.Ref
public import proofs.«01_k».proof.Proof.Gen.FfnLastIdeal.Value
public import Idealize.ShloMosaic.Lib.Pipeline.ValueKit

@[expose] public section

set_option maxRecDepth 16384

noncomputable section

namespace Cert.K.FfnLast

open Idealize.ShloMosaic Idealize.ShloMosaic.TcCoe Idealize.SL.Sem
open Idealize.ShloMosaic.Pipeline (Dat)
open Cert.FfnLastIdeal Cert.FfnLastIdeal.Gen Cert.K.Ffn

/-- The normalized rows the kernel keeps. -/
theorem pay3_apply (x : FVec Ideal S1024x2048 .f32) (w : FVec Ideal S1x2048 .f32) (r : Fin 1024) (k : Fin 2048) :
    k0_pay3 (F := Ideal) x w (ix2 r k) = rms (fun k => x (ix2 r k)) (fun k => w (ix2 0 k)) k := by
  pointwise [k0_pay3]
  simp only [rms]

/-- The final normalization. -/
theorem pay2_apply (x : FVec Ideal S1024x2048 .f32) (w : FVec Ideal S1x2048 .f32) (r : Fin 1024) (k : Fin 2048) :
    k0_pay2 (F := Ideal) x w (ix2 r k) = rms (fun k => x (ix2 r k)) (fun k => w (ix2 0 k)) k := by
  pointwise [k0_pay2]
  simp only [rms]

/-- One tile's step: the contents before plus the tile's units through the down projection. -/
theorem pay4_apply (g u : FVec Ideal S2048x512 .bf16) (d : FVec Ideal S512x2048 .bf16) (h : FVec Ideal S1024x2048 .bf16)
    (o : FVec Ideal S1024x2048 .f32) (r : Fin 1024) (c : Fin 2048) :
    k0_pay4 (F := Ideal) g u d h o (ix2 r c) = o (ix2 r c)
      + ∑ l : Fin 512, act (fun k => h (ix2 r k)) (fun k => g (ix2 k l)) (fun k => u (ix2 k l)) * d (ix2 l c) := by
  pointwise [k0_pay4]
  simp only [act, dot]

theorem pay1_apply (g u : FVec Ideal S2048x512 .bf16) (d : FVec Ideal S512x2048 .bf16) (h : FVec Ideal S1024x2048 .bf16)
    (o : FVec Ideal S1024x2048 .f32) (r : Fin 1024) (c : Fin 2048) :
    k0_pay1 (F := Ideal) g u d h o (ix2 r c) = o (ix2 r c)
      + ∑ l : Fin 512, act (fun k => h (ix2 r k)) (fun k => g (ix2 k l)) (fun k => u (ix2 k l)) * d (ix2 l c) := by
  pointwise [k0_pay1]
  simp only [act, dot]

variable (m : (ℓ : Loc nD τ sig) → Buf (Elt Ideal) ℓ)

/-- The input rows. -/
abbrev A0 (c : Dev nD) : FVec Ideal S8192x2048 .f32 := m ((c : Thread nD τ).loc main_arg0)
/-- The norm's weights. -/
abbrev A1 (c : Dev nD) : FVec Ideal S2048 .f32 := m ((c : Thread nD τ).loc main_arg1)
/-- The gate projection. -/
abbrev A2 (c : Dev nD) : FVec Ideal S2048x5632 .bf16 := m ((c : Thread nD τ).loc main_arg2)
/-- The up projection. -/
abbrev A3 (c : Dev nD) : FVec Ideal S2048x5632 .bf16 := m ((c : Thread nD τ).loc main_arg3)
/-- The down projection. -/
abbrev A4 (c : Dev nD) : FVec Ideal S5632x2048 .bf16 := m ((c : Thread nD τ).loc main_arg4)
/-- The final norm's weights. -/
abbrev A5 (c : Dev nD) : FVec Ideal S2048 .f32 := m ((c : Thread nD τ).loc main_arg5)
/-- The result's contents before the launch. -/
abbrev A6 (c : Dev nD) : FVec Ideal S8192x2048 .f32 := m ((c : Thread nD τ).loc main_arg6)

/-- Which block each window reads or writes at a point: row block `1 + t / 11`, tile `t % 11`. -/
theorem idx : ∀ t : Fin grid0.N,
    win0_0.index t = ![1 + t.val / 11, 0] ∧ win0_1.index t = ![0, 0] ∧ win0_2.index t = ![0, t.val % 11]
      ∧ win0_3.index t = ![0, t.val % 11] ∧ win0_4.index t = ![t.val % 11, 0] ∧ win0_5.index t = ![0, 0]
      ∧ win0_6.index t = ![1 + t.val / 11, 0] := by
  decide +kernel

variable (c : Dev nD) (t : Fin cfg0.N)

/-- The first tile keeps the normalized rows … -/
theorem hid_A (h : t.val % 11 = 0) :
    (outsAt0 m c t.val t.isLt).2 = k0_pay3 (F := Ideal) (iblk m c 0 t) (iblk m c 1 t) := by
  rw [outsAt0_A m c t h (by omega) (by omega)]; frame_out
/-- … and adds its units to the input rows. -/
theorem out_A (h : t.val % 11 = 0) :
    (outsAt0 m c t.val t.isLt).1 = k0_pay4 (F := Ideal) (iblk m c 2 t) (iblk m c 3 t) (iblk m c 4 t)
      (k0_pay3 (F := Ideal) (iblk m c 0 t) (iblk m c 1 t)) (iblk m c 0 t) := by
  rw [outsAt0_A m c t h (by omega) (by omega)]; frame_out
/-- Every other tile keeps the rows … -/
theorem hid_B (h : ¬t.val % 11 = 0) :
    (outsAt0 m c t.val t.isLt).2 = (outsAt0 m c (t.val - 1) (by omega)).2 := by
  by_cases h2 : t.val % 11 = 10
  · rw [outsAt0_C m c t h (by omega) h2]; rfl
  · rw [outsAt0_B m c t h (by omega) h2]; rfl
/-- … and adds its units to the block … -/
theorem out_B (h : ¬t.val % 11 = 0) (h2 : ¬t.val % 11 = 10) :
    (outsAt0 m c t.val t.isLt).1 = k0_pay1 (F := Ideal) (iblk m c 2 t) (iblk m c 3 t) (iblk m c 4 t)
      (outsAt0 m c (t.val - 1) (by omega)).2 (outsAt0 m c (t.val - 1) (by omega)).1 := by
  rw [outsAt0_B m c t h (by omega) h2]; frame_out
  exact congrArg (fun h => k0_pay1 (F := Ideal) (iblk m c 2 t) (iblk m c 3 t) (iblk m c 4 t) h _)
    ((Memref.isWhole_whole _).read_unread _)
/-- … which the last tile normalizes. -/
theorem out_C (h2 : t.val % 11 = 10) :
    (outsAt0 m c t.val t.isLt).1 = k0_pay2 (F := Ideal) (k0_pay1 (F := Ideal) (iblk m c 2 t) (iblk m c 3 t) (iblk m c 4 t)
      (outsAt0 m c (t.val - 1) (by omega)).2 (outsAt0 m c (t.val - 1) (by omega)).1) (iblk m c 5 t) := by
  rw [outsAt0_C m c t (by omega) (by omega) h2]; frame_out
  exact congrArg (fun h => k0_pay2 (F := Ideal) (k0_pay1 (F := Ideal) (iblk m c 2 t) (iblk m c 3 t) (iblk m c 4 t) h _) _)
    ((Memref.isWhole_whole _).read_unread _)

/-- The row of the result that row `r` of point `t`'s block is. -/
def rowOf (r : Fin 1024) : Fin 8192 :=
  ⟨(1 + t.val / 11) * 1024 + r.val, by have := lt_of_lt_of_eq t.isLt N_0; omega⟩

/-- The feed-forward unit that lane `l` of point `t`'s tile is. -/
def unitOf (l : Fin 512) : Fin 5632 := ⟨(t.val % 11 * 512 + l.val) % 5632, Nat.mod_lt _ (by norm_num)⟩

theorem x_blk (r : Fin 1024) (k : Fin 2048) : iblk m c 0 t (ix2 r k) = A0 m c (ix2 (rowOf t r) k) := by
  blk_point [iblk, V, idx t, rowOf]
theorem w_blk (k : Fin 2048) : iblk m c 1 t (ix2 0 k) = A1 m c (ix1 k) := by
  blk_point [iblk, V, idx t]
theorem fw_blk (k : Fin 2048) : iblk m c 5 t (ix2 0 k) = A5 m c (ix1 k) := by
  blk_point [iblk, V, idx t]
theorem g_blk (k : Fin 2048) (l : Fin 512) : iblk m c 2 t (ix2 k l) = A2 m c (ix2 k (unitOf t l)) := by
  blk_point [iblk, V, idx t, unitOf]
theorem u_blk (k : Fin 2048) (l : Fin 512) : iblk m c 3 t (ix2 k l) = A3 m c (ix2 k (unitOf t l)) := by
  blk_point [iblk, V, idx t, unitOf]
theorem d_blk (l : Fin 512) (k : Fin 2048) : iblk m c 4 t (ix2 l k) = A4 m c (ix2 (unitOf t l) k) := by
  blk_point [iblk, V, idx t, unitOf]

/-- What unit `f` contributes to lane `k` of row `R`. -/
def units (R : Fin 8192) (k : Fin 2048) (f : Fin 5632) : EReal :=
  act (rms (rowAt (A0 m c) R) (vecAt (A1 m c))) (fun k => inAt (A2 m c) k f) (fun k => inAt (A3 m c) k f) * downAt (A4 m c) f k

/-- The units of point `t`'s tile are the tile's part of all units. -/
theorem tile (h : FVec Ideal S1024x2048 .bf16) (r : Fin 1024) (k : Fin 2048)
    (hh : ∀ k, h (ix2 r k) = rms (rowAt (A0 m c) (rowOf t r)) (vecAt (A1 m c)) k) :
    ∑ l : Fin 512, act (fun k => h (ix2 r k)) (fun k => iblk m c 2 t (ix2 k l)) (fun k => iblk m c 3 t (ix2 k l))
        * iblk m c 4 t (ix2 l k) = part 512 (units m c (rowOf t r) k) (t.val % 11) := by
  refine Fin.sum_fin_congr fun l => ?_
  simp only [g_blk, u_blk, d_blk]
  simp only [hh]
  rfl

theorem rowOf_pred (n : ℕ) (hn : n + 1 < cfg0.N) (h : ¬(n + 1) % 11 = 0) (r : Fin 1024) :
    rowOf ⟨n, by omega⟩ r = rowOf ⟨n + 1, hn⟩ r := by
  apply Fin.ext; simp only [rowOf]; omega

/-- The rows kept at any point are the normalized rows of the point's block. -/
theorem hid (n : ℕ) (hn : n < cfg0.N) (r : Fin 1024) (k : Fin 2048) :
    (outsAt0 m c n hn).2 (ix2 r k) = rms (rowAt (A0 m c) (rowOf ⟨n, hn⟩ r)) (vecAt (A1 m c)) k := by
  induction n with
  | zero =>
    rw [hid_A m c ⟨0, hn⟩ rfl, pay3_apply]
    simp only [x_blk, w_blk]; rfl
  | succ n ih =>
    by_cases h : (n + 1) % 11 = 0
    · rw [hid_A m c ⟨n + 1, hn⟩ h, pay3_apply]
      simp only [x_blk, w_blk]; rfl
    · rw [hid_B m c ⟨n + 1, hn⟩ h, ← rowOf_pred n hn h]
      exact ih (by omega)

/-- Before the last tile the block holds the input rows plus the units of the tiles so far. -/
theorem acc (n : ℕ) (hn : n < cfg0.N) (h2 : ¬n % 11 = 10) (r : Fin 1024) (k : Fin 2048) :
    (outsAt0 m c n hn).1 (ix2 r k) = rowAt (A0 m c) (rowOf ⟨n, hn⟩ r) k
      + ∑ j ∈ Finset.range (n % 11 + 1), part 512 (units m c (rowOf ⟨n, hn⟩ r) k) j := by
  have first : ∀ t : Fin cfg0.N, t.val % 11 = 0 → (outsAt0 m c t.val t.isLt).1 (ix2 r k) = rowAt (A0 m c) (rowOf t r) k
      + ∑ j ∈ Finset.range (t.val % 11 + 1), part 512 (units m c (rowOf t r) k) j := fun t h => by
    rw [out_A m c t h, pay4_apply, tile m c t _ r k fun k => by
      rw [pay3_apply]; simp only [x_blk, w_blk]; rfl]
    rw [x_blk, h, Finset.sum_range_one]; rfl
  induction n with
  | zero => exact first ⟨0, hn⟩ rfl
  | succ n ih =>
    by_cases h : (n + 1) % 11 = 0
    · exact first ⟨n + 1, hn⟩ h
    · rw [out_B m c ⟨n + 1, hn⟩ h h2, pay1_apply, tile m c ⟨n + 1, hn⟩ _ r k fun k => by
        rw [← rowOf_pred n hn h]; exact hid m c n (by omega) r k]
      have e : (n + 1) % 11 = n % 11 + 1 := by omega
      have ih' := ih (by omega) (by omega)
      rw [rowOf_pred n hn h] at ih'
      show (outsAt0 m c n _).1 (ix2 r k) + _ = _
      rw [ih', Finset.sum_range_succ _ ((n + 1) % 11), e, ← add_assoc]

/-- After the last tile the block holds the normalized feed-forward rows. -/
theorem last (n : ℕ) (hn : n + 1 < cfg0.N) (h2 : (n + 1) % 11 = 10) (r : Fin 1024) (k : Fin 2048) :
    (outsAt0 m c (n + 1) hn).1 (ix2 r k)
      = rms (halfStep (rowAt (A0 m c) (rowOf ⟨n + 1, hn⟩ r)) (vecAt (A1 m c)) (inAt (A2 m c)) (inAt (A3 m c)) (downAt (A4 m c)))
          (vecAt (A5 m c)) k := by
  have h : ¬(n + 1) % 11 = 0 := by omega
  rw [out_C m c ⟨n + 1, hn⟩ h2, pay2_apply]
  congr 1
  · funext k
    rw [pay1_apply, tile m c ⟨n + 1, hn⟩ _ r k fun k => by
      rw [← rowOf_pred n hn h]; exact hid m c n (by omega) r k]
    have ih' := acc m c n (by omega) (by omega) r k
    rw [rowOf_pred n hn h] at ih'
    have e : n % 11 + 1 = 10 := by omega
    show (outsAt0 m c n _).1 (ix2 r k) + _ = _
    rw [ih', e, add_assoc, h2, ← Finset.sum_range_succ, sum_parts 512 11 rfl]
    rfl
  · funext k; exact fw_blk m c _ k

/-- The whole result: the first rows as they were, every other row as the reference has it. -/
theorem final : (dats m 0 c).arrAt 6 (cfgs 0).N
    = Cert.FfnLastRefIdeal.Read.val_main_v39 (F := Ideal) (A0 m c) (A1 m c) (A2 m c) (A3 m c) (A4 m c) (A5 m c) (A6 m c) := by
  trans fun i => if 1024 ≤ (i 0 : ℕ) then
      Cert.FfnLastRefIdeal.Read.val_main_v39 (F := Ideal) (A0 m c) (A1 m c) (A2 m c) (A3 m c) (A4 m c) (A5 m c) (A6 m c) i
    else V m c main_v2 i
  · refine (dats m 0 c).arrAt_eq_of_coversWhere 6 _ (fun β => 1 ≤ β 0) (by decide +kernel) (fun t hf y => ?_)
      (fun j => by blk_simp [Pipeline.Window.cell_apply]; omega)
    blk_simp
    rw [after0_6]
    idx_vars y
    have h10 := (flush0_6 t).mp hf
    obtain ⟨n, hn⟩ := t
    obtain _ | n := n
    · exact absurd h10 (by norm_num)
    · refine (last m c n hn h10 y0 y1).trans ((out_read _ _ _ _ _ _ _ _ _ ?_).symm.trans (congrArg _ ?_))
      · show 1024 ≤ (1 + (n + 1) / 11) * 1024 + y0.val; omega
      · refine funext fun a => Fin.ext ?_
        match a with
        | 0 => blk_simp [idx ⟨n + 1, hn⟩, rowOf]
        | 1 => blk_simp [idx ⟨n + 1, hn⟩]
  · funext i
    idx_vars i
    by_cases h : 1024 ≤ i0.val
    · exact if_pos h
    · refine (if_neg h).trans ?_
      rw [kept_read _ _ _ _ _ _ _ _ _ (by omega)]
      rfl

end Cert.K.FfnLast

end
-- ==== Proof.FfnLast.Claims.lean ====
/- The claims about the half-step FFN with final norm on the rows after the first 1024, and its reference. -/
module

public import proofs.«01_k».proof.Defs
public import proofs.«01_k».proof.Proof.Gen.FfnLast.Frame
public import proofs.«01_k».proof.Proof.FfnLast.Value
public import Idealize.ShloMosaic.Lib.Claim
public import Idealize.ShloMosaic.Lib.Quiescent

@[expose] public section

set_option maxRecDepth 16384

noncomputable section

namespace Cert.K.FfnLast

open Idealize.ShloMosaic Idealize.ShloMosaic.TcCoe Idealize.SL.Sem

/-- The kernel's frame: it runs, leaves its arguments alone and ends quiescent. -/
theorem frame_P : Cert.quiescent_FfnLast := fun m g _ => Cert.FfnLast.Gen.frame m g
/-- The same of its idealization. -/
theorem frame_PI : Cert.quiescent_FfnLastIdeal := fun m g _ => Cert.FfnLastIdeal.Gen.frame m g
/-- The same of the reference. -/
theorem frame_RI : Cert.quiescent_FfnLastRefIdeal := by
  intro m g _
  exact (θ_run Cert.FfnLastRefIdeal.defs _ _).mono
    (fun r h => ⟨fun c => (h c).2, sem_eq_zero_of_no_sems (by decide) r.2⟩)
    (Cert.FfnLastRefIdeal.Value.run (F := Ideal) m g)

/-- Kernel and reference compute the same rows over the reals. -/
theorem value : Cert.algebraic_FfnLastIdeal_FfnLastRefIdeal := by
  pair_intro
  · run_from Cert.FfnLastIdeal.Value.run_blocks m g
  · run_from Cert.FfnLastRefIdeal.Value.run m' g'
    rw [Cert.FfnLastRefIdeal.Read.val_main_v39_eq, (hagree c).1, (hagree c).2.1, (hagree c).2.2.1, (hagree c).2.2.2.1,
      (hagree c).2.2.2.2.1, (hagree c).2.2.2.2.2.1, (hagree c).2.2.2.2.2.2]
    exact (final m c).symm

end Cert.K.FfnLast

end
-- ==== Proof.HeadMid.Ref.lean ====
/- What the reference of the feed-forward head computes, entry by entry: every prompt row and every sample row is the
   half-step feed-forward block of that row, and the three weight results are the first layer's weights. -/
module

public import proofs.«01_k».proof.Proof.HeadLast.Ref
public import proofs.«01_k».proof.Proof.Gen.HeadMidRefIdeal.Read

@[expose] public section

set_option maxRecDepth 16384

noncomputable section

namespace Cert.K.HeadMid

open Idealize.ShloMosaic Idealize.ShloMosaic.TcCoe Idealize.SL.Sem
open Cert.HeadMidRefIdeal Cert.HeadMidRefIdeal.Gen Cert.HeadMidRefIdeal.Read Cert.K.Ffn
open Cert.K.HeadLast (promptAt sampleAt vecAt)

variable (x0 : FVec Ideal S8192x2048 .f32) (x1 : FVec Ideal S512x2048 .f32) (x2 : FVec Ideal S2048 .f32)
  (x3 x4 : FVec Ideal S2x2048x5632 .f32) (x5 : FVec Ideal S2x5632x2048 .f32)

/-- The first layer's gate (or up) projection. -/
def inAt (k : Fin 2048) (f : Fin 5632) : EReal := x3 (ix3 0 k f)
/-- The first layer's down projection. -/
def downAt (f : Fin 5632) (c : Fin 2048) : EReal := x5 (ix3 0 f c)

theorem gate_w (k : Fin 2048) (f : Fin 5632) : val_main_v1 (F := Ideal) x3 (ix2 k f) = inAt x3 k f := by
  pointwise [val_main_v1, val_main_v0]; rfl
theorem up_w (k : Fin 2048) (f : Fin 5632) : val_main_v3 (F := Ideal) x4 (ix2 k f) = inAt x4 k f := by
  pointwise [val_main_v3, val_main_v2]; rfl
theorem down_w (f : Fin 5632) (k : Fin 2048) : val_main_v5 (F := Ideal) x5 (ix2 f k) = downAt x5 f k := by
  pointwise [val_main_v5, val_main_v4]; rfl

/-- The three weight results. -/
theorem gate_out (k : Fin 2048) (f : Fin 5632) : val_main_v48 (F := Ideal) x3 (ix2 k f) = inAt x3 k f := by
  rw [← gate_w]; rfl
theorem up_out (k : Fin 2048) (f : Fin 5632) : val_main_v49 (F := Ideal) x4 (ix2 k f) = inAt x4 k f := by
  rw [← up_w]; rfl
theorem down_out (f : Fin 5632) (k : Fin 2048) : val_main_v50 (F := Ideal) x5 (ix2 f k) = downAt x5 f k := by
  rw [← down_w]; rfl

/-! The prompt's rows. -/

theorem hidden_p (r : Fin 8192) (k : Fin 2048) :
    val_main_v18 (F := Ideal) x0 x2 (ix2 r k) = rms (promptAt x0 r) (vecAt x2) k :=
  HeadLast.hidden_p x0 x2 r k

theorem gate_p (r : Fin 8192) (f : Fin 5632) :
    val_main_v19 (F := Ideal) x0 x2 x3 (ix2 r f) = dot (rms (promptAt x0 r) (vecAt x2)) (fun k => inAt x3 k f) := by
  pointwise [val_main_v19]
  simp only [hidden_p, gate_w, dot]

theorem up_p (r : Fin 8192) (f : Fin 5632) :
    val_main_v21 (F := Ideal) x0 x2 x4 (ix2 r f) = dot (rms (promptAt x0 r) (vecAt x2)) (fun k => inAt x4 k f) := by
  pointwise [val_main_v21]
  simp only [hidden_p, up_w, dot]

theorem unit_p (r : Fin 8192) (f : Fin 5632) :
    val_main_v22 (F := Ideal) x0 x2 x3 x4 (ix2 r f)
      = val_main_v19 (F := Ideal) x0 x2 x3 (ix2 r f) * Ideal.logistic (val_main_v19 (F := Ideal) x0 x2 x3 (ix2 r f))
        * val_main_v21 (F := Ideal) x0 x2 x4 (ix2 r f) := by
  pointwise [val_main_v22, val_main_v20, val_main_call0_v5, val_main_call0_v4, val_main_call0_v3, val_main_call0_v2,
    val_main_call0_v1, val_main_call0_v0, val_main_call0_cst, val_main_call0_cst_0]
  rfl

theorem half_p (r : Fin 8192) (c : Fin 2048) :
    val_main_v26 (F := Ideal) x0 x2 x3 x4 x5 (ix2 r c)
      = halfStep (promptAt x0 r) (vecAt x2) (inAt x3) (inAt x4) (downAt x5) c := by
  rw [← halfStep_eq]
  pointwise [val_main_v26, val_main_v25, val_main_v24, val_main_cst_2, val_main_v23]
  simp only [unit_p, gate_p, up_p, down_w, promptAt]

/-! The sample's rows. -/

theorem hidden_s (r : Fin 512) (k : Fin 2048) :
    val_main_v39 (F := Ideal) x1 x2 (ix2 r k) = rms (sampleAt x1 r) (vecAt x2) k :=
  HeadLast.hidden_s x1 x2 r k

theorem gate_s (r : Fin 512) (f : Fin 5632) :
    val_main_v40 (F := Ideal) x1 x2 x3 (ix2 r f) = dot (rms (sampleAt x1 r) (vecAt x2)) (fun k => inAt x3 k f) := by
  pointwise [val_main_v40]
  simp only [hidden_s, gate_w, dot]

theorem up_s (r : Fin 512) (f : Fin 5632) :
    val_main_v42 (F := Ideal) x1 x2 x4 (ix2 r f) = dot (rms (sampleAt x1 r) (vecAt x2)) (fun k => inAt x4 k f) := by
  pointwise [val_main_v42]
  simp only [hidden_s, up_w, dot]

theorem unit_s (r : Fin 512) (f : Fin 5632) :
    val_main_v43 (F := Ideal) x1 x2 x3 x4 (ix2 r f)
      = val_main_v40 (F := Ideal) x1 x2 x3 (ix2 r f) * Ideal.logistic (val_main_v40 (F := Ideal) x1 x2 x3 (ix2 r f))
        * val_main_v42 (F := Ideal) x1 x2 x4 (ix2 r f) := by
  pointwise [val_main_v43, val_main_v41, val_main_call1_v5, val_main_call1_v4, val_main_call1_v3, val_main_call1_v2,
    val_main_call1_v1, val_main_call1_v0, val_main_call1_cst, val_main_call1_cst_0]
  rfl

theorem half_s (r : Fin 512) (c : Fin 2048) :
    val_main_v47 (F := Ideal) x1 x2 x3 x4 x5 (ix2 r c)
      = halfStep (sampleAt x1 r) (vecAt x2) (inAt x3) (inAt x4) (downAt x5) c := by
  rw [← halfStep_eq]
  pointwise [val_main_v47, val_main_v46, val_main_v45, val_main_cst_6, val_main_v44]
  simp only [unit_s, gate_s, up_s, down_w, sampleAt]

end Cert.K.HeadMid

end
-- ==== Proof.HeadMid.Value.lean ====
/- What the feed-forward head leaves in its results: the first block of prompt rows and the sample rows, each the input
   row plus the feed-forward units gathered tile by tile; and the layer's weights, tile by tile. -/
module

public import proofs.«01_k».proof.Proof.HeadMid.Ref
public import proofs.«01_k».proof.Proof.HeadLast.Value
public import proofs.«01_k».proof.Proof.Gen.HeadMidIdeal.Value
public import Idealize.ShloMosaic.Lib.Pipeline.ValueKit

@[expose] public section

set_option maxRecDepth 16384

noncomputable section

namespace Cert.K.HeadMid

open Idealize.ShloMosaic Idealize.ShloMosaic.TcCoe Idealize.SL.Sem
open Idealize.ShloMosaic.Pipeline (Dat)
open Cert.HeadMidIdeal Cert.HeadMidIdeal.Gen Cert.K.Ffn
open Cert.K.HeadLast (promptAt sampleAt vecAt)

/-! What each stored value is, entry by entry: the terms are those of the head with final norm. -/

/-- The normalized prompt rows the kernel keeps. -/
theorem hidden_prompt (x : FVec Ideal S1024x2048 .f32) (w : FVec Ideal S1x2048 .f32) (r : Fin 1024) (k : Fin 2048) :
    k0_pay13 (F := Ideal) x (k0_pay11 (F := Ideal) w) (k0_pay12 (F := Ideal) x) (ix2 r k)
      = rms (fun k => x (ix2 r k)) (fun k => w (ix2 0 k)) k :=
  HeadLast.hidden_prompt x w r k

/-- The normalized sample rows the kernel keeps. -/
theorem hidden_sample (x : FVec Ideal S512x2048 .f32) (w : FVec Ideal S1x2048 .f32) (r : Fin 512) (k : Fin 2048) :
    k0_pay1 (F := Ideal) x (k0_pay18 (F := Ideal) w) (k0_pay19 (F := Ideal) x) (k0_pay20 (F := Ideal)) (ix2 r k)
      = rms (fun k => x (ix2 r k)) (fun k => w (ix2 0 k)) k :=
  HeadLast.hidden_sample x w r k

/-- A weight tile is the block handed in. -/
theorem in_tile (x : FVec Ideal S1x2048x256 .f32) (k : Fin 2048) (l : Fin 256) :
    k0_pay5 (F := Ideal) x (ix2 k l) = x (ix3 0 k l) :=
  HeadLast.pay7_apply x k l
theorem down_tile (x : FVec Ideal S1x256x2048 .f32) (k : Fin 2048) (l : Fin 256) :
    k0_pay7 (F := Ideal) x (ix2 l k) = x (ix3 0 l k) :=
  HeadLast.pay9_apply x k l

/-- One tile's units through the down projection, prompt rows. -/
theorem units_apply (g u : FVec Ideal S2048x256 .bf16) (d : FVec Ideal S256x2048 .bf16) (h : FVec Ideal S1024x2048 .bf16)
    (r : Fin 1024) (c : Fin 2048) :
    k0_pay24 (F := Ideal) g u d h (ix2 r c)
      = ∑ l : Fin 256, act (fun k => h (ix2 r k)) (fun k => g (ix2 k l)) (fun k => u (ix2 k l)) * d (ix2 l c) :=
  HeadLast.pay26_apply g u d h r c

/-- One tile's step on prompt rows: the contents before plus the tile's units through the down projection. -/
theorem prompt_step (g u : FVec Ideal S2048x256 .bf16) (d : FVec Ideal S256x2048 .bf16) (h : FVec Ideal S1024x2048 .bf16)
    (o : FVec Ideal S1024x2048 .f32) (r : Fin 1024) (c : Fin 2048) :
    k0_pay3 (F := Ideal) (k0_pay24 (F := Ideal) g u d h) o (ix2 r c) = o (ix2 r c)
      + ∑ l : Fin 256, act (fun k => h (ix2 r k)) (fun k => g (ix2 k l)) (fun k => u (ix2 k l)) * d (ix2 l c) :=
  HeadLast.prompt_step g u d h o r c
theorem prompt_first (g u : FVec Ideal S2048x256 .bf16) (d : FVec Ideal S256x2048 .bf16) (h : FVec Ideal S1024x2048 .bf16)
    (o : FVec Ideal S1024x2048 .f32) (r : Fin 1024) (c : Fin 2048) :
    k0_pay14 (F := Ideal) (k0_pay8 (F := Ideal) g) (k0_pay9 (F := Ideal) u) (k0_pay10 (F := Ideal) d) h o (ix2 r c) = o (ix2 r c)
      + ∑ l : Fin 256, act (fun k => h (ix2 r k)) (fun k => g (ix2 k l)) (fun k => u (ix2 k l)) * d (ix2 l c) :=
  HeadLast.prompt_first g u d h o r c

/-- The same on sample rows. -/
theorem sample_step (g u : FVec Ideal S2048x256 .bf16) (d : FVec Ideal S256x2048 .bf16) (h : FVec Ideal S512x2048 .bf16)
    (o : FVec Ideal S512x2048 .f32) (r : Fin 512) (c : Fin 2048) :
    k0_pay4 (F := Ideal) g u d h o (ix2 r c) = o (ix2 r c)
      + ∑ l : Fin 256, act (fun k => h (ix2 r k)) (fun k => g (ix2 k l)) (fun k => u (ix2 k l)) * d (ix2 l c) :=
  HeadLast.sample_step g u d h o r c
theorem sample_first (g u : FVec Ideal S2048x256 .bf16) (d : FVec Ideal S256x2048 .bf16) (h : FVec Ideal S512x2048 .bf16)
    (o : FVec Ideal S512x2048 .f32) (r : Fin 512) (c : Fin 2048) :
    k0_pay2 (F := Ideal) (k0_pay15 (F := Ideal) g) (k0_pay16 (F := Ideal) u) (k0_pay17 (F := Ideal) d) h o (ix2 r c) = o (ix2 r c)
      + ∑ l : Fin 256, act (fun k => h (ix2 r k)) (fun k => g (ix2 k l)) (fun k => u (ix2 k l)) * d (ix2 l c) :=
  HeadLast.sample_first g u d h o r c

variable (m : (ℓ : Loc nD τ sig) → Buf (Elt Ideal) ℓ)

/-- The prompt rows. -/
abbrev A0 (c : Dev nD) : FVec Ideal S8192x2048 .f32 := m ((c : Thread nD τ).loc main_arg0)
/-- The sample rows. -/
abbrev A1 (c : Dev nD) : FVec Ideal S512x2048 .f32 := m ((c : Thread nD τ).loc main_arg1)
/-- The norm's weights. -/
abbrev A2 (c : Dev nD) : FVec Ideal S2048 .f32 := m ((c : Thread nD τ).loc main_arg2)
/-- The gate projections of both layers. -/
abbrev A3 (c : Dev nD) : FVec Ideal S2x2048x5632 .f32 := m ((c : Thread nD τ).loc main_arg3)
/-- The up projections of both layers. -/
abbrev A4 (c : Dev nD) : FVec Ideal S2x2048x5632 .f32 := m ((c : Thread nD τ).loc main_arg4)
/-- The down projections of both layers. -/
abbrev A5 (c : Dev nD) : FVec Ideal S2x5632x2048 .f32 := m ((c : Thread nD τ).loc main_arg5)

/-- Which block each window reads or writes at point `t`: the rows' first block, and tile `t` of the first layer. -/
theorem idx : ∀ t : Fin grid0.N,
    win0_0.index t = ![0, 0] ∧ win0_1.index t = ![0, 0] ∧ win0_2.index t = ![0, 0] ∧ win0_3.index t = ![0, 0, t.val]
      ∧ win0_4.index t = ![0, 0, t.val] ∧ win0_5.index t = ![0, t.val, 0] ∧ win0_6.index t = ![0, 0]
      ∧ win0_7.index t = ![0, 0] ∧ win0_8.index t = ![0, t.val] ∧ win0_9.index t = ![0, t.val]
      ∧ win0_10.index t = ![t.val, 0] := by
  decide +kernel

variable (c : Dev nD) (t : Fin cfg0.N)

/-- Every point writes its weight tiles. -/
theorem wg_out : (outsAt0 m c t.val t.isLt).2.2.1 = k0_pay5 (F := Ideal) (iblk m c 3 t) := by
  have ht := lt_of_lt_of_eq t.isLt N_0
  by_cases h : t.val % 22 = 0
  · rw [outsAt0_A m c t h (by omega)]; frame_out
  · rw [outsAt0_B m c t h (by omega)]; frame_out; rfl
theorem wu_out : (outsAt0 m c t.val t.isLt).2.2.2.1 = k0_pay5 (F := Ideal) (iblk m c 4 t) := by
  have ht := lt_of_lt_of_eq t.isLt N_0
  by_cases h : t.val % 22 = 0
  · rw [outsAt0_A m c t h (by omega)]; frame_out; rfl
  · rw [outsAt0_B m c t h (by omega)]; frame_out; rfl
theorem wd_out : (outsAt0 m c t.val t.isLt).2.2.2.2.1 = k0_pay7 (F := Ideal) (iblk m c 5 t) := by
  have ht := lt_of_lt_of_eq t.isLt N_0
  by_cases h : t.val % 22 = 0
  · rw [outsAt0_A m c t h (by omega)]; frame_out
  · rw [outsAt0_B m c t h (by omega)]; frame_out; rfl

/-- The first point keeps the normalized rows … -/
theorem hid_p_A (h : t.val % 22 = 0) (h1 : ¬1 ≤ t.val) :
    (outsAt0 m c t.val t.isLt).2.2.2.2.2.1 = k0_pay13 (F := Ideal) (iblk m c 0 t) (k0_pay11 (F := Ideal) (iblk m c 2 t))
      (k0_pay12 (F := Ideal) (iblk m c 0 t)) := by
  rw [outsAt0_A m c t h h1]; frame_out
theorem hid_s_A (h : t.val % 22 = 0) (h1 : ¬1 ≤ t.val) :
    (outsAt0 m c t.val t.isLt).2.2.2.2.2.2 = k0_pay1 (F := Ideal) (iblk m c 1 t) (k0_pay18 (F := Ideal) (iblk m c 2 t))
      (k0_pay19 (F := Ideal) (iblk m c 1 t)) (k0_pay20 (F := Ideal)) := by
  rw [outsAt0_A m c t h h1]; frame_out
/-- … and adds its units to the input rows. -/
theorem out_p_A (h : t.val % 22 = 0) (h1 : ¬1 ≤ t.val) :
    (outsAt0 m c t.val t.isLt).1 = k0_pay14 (F := Ideal) (k0_pay8 (F := Ideal) (k0_pay5 (F := Ideal) (iblk m c 3 t)))
      (k0_pay9 (F := Ideal) (k0_pay5 (F := Ideal) (iblk m c 4 t))) (k0_pay10 (F := Ideal) (k0_pay7 (F := Ideal) (iblk m c 5 t)))
      (outsAt0 m c t.val t.isLt).2.2.2.2.2.1 (iblk m c 0 t) := by
  rw [hid_p_A m c t h h1, outsAt0_A m c t h h1]; frame_out; rfl
theorem out_s_A (h : t.val % 22 = 0) (h1 : ¬1 ≤ t.val) :
    (outsAt0 m c t.val t.isLt).2.1 = k0_pay2 (F := Ideal) (k0_pay15 (F := Ideal) (k0_pay5 (F := Ideal) (iblk m c 3 t)))
      (k0_pay16 (F := Ideal) (k0_pay5 (F := Ideal) (iblk m c 4 t))) (k0_pay17 (F := Ideal) (k0_pay7 (F := Ideal) (iblk m c 5 t)))
      (outsAt0 m c t.val t.isLt).2.2.2.2.2.2 (iblk m c 1 t) := by
  rw [hid_s_A m c t h h1, outsAt0_A m c t h h1]; frame_out; rfl
/-- Every other point keeps the rows … -/
theorem hid_p_B (h : ¬t.val % 22 = 0) :
    (outsAt0 m c t.val t.isLt).2.2.2.2.2.1 = (outsAt0 m c (t.val - 1) (by omega)).2.2.2.2.2.1 := by
  rw [outsAt0_B m c t h (by omega)]; rfl
theorem hid_s_B (h : ¬t.val % 22 = 0) :
    (outsAt0 m c t.val t.isLt).2.2.2.2.2.2 = (outsAt0 m c (t.val - 1) (by omega)).2.2.2.2.2.2 := by
  rw [outsAt0_B m c t h (by omega)]; rfl

/-- What a later point makes of the prompt rows. -/
def stepP : FVec Ideal S1024x2048 .f32 :=
  k0_pay3 (F := Ideal) (k0_pay24 (F := Ideal) (k0_pay5 (F := Ideal) (iblk m c 3 t)) (k0_pay5 (F := Ideal) (iblk m c 4 t))
    (k0_pay7 (F := Ideal) (iblk m c 5 t)) (outsAt0 m c (t.val - 1) (by omega)).2.2.2.2.2.1) (outsAt0 m c (t.val - 1) (by omega)).1
/-- What a later point makes of the sample rows. -/
def stepS : FVec Ideal S512x2048 .f32 :=
  k0_pay4 (F := Ideal) (k0_pay5 (F := Ideal) (iblk m c 3 t)) (k0_pay5 (F := Ideal) (iblk m c 4 t))
    (k0_pay7 (F := Ideal) (iblk m c 5 t)) (outsAt0 m c (t.val - 1) (by omega)).2.2.2.2.2.2 (outsAt0 m c (t.val - 1) (by omega)).2.1

/-- … and adds its units to the rows so far. -/
theorem out_p_B (h : ¬t.val % 22 = 0) : (outsAt0 m c t.val t.isLt).1 = stepP m c t := by
  rw [outsAt0_B m c t h (by omega)]; frame_out
  exact congrArg (fun h => k0_pay3 (F := Ideal) (k0_pay24 (F := Ideal) _ _ _ h) _) ((Memref.isWhole_whole _).read_unread _)
theorem out_s_B (h : ¬t.val % 22 = 0) : (outsAt0 m c t.val t.isLt).2.1 = stepS m c t := by
  rw [outsAt0_B m c t h (by omega)]; frame_out
  exact congrArg (fun h => k0_pay4 (F := Ideal) _ _ _ h _) ((Memref.isWhole_whole _).read_unread _)
end Cert.K.HeadMid

end
-- ==== Proof.HeadMid.Sums.lean ====
/- The rows of the feed-forward head after any number of points, as sums over the units so far. -/
module

public import proofs.«01_k».proof.Proof.HeadMid.Value

@[expose] public section

set_option maxRecDepth 16384

noncomputable section

namespace Cert.K.HeadMid

open Idealize.ShloMosaic Idealize.ShloMosaic.TcCoe Idealize.SL.Sem
open Idealize.ShloMosaic.Pipeline (Dat)
open Cert.HeadMidIdeal Cert.HeadMidIdeal.Gen Cert.K.Ffn
open Cert.K.HeadLast (promptAt sampleAt vecAt)

variable (m : (ℓ : Loc nD τ sig) → Buf (Elt Ideal) ℓ) (c : Dev nD) (t : Fin cfg0.N)

/-- The prompt row that row `r` of the first block is. -/
def rowOf (r : Fin 1024) : Fin 8192 := ⟨r.val, by omega⟩

/-- The feed-forward unit that lane `l` of point `t`'s tile is. -/
def unitOf (l : Fin 256) : Fin 5632 := ⟨(t.val * 256 + l.val) % 5632, Nat.mod_lt _ (by norm_num)⟩

theorem p_blk (r : Fin 1024) (k : Fin 2048) : iblk m c 0 t (ix2 r k) = A0 m c (ix2 (rowOf r) k) := by
  blk_point [iblk, V, idx t, rowOf]
theorem s_blk (r : Fin 512) (k : Fin 2048) : iblk m c 1 t (ix2 r k) = A1 m c (ix2 r k) := by
  blk_point [iblk, V, idx t]
theorem w_blk (k : Fin 2048) : iblk m c 2 t (ix2 0 k) = A2 m c (ix1 k) := by
  blk_point [iblk, V, idx t]
theorem g_blk (k : Fin 2048) (l : Fin 256) : iblk m c 3 t (ix3 0 k l) = A3 m c (ix3 0 k (unitOf t l)) := by
  have ht := lt_of_lt_of_eq t.isLt N_0
  blk_point [iblk, V, idx t, unitOf]
theorem u_blk (k : Fin 2048) (l : Fin 256) : iblk m c 4 t (ix3 0 k l) = A4 m c (ix3 0 k (unitOf t l)) := by
  have ht := lt_of_lt_of_eq t.isLt N_0
  blk_point [iblk, V, idx t, unitOf]
theorem d_blk (l : Fin 256) (k : Fin 2048) : iblk m c 5 t (ix3 0 l k) = A5 m c (ix3 0 (unitOf t l) k) := by
  have ht := lt_of_lt_of_eq t.isLt N_0
  blk_point [iblk, V, idx t, unitOf]

/-- What unit `f` contributes to lane `k` of the row `x`. -/
def units (x : Fin 2048 → EReal) (k : Fin 2048) (f : Fin 5632) : EReal :=
  act (rms x (vecAt (A2 m c))) (fun k => inAt (A3 m c) k f) (fun k => inAt (A4 m c) k f) * downAt (A5 m c) f k

/-- The units of point `t`'s tile are the tile's part of all units. -/
theorem tile (x h : Fin 2048 → EReal) (k : Fin 2048) (hh : ∀ k, h k = rms x (vecAt (A2 m c)) k) :
    ∑ l : Fin 256, act h (fun k => k0_pay5 (F := Ideal) (iblk m c 3 t) (ix2 k l))
        (fun k => k0_pay5 (F := Ideal) (iblk m c 4 t) (ix2 k l)) * k0_pay7 (F := Ideal) (iblk m c 5 t) (ix2 l k)
      = part 256 (units m c x k) t.val := by
  refine Fin.sum_fin_congr fun l => ?_
  simp only [in_tile, down_tile, g_blk, u_blk, d_blk, funext hh]
  rfl

/-- The rows kept at any point are the normalized rows. -/
theorem hid_p (n : ℕ) (hn : n < cfg0.N) (r : Fin 1024) (k : Fin 2048) :
    (outsAt0 m c n hn).2.2.2.2.2.1 (ix2 r k) = rms (promptAt (A0 m c) (rowOf r)) (vecAt (A2 m c)) k := by
  induction n with
  | zero =>
    rw [hid_p_A m c ⟨0, hn⟩ rfl (by norm_num), hidden_prompt]
    simp only [p_blk, w_blk]; rfl
  | succ n ih =>
    have ht := lt_of_lt_of_eq hn N_0
    rw [hid_p_B m c ⟨n + 1, hn⟩ (by show ¬(n + 1) % 22 = 0; omega)]
    exact ih (by omega)
theorem hid_s (n : ℕ) (hn : n < cfg0.N) (r : Fin 512) (k : Fin 2048) :
    (outsAt0 m c n hn).2.2.2.2.2.2 (ix2 r k) = rms (sampleAt (A1 m c) r) (vecAt (A2 m c)) k := by
  induction n with
  | zero =>
    rw [hid_s_A m c ⟨0, hn⟩ rfl (by norm_num), hidden_sample]
    simp only [s_blk, w_blk]; rfl
  | succ n ih =>
    have ht := lt_of_lt_of_eq hn N_0
    rw [hid_s_B m c ⟨n + 1, hn⟩ (by show ¬(n + 1) % 22 = 0; omega)]
    exact ih (by omega)

theorem stepP_apply (n : ℕ) (hn : n + 1 < cfg0.N) (r : Fin 1024) (k : Fin 2048) :
    stepP m c ⟨n + 1, hn⟩ (ix2 r k) = (outsAt0 m c n (by omega)).1 (ix2 r k)
      + part 256 (units m c (promptAt (A0 m c) (rowOf r)) k) (n + 1) := by
  exact (prompt_step _ _ _ _ _ r k).trans (congrArg _ (tile m c ⟨n + 1, hn⟩ (promptAt (A0 m c) (rowOf r)) _ k fun k => hid_p m c n (by omega) r k))
theorem stepS_apply (n : ℕ) (hn : n + 1 < cfg0.N) (r : Fin 512) (k : Fin 2048) :
    stepS m c ⟨n + 1, hn⟩ (ix2 r k) = (outsAt0 m c n (by omega)).2.1 (ix2 r k)
      + part 256 (units m c (sampleAt (A1 m c) r) k) (n + 1) := by
  exact (sample_step _ _ _ _ _ r k).trans (congrArg _ (tile m c ⟨n + 1, hn⟩ (sampleAt (A1 m c) r) _ k fun k => hid_s m c n (by omega) r k))

/-- After any point the rows are the input rows plus the units of the tiles so far. -/
theorem acc_p (n : ℕ) (hn : n < cfg0.N) (r : Fin 1024) (k : Fin 2048) :
    (outsAt0 m c n hn).1 (ix2 r k) = promptAt (A0 m c) (rowOf r) k
      + ∑ j ∈ Finset.range (n + 1), part 256 (units m c (promptAt (A0 m c) (rowOf r)) k) j := by
  induction n with
  | zero =>
    rw [out_p_A m c ⟨0, hn⟩ rfl (by norm_num), prompt_first,
      tile m c ⟨0, hn⟩ (promptAt (A0 m c) (rowOf r)) _ k (fun k => hid_p m c 0 hn r k), p_blk, Finset.sum_range_one]
    rfl
  | succ n ih =>
    have ht := lt_of_lt_of_eq hn N_0
    rw [out_p_B m c ⟨n + 1, hn⟩ (by show ¬(n + 1) % 22 = 0; omega), stepP_apply,
      ih (by omega), Finset.sum_range_succ _ (n + 1), ← add_assoc]
theorem acc_s (n : ℕ) (hn : n < cfg0.N) (r : Fin 512) (k : Fin 2048) :
    (outsAt0 m c n hn).2.1 (ix2 r k) = sampleAt (A1 m c) r k
      + ∑ j ∈ Finset.range (n + 1), part 256 (units m c (sampleAt (A1 m c) r) k) j := by
  induction n with
  | zero =>
    rw [out_s_A m c ⟨0, hn⟩ rfl (by norm_num), sample_first,
      tile m c ⟨0, hn⟩ (sampleAt (A1 m c) r) _ k (fun k => hid_s m c 0 hn r k), s_blk, Finset.sum_range_one]
    rfl
  | succ n ih =>
    have ht := lt_of_lt_of_eq hn N_0
    rw [out_s_B m c ⟨n + 1, hn⟩ (by show ¬(n + 1) % 22 = 0; omega), stepS_apply,
      ih (by omega), Finset.sum_range_succ _ (n + 1), ← add_assoc]

/-- After the last point the rows are the feed-forward rows. -/
theorem last_p (ht : t.val = 21) (r : Fin 1024) (k : Fin 2048) :
    (outsAt0 m c t.val t.isLt).1 (ix2 r k)
      = halfStep (promptAt (A0 m c) (rowOf r)) (vecAt (A2 m c)) (inAt (A3 m c)) (inAt (A4 m c)) (downAt (A5 m c)) k := by
  rw [acc_p, ht, sum_parts 256 22 rfl]
  rfl
theorem last_s (ht : t.val = 21) (r : Fin 512) (k : Fin 2048) :
    (outsAt0 m c t.val t.isLt).2.1 (ix2 r k)
      = halfStep (sampleAt (A1 m c) r) (vecAt (A2 m c)) (inAt (A3 m c)) (inAt (A4 m c)) (downAt (A5 m c)) k := by
  rw [acc_s, ht, sum_parts 256 22 rfl]
  rfl

end Cert.K.HeadMid

end
-- ==== Proof.HeadMid.Final.lean ====
/- The five results of the feed-forward head, as the reference has them. -/
module

public import proofs.«01_k».proof.Proof.HeadMid.Sums

@[expose] public section

set_option maxRecDepth 16384

noncomputable section

namespace Cert.K.HeadMid

open Idealize.ShloMosaic Idealize.ShloMosaic.TcCoe Idealize.SL.Sem
open Idealize.ShloMosaic.Pipeline (Dat)
open Cert.HeadMidIdeal Cert.HeadMidIdeal.Gen Cert.K.Ffn
open Cert.K.HeadLast (promptAt sampleAt vecAt)

variable (m : (ℓ : Loc nD τ sig) → Buf (Elt Ideal) ℓ) (c : Dev nD)

/-- The prompt rows of the first block. -/
theorem final6 (i : S8192x2048.Idx) (hi : (i 0 : ℕ) < 1024) : (dats m 0 c).arrAt 6 (cfgs 0).N i
    = Cert.HeadMidRefIdeal.Read.val_main_v26 (F := Ideal) (A0 m c) (A2 m c) (A3 m c) (A4 m c) (A5 m c) i := by
  have e : (dats m 0 c).arrAt 6 (cfgs 0).N = fun i => if (i 0 : ℕ) < 1024 then
      Cert.HeadMidRefIdeal.Read.val_main_v26 (F := Ideal) (A0 m c) (A2 m c) (A3 m c) (A4 m c) (A5 m c) i
      else V m c main_v1_0 i := by
    refine (dats m 0 c).arrAt_eq_of_coversWhere 6 _ (fun β => β 0 = 0) (by decide +kernel) (fun t hf y => ?_)
      (fun j => by blk_simp [Pipeline.Window.cell_apply]; omega)
    blk_simp
    rw [after0_6]
    idx_vars y
    have h21 := (flush0_6 t).mp hf
    have ht := lt_of_lt_of_eq t.isLt N_0
    have hv : t.val = 21 := by omega
    refine (last_p m c t hv y0 y1).trans ((half_p _ _ _ _ _ _ _).symm.trans (congrArg _ ?_))
    refine funext fun a => Fin.ext ?_
    match a with
    | 0 => blk_simp [idx t, rowOf]
    | 1 => blk_simp [idx t]
  rw [e]
  exact if_pos hi

/-- The sample rows. -/
theorem final7 : (dats m 0 c).arrAt 7 (cfgs 0).N
    = Cert.HeadMidRefIdeal.Read.val_main_v47 (F := Ideal) (A1 m c) (A2 m c) (A3 m c) (A4 m c) (A5 m c) := by
  refine (dats m 0 c).arrAt_eq_of_covers 7 _ (by decide +kernel) (fun t hf y => ?_)
  blk_simp
  rw [after0_7]
  idx_vars y
  have h21 := (flush0_7 t).mp hf
  have ht := lt_of_lt_of_eq t.isLt N_0
  have hv : t.val = 21 := by omega
  refine (last_s m c t hv y0 y1).trans ((half_s _ _ _ _ _ _ _).symm.trans (congrArg _ ?_))
  refine funext fun a => Fin.ext ?_
  match a with
  | 0 => blk_simp [idx t]
  | 1 => blk_simp [idx t]

/-- The gate projection. -/
theorem final8 : (dats m 0 c).arrAt 8 (cfgs 0).N = Cert.HeadMidRefIdeal.Read.val_main_v48 (F := Ideal) (A3 m c) := by
  refine (dats m 0 c).arrAt_eq_of_covers 8 _ (by decide +kernel) (fun t hf y => ?_)
  have ht := lt_of_lt_of_eq t.isLt N_0
  blk_simp
  rw [after0_8, wg_out]
  idx_vars y
  refine (in_tile _ _ _).trans ((g_blk m c t y0 y1).trans ((gate_out _ _ _).symm.trans (congrArg _ ?_)))
  refine funext fun a => Fin.ext ?_
  match a with
  | 0 => blk_simp [idx t]
  | 1 => blk_simp [idx t, unitOf]; exact Nat.mod_eq_of_lt (by omega)

/-- The up projection. -/
theorem final9 : (dats m 0 c).arrAt 9 (cfgs 0).N = Cert.HeadMidRefIdeal.Read.val_main_v49 (F := Ideal) (A4 m c) := by
  refine (dats m 0 c).arrAt_eq_of_covers 9 _ (by decide +kernel) (fun t hf y => ?_)
  have ht := lt_of_lt_of_eq t.isLt N_0
  blk_simp
  rw [after0_9, wu_out]
  idx_vars y
  refine (in_tile _ _ _).trans ((u_blk m c t y0 y1).trans ((up_out _ _ _).symm.trans (congrArg _ ?_)))
  refine funext fun a => Fin.ext ?_
  match a with
  | 0 => blk_simp [idx t]
  | 1 => blk_simp [idx t, unitOf]; exact Nat.mod_eq_of_lt (by omega)

/-- The down projection. -/
theorem final10 : (dats m 0 c).arrAt 10 (cfgs 0).N = Cert.HeadMidRefIdeal.Read.val_main_v50 (F := Ideal) (A5 m c) := by
  refine (dats m 0 c).arrAt_eq_of_covers 10 _ (by decide +kernel) (fun t hf y => ?_)
  have ht := lt_of_lt_of_eq t.isLt N_0
  blk_simp
  rw [after0_10, wd_out]
  idx_vars y
  refine (down_tile _ _ _).trans ((d_blk m c t y0 y1).trans ((down_out _ _ _).symm.trans (congrArg _ ?_)))
  refine funext fun a => Fin.ext ?_
  match a with
  | 0 => blk_simp [idx t, unitOf]; exact Nat.mod_eq_of_lt (by omega)
  | 1 => blk_simp [idx t]

end Cert.K.HeadMid

end
-- ==== Proof.HeadMid.Claims.lean ====
/- The claims about the half-step FFN without final norm on the first 1024 prompt rows and the sample rows, and its
   reference. -/
module

public import proofs.«01_k».proof.Defs
public import proofs.«01_k».proof.Proof.Gen.HeadMid.Frame
public import proofs.«01_k».proof.Proof.HeadMid.Final
public import proofs.«01_k».proof.Proof.Gen.On_head_mid_rows
public import Idealize.ShloMosaic.Lib.Claim
public import Idealize.ShloMosaic.Lib.Quiescent

@[expose] public section

set_option maxRecDepth 16384

noncomputable section

namespace Cert.K.HeadMid

open Idealize.ShloMosaic Idealize.ShloMosaic.TcCoe Idealize.SL.Sem
open Cert.HeadMidIdeal Cert.HeadMidIdeal.Gen

/-- The kernel's frame: it runs, leaves its arguments alone and ends quiescent. -/
theorem frame_P : Cert.quiescent_HeadMid := fun m g _ => Cert.HeadMid.Gen.frame m g
/-- The same of its idealization. -/
theorem frame_PI : Cert.quiescent_HeadMidIdeal := fun m g _ => Cert.HeadMidIdeal.Gen.frame m g
/-- The same of the reference. -/
theorem frame_RI : Cert.quiescent_HeadMidRefIdeal := by
  intro m g _
  exact (θ_run Cert.HeadMidRefIdeal.defs _ _).mono
    (fun r h => ⟨fun c => (h c).2.2.2.2.2, sem_eq_zero_of_no_sems (by decide) r.2⟩)
    (Cert.HeadMidRefIdeal.Value.run (F := Ideal) m g)

/-- Where the mask is set in the first result, the row is below 1024. -/
theorem row_lt_of_mask (x0 : FVec Ideal S8192x2048 .f32) (x1 : FVec Ideal S512x2048 .f32) (x2 : FVec Ideal S2048 .f32)
    (x3 x4 : FVec Ideal S2x2048x5632 .f32) (x5 : FVec Ideal S2x5632x2048 .f32)
    (i : S8192x2048.Idx) (h : (Cert.On_head_mid_rows.fn (F := Ideal) x0 x1 x2 x3 x4 x5).1 i = 1#1) : (i 0 : ℕ) < 1024 := by
  idx_vars i
  pointwise [Cert.On_head_mid_rows.fn] at h
  exact (WordCmp.cmpi_slt_ofNat_eq_one_iff (by have := i0.isLt; omega) (by norm_num)).mp h

/-- Kernel and reference compute the same prompt rows below 1024, the same sample rows and the same weights over the
    reals. -/
theorem value : Cert.algebraic_HeadMidIdeal_HeadMidRefIdeal_on_head_mid_rows := by
  intro m g m' g' _ hagree
  refine ⟨fun c => (dats m 0 c).arrAt 6 (cfgs 0).N, fun c => (dats m 0 c).arrAt 7 (cfgs 0).N,
    fun c => (dats m 0 c).arrAt 8 (cfgs 0).N, fun c => (dats m 0 c).arrAt 9 (cfgs 0).N,
    fun c => (dats m 0 c).arrAt 10 (cfgs 0).N, ?_, ?_⟩
  · exact (θ_run Cert.HeadMidIdeal.defs _ _).mono
      (fun r h c => ⟨fun i _ => congrFun (h c).1 i, fun i _ => congrFun (h c).2.1 i, fun i _ => congrFun (h c).2.2.1 i,
        fun i _ => congrFun (h c).2.2.2.1 i, fun i _ => congrFun (h c).2.2.2.2.1 i, (h c).2.2.2.2.2⟩)
      (Cert.HeadMidIdeal.Value.run_blocks m g)
  · refine (θ_run Cert.HeadMidRefIdeal.defs _ _).mono
      (fun r h c => ⟨fun i hi => (congrFun (h c).1 i).trans ?_, fun i _ => congrFun ((h c).2.1.trans ?_) i,
        fun i _ => congrFun ((h c).2.2.1.trans ?_) i, fun i _ => congrFun ((h c).2.2.2.1.trans ?_) i,
        fun i _ => congrFun ((h c).2.2.2.2.1.trans ?_) i, (h c).2.2.2.2.2⟩)
      (Cert.HeadMidRefIdeal.Value.run (F := Ideal) m' g')
    · rw [Cert.HeadMidRefIdeal.Read.val_main_v26_eq, (hagree c).1, (hagree c).2.2.1, (hagree c).2.2.2.1,
        (hagree c).2.2.2.2.1, (hagree c).2.2.2.2.2]
      exact (final6 m c i (row_lt_of_mask _ _ _ _ _ _ i hi)).symm
    · rw [Cert.HeadMidRefIdeal.Read.val_main_v47_eq, (hagree c).2.1, (hagree c).2.2.1, (hagree c).2.2.2.1,
        (hagree c).2.2.2.2.1, (hagree c).2.2.2.2.2]
      exact (final7 m c).symm
    · rw [(hagree c).2.2.2.1]; exact (final8 m c).symm
    · rw [(hagree c).2.2.2.2.1]; exact (final9 m c).symm
    · rw [(hagree c).2.2.2.2.2]; exact (final10 m c).symm

end Cert.K.HeadMid

end
-- ==== Proof.FfnMid.Ref.lean ====
/- What the reference of the feed-forward kernel without final norm computes, entry by entry: the first rows are handed
   through, every other row is the half-step feed-forward block of that row. -/
module

public import proofs.«01_k».proof.Proof.FfnLast.Ref
public import proofs.«01_k».proof.Proof.Gen.FfnMidRefIdeal.Read

@[expose] public section

set_option maxRecDepth 16384

noncomputable section

namespace Cert.K.FfnMid

open Idealize.ShloMosaic Idealize.ShloMosaic.TcCoe Idealize.SL.Sem
open Cert.FfnMidRefIdeal Cert.FfnMidRefIdeal.Gen Cert.FfnMidRefIdeal.Read Cert.K.Ffn
open Cert.K.FfnLast (rowAt vecAt inAt downAt)

variable (x0 : FVec Ideal S8192x2048 .f32) (x1 : FVec Ideal S2048 .f32) (x2 x3 : FVec Ideal S2048x5632 .bf16)
  (x4 : FVec Ideal S5632x2048 .bf16) (x5 : FVec Ideal S8192x2048 .f32)

/-- The half step is the one the reference with final norm takes before it normalizes. -/
theorem half_read (r : Fin 7168) (c : Fin 2048) :
    val_main_v24 (F := Ideal) x0 x1 x2 x3 x4 (ix2 r c)
      = halfStep (rowAt x0 ⟨1024 + r.val, by omega⟩) (vecAt x1) (inAt x2) (inAt x3) (downAt x4) c :=
  (show val_main_v24 (F := Ideal) x0 x1 x2 x3 x4 (ix2 r c)
    = Cert.FfnLastRefIdeal.Read.val_main_v24 (F := Ideal) x0 x1 x2 x3 x4 (ix2 r c) from rfl).trans
    (FfnLast.half_read x0 x1 x2 x3 x4 r c)

theorem out_read (r : Fin 8192) (c : Fin 2048) (h : 1024 ≤ r.val) :
    val_main_v26 (F := Ideal) x0 x1 x2 x3 x4 x5 (ix2 r c)
      = halfStep (rowAt x0 r) (vecAt x1) (inAt x2) (inAt x3) (downAt x4) c := by
  pointwise [val_main_v26, val_main_v25]
  rw [dif_neg (by omega), half_read]
  have e : (⟨1024 + (r.val - 1024), by omega⟩ : Fin 8192) = r := Fin.ext (by simp; omega)
  simp only [e]

theorem kept_read (r : Fin 8192) (c : Fin 2048) (h : r.val < 1024) :
    val_main_v26 (F := Ideal) x0 x1 x2 x3 x4 x5 (ix2 r c) = x5 (ix2 r c) := by
  pointwise [val_main_v26, val_main_v25]
  exact dif_pos h

end Cert.K.FfnMid

end
-- ==== Proof.FfnMid.Value.lean ====
/- What the feed-forward kernel without final norm leaves in its result: block by block, the input row plus the
   feed-forward units gathered tile by tile over the grid's second axis. -/
module

public import proofs.«01_k».proof.Proof.FfnMid.Ref
public import proofs.«01_k».proof.Proof.FfnLast.Value
public import proofs.«01_k».proof.Proof.Gen.FfnMidIdeal.Value
public import Idealize.ShloMosaic.Lib.Pipeline.ValueKit

@[expose] public section

set_option maxRecDepth 16384

noncomputable section

namespace Cert.K.FfnMid

open Idealize.ShloMosaic Idealize.ShloMosaic.TcCoe Idealize.SL.Sem
open Idealize.ShloMosaic.Pipeline (Dat)
open Cert.FfnMidIdeal Cert.FfnMidIdeal.Gen Cert.K.Ffn
open Cert.K.FfnLast (rowAt vecAt inAt downAt)

/-- The normalized rows the kernel keeps. -/
theorem hidden_apply (x : FVec Ideal S1024x2048 .f32) (w : FVec Ideal S1x2048 .f32) (r : Fin 1024) (k : Fin 2048) :
    k0_pay2 (F := Ideal) x w (ix2 r k) = rms (fun k => x (ix2 r k)) (fun k => w (ix2 0 k)) k :=
  FfnLast.pay3_apply x w r k

/-- One tile's step: the contents before plus the tile's units through the down projection. -/
theorem first_apply (g u : FVec Ideal S2048x512 .bf16) (d : FVec Ideal S512x2048 .bf16) (h : FVec Ideal S1024x2048 .bf16)
    (o : FVec Ideal S1024x2048 .f32) (r : Fin 1024) (c : Fin 2048) :
    k0_pay3 (F := Ideal) g u d h o (ix2 r c) = o (ix2 r c)
      + ∑ l : Fin 512, act (fun k => h (ix2 r k)) (fun k => g (ix2 k l)) (fun k => u (ix2 k l)) * d (ix2 l c) :=
  FfnLast.pay4_apply g u d h o r c

theorem step_apply (g u : FVec Ideal S2048x512 .bf16) (d : FVec Ideal S512x2048 .bf16) (h : FVec Ideal S1024x2048 .bf16)
    (o : FVec Ideal S1024x2048 .f32) (r : Fin 1024) (c : Fin 2048) :
    k0_pay1 (F := Ideal) g u d h o (ix2 r c) = o (ix2 r c)
      + ∑ l : Fin 512, act (fun k => h (ix2 r k)) (fun k => g (ix2 k l)) (fun k => u (ix2 k l)) * d (ix2 l c) :=
  FfnLast.pay1_apply g u d h o r c

variable (m : (ℓ : Loc nD τ sig) → Buf (Elt Ideal) ℓ)

/-- The input rows. -/
abbrev A0 (c : Dev nD) : FVec Ideal S8192x2048 .f32 := m ((c : Thread nD τ).loc main_arg0)
/-- The norm's weights. -/
abbrev A1 (c : Dev nD) : FVec Ideal S2048 .f32 := m ((c : Thread nD τ).loc main_arg1)
/-- The gate projection. -/
abbrev A2 (c : Dev nD) : FVec Ideal S2048x5632 .bf16 := m ((c : Thread nD τ).loc main_arg2)
/-- The up projection. -/
abbrev A3 (c : Dev nD) : FVec Ideal S2048x5632 .bf16 := m ((c : Thread nD τ).loc main_arg3)
/-- The down projection. -/
abbrev A4 (c : Dev nD) : FVec Ideal S5632x2048 .bf16 := m ((c : Thread nD τ).loc main_arg4)
/-- The result's contents before the launch. -/
abbrev A5 (c : Dev nD) : FVec Ideal S8192x2048 .f32 := m ((c : Thread nD τ).loc main_arg5)

/-- Which block each window reads or writes at a point: row block `1 + t / 11`, tile `t % 11`. -/
theorem idx : ∀ t : Fin grid0.N,
    win0_0.index t = ![1 + t.val / 11, 0] ∧ win0_1.index t = ![0, 0] ∧ win0_2.index t = ![0, t.val % 11]
      ∧ win0_3.index t = ![0, t.val % 11] ∧ win0_4.index t = ![t.val % 11, 0] ∧ win0_5.index t = ![1 + t.val / 11, 0] := by
  decide +kernel

variable (c : Dev nD) (t : Fin cfg0.N)

/-- The first tile keeps the normalized rows … -/
theorem hid_A (h : t.val % 11 = 0) :
    (outsAt0 m c t.val t.isLt).2 = k0_pay2 (F := Ideal) (iblk m c 0 t) (iblk m c 1 t) := by
  rw [outsAt0_A m c t h (by omega)]; frame_out
/-- … and adds its units to the input rows. -/
theorem out_A (h : t.val % 11 = 0) :
    (outsAt0 m c t.val t.isLt).1 = k0_pay3 (F := Ideal) (iblk m c 2 t) (iblk m c 3 t) (iblk m c 4 t)
      (k0_pay2 (F := Ideal) (iblk m c 0 t) (iblk m c 1 t)) (iblk m c 0 t) := by
  rw [outsAt0_A m c t h (by omega)]; frame_out
/-- Every other tile keeps the rows … -/
theorem hid_B (h : ¬t.val % 11 = 0) :
    (outsAt0 m c t.val t.isLt).2 = (outsAt0 m c (t.val - 1) (by omega)).2 := by
  rw [outsAt0_B m c t h (by omega)]; rfl
/-- … and adds its units to the block. -/
theorem out_B (h : ¬t.val % 11 = 0) :
    (outsAt0 m c t.val t.isLt).1 = k0_pay1 (F := Ideal) (iblk m c 2 t) (iblk m c 3 t) (iblk m c 4 t)
      (outsAt0 m c (t.val - 1) (by omega)).2 (outsAt0 m c (t.val - 1) (by omega)).1 := by
  rw [outsAt0_B m c t h (by omega)]; frame_out
  exact congrArg (fun h => k0_pay1 (F := Ideal) (iblk m c 2 t) (iblk m c 3 t) (iblk m c 4 t) h _)
    ((Memref.isWhole_whole _).read_unread _)

/-- The row of the result that row `r` of point `t`'s block is. -/
def rowOf (r : Fin 1024) : Fin 8192 :=
  ⟨(1 + t.val / 11) * 1024 + r.val, by have := lt_of_lt_of_eq t.isLt N_0; omega⟩

/-- The feed-forward unit that lane `l` of point `t`'s tile is. -/
def unitOf (l : Fin 512) : Fin 5632 := ⟨(t.val % 11 * 512 + l.val) % 5632, Nat.mod_lt _ (by norm_num)⟩

theorem x_blk (r : Fin 1024) (k : Fin 2048) : iblk m c 0 t (ix2 r k) = A0 m c (ix2 (rowOf t r) k) := by
  blk_point [iblk, V, idx t, rowOf]
theorem w_blk (k : Fin 2048) : iblk m c 1 t (ix2 0 k) = A1 m c (ix1 k) := by
  blk_point [iblk, V, idx t]
theorem g_blk (k : Fin 2048) (l : Fin 512) : iblk m c 2 t (ix2 k l) = A2 m c (ix2 k (unitOf t l)) := by
  blk_point [iblk, V, idx t, unitOf]
theorem u_blk (k : Fin 2048) (l : Fin 512) : iblk m c 3 t (ix2 k l) = A3 m c (ix2 k (unitOf t l)) := by
  blk_point [iblk, V, idx t, unitOf]
theorem d_blk (l : Fin 512) (k : Fin 2048) : iblk m c 4 t (ix2 l k) = A4 m c (ix2 (unitOf t l) k) := by
  blk_point [iblk, V, idx t, unitOf]

/-- What unit `f` contributes to lane `k` of row `R`. -/
def units (R : Fin 8192) (k : Fin 2048) (f : Fin 5632) : EReal :=
  act (rms (rowAt (A0 m c) R) (vecAt (A1 m c))) (fun k => inAt (A2 m c) k f) (fun k => inAt (A3 m c) k f) * downAt (A4 m c) f k

/-- The units of point `t`'s tile are the tile's part of all units. -/
theorem tile (h : FVec Ideal S1024x2048 .bf16) (r : Fin 1024) (k : Fin 2048)
    (hh : ∀ k, h (ix2 r k) = rms (rowAt (A0 m c) (rowOf t r)) (vecAt (A1 m c)) k) :
    ∑ l : Fin 512, act (fun k => h (ix2 r k)) (fun k => iblk m c 2 t (ix2 k l)) (fun k => iblk m c 3 t (ix2 k l))
        * iblk m c 4 t (ix2 l k) = part 512 (units m c (rowOf t r) k) (t.val % 11) := by
  refine Fin.sum_fin_congr fun l => ?_
  simp only [g_blk, u_blk, d_blk]
  simp only [hh]
  rfl

theorem rowOf_pred (n : ℕ) (hn : n + 1 < cfg0.N) (h : ¬(n + 1) % 11 = 0) (r : Fin 1024) :
    rowOf ⟨n, by omega⟩ r = rowOf ⟨n + 1, hn⟩ r := by
  apply Fin.ext; simp only [rowOf]; omega

/-- The rows kept at any point are the normalized rows of the point's block. -/
theorem hid (n : ℕ) (hn : n < cfg0.N) (r : Fin 1024) (k : Fin 2048) :
    (outsAt0 m c n hn).2 (ix2 r k) = rms (rowAt (A0 m c) (rowOf ⟨n, hn⟩ r)) (vecAt (A1 m c)) k := by
  induction n with
  | zero =>
    rw [hid_A m c ⟨0, hn⟩ rfl, hidden_apply]
    simp only [x_blk, w_blk]; rfl
  | succ n ih =>
    by_cases h : (n + 1) % 11 = 0
    · rw [hid_A m c ⟨n + 1, hn⟩ h, hidden_apply]
      simp only [x_blk, w_blk]; rfl
    · rw [hid_B m c ⟨n + 1, hn⟩ h, ← rowOf_pred n hn h]
      exact ih (by omega)

/-- After any tile the block holds the input rows plus the units of the tiles so far. -/
theorem acc (n : ℕ) (hn : n < cfg0.N) (r : Fin 1024) (k : Fin 2048) :
    (outsAt0 m c n hn).1 (ix2 r k) = rowAt (A0 m c) (rowOf ⟨n, hn⟩ r) k
      + ∑ j ∈ Finset.range (n % 11 + 1), part 512 (units m c (rowOf ⟨n, hn⟩ r) k) j := by
  have first : ∀ t : Fin cfg0.N, t.val % 11 = 0 → (outsAt0 m c t.val t.isLt).1 (ix2 r k) = rowAt (A0 m c) (rowOf t r) k
      + ∑ j ∈ Finset.range (t.val % 11 + 1), part 512 (units m c (rowOf t r) k) j := fun t h => by
    rw [out_A m c t h, first_apply, tile m c t _ r k fun k => by
      rw [hidden_apply]; simp only [x_blk, w_blk]; rfl]
    rw [x_blk, h, Finset.sum_range_one]; rfl
  induction n with
  | zero => exact first ⟨0, hn⟩ rfl
  | succ n ih =>
    by_cases h : (n + 1) % 11 = 0
    · exact first ⟨n + 1, hn⟩ h
    · rw [out_B m c ⟨n + 1, hn⟩ h, step_apply, tile m c ⟨n + 1, hn⟩ _ r k fun k => by
        rw [← rowOf_pred n hn h]; exact hid m c n (by omega) r k]
      have e : (n + 1) % 11 = n % 11 + 1 := by omega
      have ih' := ih (by omega)
      rw [rowOf_pred n hn h] at ih'
      show (outsAt0 m c n _).1 (ix2 r k) + _ = _
      rw [ih', Finset.sum_range_succ _ ((n + 1) % 11), e, ← add_assoc]

/-- After the last tile the block holds the feed-forward rows. -/
theorem last (h2 : t.val % 11 = 10) (r : Fin 1024) (k : Fin 2048) :
    (outsAt0 m c t.val t.isLt).1 (ix2 r k)
      = halfStep (rowAt (A0 m c) (rowOf t r)) (vecAt (A1 m c)) (inAt (A2 m c)) (inAt (A3 m c)) (downAt (A4 m c)) k := by
  rw [acc, h2, sum_parts 512 11 rfl]
  rfl

/-- The whole result: the first rows as they were, every other row as the reference has it. -/
theorem final : (dats m 0 c).arrAt 5 (cfgs 0).N
    = Cert.FfnMidRefIdeal.Read.val_main_v26 (F := Ideal) (A0 m c) (A1 m c) (A2 m c) (A3 m c) (A4 m c) (A5 m c) := by
  trans fun i => if 1024 ≤ (i 0 : ℕ) then
      Cert.FfnMidRefIdeal.Read.val_main_v26 (F := Ideal) (A0 m c) (A1 m c) (A2 m c) (A3 m c) (A4 m c) (A5 m c) i
    else V m c main_v1 i
  · refine (dats m 0 c).arrAt_eq_of_coversWhere 5 _ (fun β => 1 ≤ β 0) (by decide +kernel) (fun t hf y => ?_)
      (fun j => by blk_simp [Pipeline.Window.cell_apply]; omega)
    blk_simp
    rw [after0_5]
    idx_vars y
    have h10 := (flush0_5 t).mp hf
    refine (last m c t h10 y0 y1).trans ((out_read _ _ _ _ _ _ _ _ ?_).symm.trans (congrArg _ ?_))
    · show 1024 ≤ (1 + t.val / 11) * 1024 + y0.val; omega
    · refine funext fun a => Fin.ext ?_
      match a with
      | 0 => blk_simp [idx t, rowOf]
      | 1 => blk_simp [idx t]
  · funext i
    idx_vars i
    by_cases h : 1024 ≤ i0.val
    · exact if_pos h
    · refine (if_neg h).trans ?_
      rw [kept_read _ _ _ _ _ _ _ _ (by omega)]
      rfl

end Cert.K.FfnMid

end
-- ==== Proof.FfnMid.Claims.lean ====
/- The claims about the half-step FFN without final norm on the rows after the first 1024, and its reference. -/
module

public import proofs.«01_k».proof.Defs
public import proofs.«01_k».proof.Proof.Gen.FfnMid.Frame
public import proofs.«01_k».proof.Proof.FfnMid.Value
public import Idealize.ShloMosaic.Lib.Claim
public import Idealize.ShloMosaic.Lib.Quiescent

@[expose] public section

set_option maxRecDepth 16384

noncomputable section

namespace Cert.K.FfnMid

open Idealize.ShloMosaic Idealize.ShloMosaic.TcCoe Idealize.SL.Sem

/-- The kernel's frame: it runs, leaves its arguments alone and ends quiescent. -/
theorem frame_P : Cert.quiescent_FfnMid := fun m g _ => Cert.FfnMid.Gen.frame m g
/-- The same of its idealization. -/
theorem frame_PI : Cert.quiescent_FfnMidIdeal := fun m g _ => Cert.FfnMidIdeal.Gen.frame m g
/-- The same of the reference. -/
theorem frame_RI : Cert.quiescent_FfnMidRefIdeal := by
  intro m g _
  exact (θ_run Cert.FfnMidRefIdeal.defs _ _).mono
    (fun r h => ⟨fun c => (h c).2, sem_eq_zero_of_no_sems (by decide) r.2⟩)
    (Cert.FfnMidRefIdeal.Value.run (F := Ideal) m g)

/-- Kernel and reference compute the same rows over the reals. -/
theorem value : Cert.algebraic_FfnMidIdeal_FfnMidRefIdeal := by
  pair_intro
  · run_from Cert.FfnMidIdeal.Value.run_blocks m g
  · run_from Cert.FfnMidRefIdeal.Value.run m' g'
    rw [Cert.FfnMidRefIdeal.Read.val_main_v26_eq, (hagree c).1, (hagree c).2.1, (hagree c).2.2.1, (hagree c).2.2.2.1,
      (hagree c).2.2.2.2.1, (hagree c).2.2.2.2.2]
    exact (final m c).symm

end Cert.K.FfnMid

end
-- ==== Proof.Proj.Spec.lean ====
/- The rows that the two input projections take: the prompt's rows followed by the sample's, and the product of a
   normalized row with a column of weights. -/
module

public import proofs.«01_k».proof.Proof.Ffn.Spec

@[expose] public section

noncomputable section

namespace Cert.K.Proj

open Idealize.ShloMosaic Cert.K.Ffn

/-- Row `r` of the prompt's rows followed by the sample's. -/
def row (x : Fin 8192 → Fin 2048 → EReal) (y : Fin 512 → Fin 2048 → EReal) (r : Fin 8704) (k : Fin 2048) : EReal :=
  if h : r.val < 8192 then x ⟨r.val, h⟩ k else y ⟨r.val - 8192, by omega⟩ k

theorem row_left (x : Fin 8192 → Fin 2048 → EReal) (y : Fin 512 → Fin 2048 → EReal) (r : Fin 8704) (q : Fin 8192)
    (h : r.val = q.val) : row x y r = x q := by
  funext k
  have hq := q.isLt
  rw [row, dif_pos (by omega)]
  exact congrArg (x · k) (Fin.ext h)

theorem row_right (x : Fin 8192 → Fin 2048 → EReal) (y : Fin 512 → Fin 2048 → EReal) (r : Fin 8704) (q : Fin 512)
    (h : r.val = 8192 + q.val) : row x y r = y q := by
  funext k
  rw [row, dif_neg (by omega)]
  exact congrArg (y · k) (Fin.ext (by simp; omega))

end Cert.K.Proj

end
-- ==== Proof.SwaQkv.Ref.lean ====
/- What the reference of the sliding-window layer's input projection computes, entry by entry: a normalized row times a
   column of the weights, plus the bias; the first 2048 columns are the queries, the rest the keys and values. -/
module

public import proofs.«01_k».proof.Proof.Proj.Spec
public import proofs.«01_k».proof.Proof.Gen.SwaQkvRefIdeal.Read
public import Idealize.ShloMosaic.Lib.Pipeline.ValueKit

@[expose] public section

set_option maxRecDepth 16384

noncomputable section

namespace Cert.K.SwaQkv

open Idealize.ShloMosaic Idealize.ShloMosaic.TcCoe Idealize.SL.Sem
open Cert.SwaQkvRefIdeal Cert.SwaQkvRefIdeal.Gen Cert.SwaQkvRefIdeal.Read Cert.K.Ffn Cert.K.Proj

variable (x0 : FVec Ideal S8192x2048 .f32) (x1 : FVec Ideal S512x2048 .f32) (x2 : FVec Ideal S2048 .f32)
  (x3 : FVec Ideal S2048x3072 .bf16) (x4 : FVec Ideal S3072 .f32)

/-- Row `r` of the prompt's rows followed by the sample's. -/
def rowAt (r : Fin 8704) : Fin 2048 → EReal := row (fun r k => x0 (ix2 r k)) (fun r k => x1 (ix2 r k)) r

theorem rows_read (r : Fin 8704) (k : Fin 2048) : val_main_v0 (F := Ideal) x0 x1 (ix2 r k) = rowAt x0 x1 r k := by
  pointwise [val_main_v0]
  rfl

/-- The normalized rows. -/
theorem hidden_read (r : Fin 8704) (k : Fin 2048) :
    val_main_v13 (F := Ideal) x0 x1 x2 (ix2 r k) = rms (rowAt x0 x1 r) (fun k => x2 (ix1 k)) k := by
  pointwise [val_main_v13, val_main_v12, val_main_v11, val_main_v10, val_main_v9, val_main_v8, val_main_v7, val_main_v6,
    val_main_cst_1, val_main_v5, val_main_v4, val_main_cst_0, val_main_v3, val_main_v2, val_main_cst, val_main_v1]
  simp only [rms, rows_read]

/-- The projected rows. -/
def projAt (r : Fin 8704) (j : Fin 3072) : EReal :=
  dot (rms (rowAt x0 x1 r) (fun k => x2 (ix1 k))) (fun k => x3 (ix2 k j)) + x4 (ix1 j)

theorem proj_read (r : Fin 8704) (j : Fin 3072) :
    val_main_v18 (F := Ideal) x0 x1 x2 x3 x4 (ix2 r j) = projAt x0 x1 x2 x3 x4 r j := by
  pointwise [val_main_v18, val_main_v17, val_main_v16, val_main_v15, val_main_v14]
  simp only [hidden_read, projAt, dot]

theorem q_read (r : Fin 8704) (j : Fin 2048) :
    val_main_v25 (F := Ideal) x0 x1 x2 x3 x4 (ix2 r j) = projAt x0 x1 x2 x3 x4 r ⟨j.val, by omega⟩ := by
  rw [← proj_read]
  pointwise [val_main_v25, val_main_v19]

theorem kv_read (r : Fin 8704) (j : Fin 1024) :
    val_main_v20 (F := Ideal) x0 x1 x2 x3 x4 (ix2 r j) = projAt x0 x1 x2 x3 x4 r ⟨2048 + j.val, by omega⟩ := by
  rw [← proj_read]
  pointwise [val_main_v20]

end Cert.K.SwaQkv

end
-- ==== Proof.SwaQkv.Value.lean ====
/- What the sliding-window layer's input projection leaves in its two results: every stored piece is 512 columns of the
   projected rows. -/
module

public import proofs.«01_k».proof.Proof.SwaQkv.Ref
public import proofs.«01_k».proof.Proof.Gen.SwaQkvIdeal.Frame
public import Idealize.ShloMosaic.Lib.Pipeline.ValueKit
public import Idealize.ShloMosaic.Lib.StableHlo.RunRead

@[expose] public section

set_option maxRecDepth 16384

noncomputable section

namespace Cert.K.SwaQkv

open Idealize.ShloMosaic Idealize.ShloMosaic.TcCoe Idealize.SL.Sem
open Idealize.ShloMosaic.Pipeline (Dat)
open Cert.SwaQkvIdeal Cert.SwaQkvIdeal.Gen Cert.K.Ffn Cert.K.Proj

/-- The normalized rows of a block. -/
theorem hidden_apply (x : FVec Ideal S512x2048 .f32) (w : FVec Ideal S1x2048 .f32) (r : Fin 512) (k : Fin 2048) :
    k0_pay9 (F := Ideal) x w (ix2 r k) = rms (fun k => x (ix2 r k)) (fun k => w (ix2 0 k)) k := by
  pointwise [k0_pay9]
  simp only [rms]

/-- One stored piece: the rows times 512 columns of the weights, plus the bias. -/
theorem piece_apply (x : FVec Ideal S512x2048 .f32) (w : FVec Ideal S1x2048 .f32) (W : FVec Ideal S2048x512 .bf16)
    (b : FVec Ideal S1x512 .f32) (r l : Fin 512) :
    k0_pay3 (F := Ideal) (k0_pay9 (F := Ideal) x w) W b (ix2 r l)
      = dot (rms (fun k => x (ix2 r k)) (fun k => w (ix2 0 k))) (fun k => W (ix2 k l)) + b (ix2 0 l) := by
  pointwise [k0_pay3]
  simp only [hidden_apply, dot]

variable (m : (ℓ : Loc nD τ sig) → Buf (Elt Ideal) ℓ) (c : Dev nD)

/-- The prompt's rows. -/
abbrev A0 : FVec Ideal S8192x2048 .f32 := m ((c : Thread nD τ).loc main_arg0)
/-- The sample's rows. -/
abbrev A1 : FVec Ideal S512x2048 .f32 := m ((c : Thread nD τ).loc main_arg1)
/-- The norm's weights. -/
abbrev A2 : FVec Ideal S2048 .f32 := m ((c : Thread nD τ).loc main_arg2)
/-- The projection. -/
abbrev A3 : FVec Ideal S2048x3072 .bf16 := m ((c : Thread nD τ).loc main_arg3)
/-- The bias. -/
abbrev A4 : FVec Ideal S3072 .f32 := m ((c : Thread nD τ).loc main_arg4)

/-- Which block each window reads or writes at a point: prompt block `t` (the last one stays), the sample's only block,
    block `t` of the results. -/
theorem idx : ∀ t : Fin grid0.N, win0_0.index t = ![min t.val 15, 0] ∧ win0_1.index t = ![0, 0] ∧ win0_2.index t = ![0, 0]
    ∧ win0_3.index t = ![0, 0] ∧ win0_4.index t = ![0, 0] ∧ win0_5.index t = ![t.val, 0] ∧ win0_6.index t = ![t.val, 0] := by
  decide +kernel

/-- The norm's weights, as the region finds them: one row. -/
theorem V_v0 : V m c main_v0 = shapeCast S1x2048 (A2 m c) shapeCasts_S2048_S1x2048 := by
  simp only [V, V0, hostOps0, List.flatten_cons, List.flatten_nil, List.append_nil, List.cons_append, List.nil_append]
  after_reads_simp
  rfl

/-- The bias, as the region finds it. -/
theorem V_v1 : V m c main_v1 = shapeCast S1x3072 (A4 m c) shapeCasts_S3072_S1x3072 := by
  simp only [V, V0, hostOps0, List.flatten_cons, List.flatten_nil, List.append_nil, List.cons_append, List.nil_append]
  after_reads_simp
  rfl

variable (t : Fin cfg0.N)

/-- The norm's weights' window holds them all. -/
theorem w_blk (k : Fin 2048) : iblk m c 2 t (ix2 0 k) = A2 m c (ix1 k) := by
  have e : V m c (Pipeline.arrRef spec0 2) = _ := V_v0 m c
  have i : (win0_2.blk t).view.emb (ix2 0 k) = ix2 0 k :=
    funext fun a => Fin.ext (match a with | 0 => by blk_simp [idx t] | 1 => by blk_simp [idx t])
  rw [iblk, e]
  refine (congrArg (shapeCast S1x2048 (A2 m c) shapeCasts_S2048_S1x2048) i).trans ?_
  pointwise []

/-- And so does the bias's. -/
theorem b_blk (k : Fin 3072) : iblk m c 4 t (ix2 0 k) = A4 m c (ix1 k) := by
  have e : V m c (Pipeline.arrRef spec0 4) = _ := V_v1 m c
  have i : (win0_4.blk t).view.emb (ix2 0 k) = ix2 0 k :=
    funext fun a => Fin.ext (match a with | 0 => by blk_simp [idx t] | 1 => by blk_simp [idx t])
  rw [iblk, e]
  refine (congrArg (shapeCast S1x3072 (A4 m c) shapeCasts_S3072_S1x3072) i).trans ?_
  pointwise []

/-- The row of the joined rows that row `r` of point `t`'s block is. -/
def rowOf (r : Fin 512) : Fin 8704 := ⟨t.val * 512 + r.val, by have := lt_of_lt_of_eq t.isLt N_0; omega⟩

theorem p_blk (h : t.val < 16) (r : Fin 512) :
    (fun k => iblk m c 0 t (ix2 r k)) = rowAt (A0 m c) (A1 m c) (rowOf t r) := by
  rw [rowAt, row_left _ _ _ ⟨t.val * 512 + r.val, by omega⟩ rfl]
  funext k
  have e : min t.val 15 = t.val := by omega
  blk_point [iblk, V, idx t, e]

theorem s_blk (h : ¬t.val < 16) (r : Fin 512) :
    (fun k => iblk m c 1 t (ix2 r k)) = rowAt (A0 m c) (A1 m c) (rowOf t r) := by
  have ht := lt_of_lt_of_eq t.isLt N_0
  rw [rowAt, row_right _ _ _ r (by simp only [rowOf]; omega)]
  funext k
  blk_point [iblk, V, idx t]

/-- A piece holds its 512 columns of the projected rows. -/
theorem tile (X : FVec Ideal S512x2048 .f32) (hX : ∀ r, (fun k => X (ix2 r k)) = rowAt (A0 m c) (A1 m c) (rowOf t r))
    (W : FVec Ideal S2048x512 .bf16) (b : FVec Ideal S1x512 .f32) (o : ℕ) (ho : o + 512 ≤ 3072)
    (hW : ∀ k (l : Fin 512), W (ix2 k l) = A3 m c (ix2 k ⟨o + l.val, by omega⟩))
    (hb : ∀ l : Fin 512, b (ix2 0 l) = A4 m c (ix1 ⟨o + l.val, by omega⟩)) (r l : Fin 512) :
    k0_pay3 (F := Ideal) (k0_pay9 (F := Ideal) X (iblk m c 2 t)) W b (ix2 r l)
      = projAt (A0 m c) (A1 m c) (A2 m c) (A3 m c) (A4 m c) (rowOf t r) ⟨o + l.val, by omega⟩ := by
  rw [piece_apply, hX, hb, projAt]
  simp only [hW, w_blk]

/-- … placed in the queries … -/
theorem tile_q (X : FVec Ideal S512x2048 .f32) (hX : ∀ r, (fun k => X (ix2 r k)) = rowAt (A0 m c) (A1 m c) (rowOf t r))
    (o : ℕ) (W : FVec Ideal S2048x512 .bf16) (b : FVec Ideal S1x512 .f32) (y : S512x2048.Idx) (x : S512x512.Idx)
    (h0 : (y 0).val = (x 0).val) (h1 : (y 1).val = o + (x 1).val) (ho : o + 512 ≤ 2048)
    (hW : ∀ k (l : Fin 512), W (ix2 k l) = A3 m c (ix2 k ⟨o + l.val, by omega⟩))
    (hb : ∀ l : Fin 512, b (ix2 0 l) = A4 m c (ix1 ⟨o + l.val, by omega⟩)) :
    k0_pay3 (F := Ideal) (k0_pay9 (F := Ideal) X (iblk m c 2 t)) W b x
      = Cert.SwaQkvRefIdeal.Read.val_main_v25 (F := Ideal) (A0 m c) (A1 m c) (A2 m c) (A3 m c) (A4 m c)
          ((win0_5.blk t).view.emb y) := by
  idx_vars x
  replace h0 : (y 0).val = x0.val := h0
  replace h1 : (y 1).val = o + x1.val := h1
  refine (tile m c t X hX W b o (by omega) hW hb x0 x1).trans
    ((q_read _ _ _ _ _ (rowOf t x0) ⟨o + x1.val, by omega⟩).symm.trans (congrArg _ ?_))
  refine funext fun a => Fin.ext ?_
  match a with
  | 0 => blk_simp [idx t]; show t.val * 512 + x0.val = _; omega
  | 1 => blk_simp [idx t]; show o + x1.val = _; omega

/-- … and in the keys and values. -/
theorem tile_kv (X : FVec Ideal S512x2048 .f32) (hX : ∀ r, (fun k => X (ix2 r k)) = rowAt (A0 m c) (A1 m c) (rowOf t r))
    (o : ℕ) (W : FVec Ideal S2048x512 .bf16) (b : FVec Ideal S1x512 .f32) (y : S512x1024.Idx) (x : S512x512.Idx)
    (h0 : (y 0).val = (x 0).val) (h1 : (y 1).val = o + (x 1).val) (ho : o + 512 ≤ 1024)
    (hW : ∀ k (l : Fin 512), W (ix2 k l) = A3 m c (ix2 k ⟨2048 + o + l.val, by omega⟩))
    (hb : ∀ l : Fin 512, b (ix2 0 l) = A4 m c (ix1 ⟨2048 + o + l.val, by omega⟩)) :
    k0_pay3 (F := Ideal) (k0_pay9 (F := Ideal) X (iblk m c 2 t)) W b x
      = Cert.SwaQkvRefIdeal.Read.val_main_v20 (F := Ideal) (A0 m c) (A1 m c) (A2 m c) (A3 m c) (A4 m c)
          ((win0_6.blk t).view.emb y) := by
  idx_vars x
  replace h0 : (y 0).val = x0.val := h0
  replace h1 : (y 1).val = o + x1.val := h1
  refine (tile m c t X hX W b (2048 + o) (by omega) hW hb x0 x1).trans (Eq.trans ?_
    ((kv_read _ _ _ _ _ (rowOf t x0) ⟨o + x1.val, by omega⟩).symm.trans (congrArg _ ?_)))
  · exact congrArg _ (Fin.ext (Nat.add_assoc _ _ _))
  refine funext fun a => Fin.ext ?_
  match a with
  | 0 => blk_simp [idx t]; show t.val * 512 + x0.val = _; omega
  | 1 => blk_simp [idx t]; show o + x1.val = _; omega

/-- The queries. -/
theorem final5 : (dats m 0 c).arrAt 5 (cfgs 0).N
    = Cert.SwaQkvRefIdeal.Read.val_main_v25 (F := Ideal) (A0 m c) (A1 m c) (A2 m c) (A3 m c) (A4 m c) := by
  refine (dats m 0 c).arrAt_eq_of_covers 5 _ (by decide +kernel) (fun t hf y => ?_)
  have ht := lt_of_lt_of_eq t.isLt N_0
  blk_simp
  rw [after0_5]
  by_cases h16 : t.val < 16
  · rw [outsAt0_A m c t h16 (by omega)]; frame_out
    canon_tiles x h
    all_goals
      first
        | refine tile_q m c t _ (p_blk m c t h16) _ _ _ y x h0 h1 (by norm_num) (fun k l => ?_) (fun l => ?_)
        | refine tile_q m c t _ (p_blk m c t h16) 0 _ _ y x h0 (h1.trans (Nat.zero_add _).symm) (by norm_num) (fun k l => ?_)
            (fun l => ?_)
      · pointwise []; blk_point [iblk, V, idx t]
      · pointwise []; exact b_blk m c t _
  · rw [outsAt0_B m c t h16 (by omega)]; frame_out
    canon_tiles x h
    all_goals
      first
        | refine tile_q m c t _ (s_blk m c t h16) _ _ _ y x h0 h1 (by norm_num) (fun k l => ?_) (fun l => ?_)
        | refine tile_q m c t _ (s_blk m c t h16) 0 _ _ y x h0 (h1.trans (Nat.zero_add _).symm) (by norm_num) (fun k l => ?_)
            (fun l => ?_)
      · pointwise []; blk_point [iblk, V, idx t]
      · pointwise []; exact b_blk m c t _

/-- The keys and values. -/
theorem final6 : (dats m 0 c).arrAt 6 (cfgs 0).N
    = Cert.SwaQkvRefIdeal.Read.val_main_v20 (F := Ideal) (A0 m c) (A1 m c) (A2 m c) (A3 m c) (A4 m c) := by
  refine (dats m 0 c).arrAt_eq_of_covers 6 _ (by decide +kernel) (fun t hf y => ?_)
  have ht := lt_of_lt_of_eq t.isLt N_0
  blk_simp
  rw [after0_6]
  by_cases h16 : t.val < 16
  · rw [outsAt0_A m c t h16 (by omega)]; frame_out
    canon_tiles x h
    all_goals
      first
        | refine tile_kv m c t _ (p_blk m c t h16) _ _ _ y x h0 h1 (by norm_num) (fun k l => ?_) (fun l => ?_)
        | refine tile_kv m c t _ (p_blk m c t h16) 0 _ _ y x h0 (h1.trans (Nat.zero_add _).symm) (by norm_num) (fun k l => ?_)
            (fun l => ?_)
      · pointwise []; blk_point [iblk, V, idx t]
      · pointwise []; exact b_blk m c t _
  · rw [outsAt0_B m c t h16 (by omega)]; frame_out
    canon_tiles x h
    all_goals
      first
        | refine tile_kv m c t _ (s_blk m c t h16) _ _ _ y x h0 h1 (by norm_num) (fun k l => ?_) (fun l => ?_)
        | refine tile_kv m c t _ (s_blk m c t h16) 0 _ _ y x h0 (h1.trans (Nat.zero_add _).symm) (by norm_num) (fun k l => ?_)
            (fun l => ?_)
      · pointwise []; blk_point [iblk, V, idx t]
      · pointwise []; exact b_blk m c t _

end Cert.K.SwaQkv

end
-- ==== Proof.SwaQkv.Window.lean ====
/- The last keys and values of every prompt: the host lines after the projection cut them out of the keys and values of all
   rows, and so does the reference, in another order of reshaping and slicing. -/
module

public import proofs.«01_k».proof.Proof.SwaQkv.Value
public import Idealize.ShloMosaic.Lib.StableHlo.RunRead

@[expose] public section

set_option maxRecDepth 16384

noncomputable section

namespace Cert.K.SwaQkv

open Idealize.ShloMosaic Idealize.ShloMosaic.TcCoe Idealize.SL.Sem
open Idealize.ShloMosaic.Pipeline (Dat)
open Cert.SwaQkvIdeal Cert.SwaQkvIdeal.Gen

/-- Entry `l` of head `h` of row `r` of the last 128 rows of prompt `b`, the heads starting at column `o`. -/
def lastAt (Y : FVec Ideal S8704x1024 .f32) (o : ℕ) (ho : o + 512 ≤ 1024) (b : Fin 2) (r : Fin 128) (h : Fin 8) (l : Fin 64) :
    EReal :=
  Y (ix2 ⟨b.val * 4096 + (3968 + r.val), by omega⟩ ⟨o + (h.val * 64 + l.val), by omega⟩)

/-! ## The reference -/

section Ref

open Cert.SwaQkvRefIdeal.Read

variable (x0 : FVec Ideal S8192x2048 .f32) (x1 : FVec Ideal S512x2048 .f32) (x2 : FVec Ideal S2048 .f32)
  (x3 : FVec Ideal S2048x3072 .bf16) (x4 : FVec Ideal S3072 .f32) (b : Fin 2) (r : Fin 128) (h : Fin 8) (l : Fin 64)

/-- The reference's third result … -/
theorem k_last : val_main_v26 (F := Ideal) x0 x1 x2 x3 x4 (ix4 b r h l)
    = lastAt (val_main_v20 (F := Ideal) x0 x1 x2 x3 x4) 0 (by norm_num) b r h l := by
  pointwise [val_main_v26, val_main_v22, val_main_v21]
  simp only [lastAt, Nat.zero_add]

/-- … and its fourth. -/
theorem v_last : val_main_v27 (F := Ideal) x0 x1 x2 x3 x4 (ix4 b r h l)
    = lastAt (val_main_v20 (F := Ideal) x0 x1 x2 x3 x4) 512 (by norm_num) b r h l := by
  pointwise [val_main_v27, val_main_v24, val_main_v23]
  simp only [lastAt]

end Ref

/-! ## The kernel -/

/-- The last 128 rows of either prompt, one prompt after the other. -/
def lastRows (Y : FVec Ideal S8704x1024 .f32) : FVec Ideal S2x128x1024 .f32 :=
  concatenate S2x128x1024 0
    [⟨S1x128x1024, broadcastInDim S1x128x1024 ![1, 2] bcast_S128x1024_S1x128x1024_1_2
        (extractStridedSlice S128x1024 ![3968, 0] Y slices_S8704x1024_S128x1024_3968_0)⟩,
      ⟨S1x128x1024, broadcastInDim S1x128x1024 ![1, 2] bcast_S128x1024_S1x128x1024_1_2
        (extractStridedSlice S128x1024 ![8064, 0] Y slices_S8704x1024_S128x1024_8064_0)⟩]
    concatenates_S1x128x1024_S1x128x1024_S2x128x1024_d0

/-- Row `r` of prompt `b` of them, in the array of all rows. -/
theorem lastRows_apply (Y : FVec Ideal S8704x1024 .f32) (b : Fin 2) (r : Fin 128) (j : Fin 1024) :
    lastRows Y (ix3 b r j) = Y (ix2 ⟨b.val * 4096 + (3968 + r.val), by omega⟩ j) := by
  unfold lastRows
  match b with
  | 0 => pointwise []
  | 1 =>
    pointwise []
    have e : 8064 + r.val = 4096 + (3968 + r.val) := by omega
    simp only [e]

/-- The keys of those rows, head by head … -/
theorem keys_apply (Y : FVec Ideal S8704x1024 .f32) (b : Fin 2) (r : Fin 128) (h : Fin 8) (l : Fin 64) :
    shapeCast S2x128x8x64 (extractStridedSlice S2x128x512 ![0, 0, 0] (lastRows Y) slices_S2x128x1024_S2x128x512_0_0_0)
      shapeCasts_S2x128x512_S2x128x8x64 (ix4 b r h l) = lastAt Y 0 (by norm_num) b r h l := by
  pointwise []
  simp only [lastRows_apply, lastAt, Nat.zero_add]

/-- … and the values. -/
theorem vals_apply (Y : FVec Ideal S8704x1024 .f32) (b : Fin 2) (r : Fin 128) (h : Fin 8) (l : Fin 64) :
    shapeCast S2x128x8x64 (extractStridedSlice S2x128x512 ![0, 0, 512] (lastRows Y) slices_S2x128x1024_S2x128x512_0_0_512)
      shapeCasts_S2x128x512_S2x128x8x64 (ix4 b r h l) = lastAt Y 512 (by norm_num) b r h l := by
  pointwise []
  simp only [lastRows_apply, lastAt]

variable (m : (ℓ : Loc nD τ sig) → Buf (Elt Ideal) ℓ) (ρ : Dev nD → PrngReg) (c : Dev nD)

/-- What a buffer holds after the host lines that follow the projection. -/
abbrev tail (b : Ref sig .tc) := Pipeline.afterTail₀ cfgs (dats m) 0 (V0 m) [hostOps1] c b

/-- The third result is cut out of the second … -/
theorem tail_k : tail m c main_v9
    = shapeCast S2x128x8x64 (extractStridedSlice S2x128x512 ![0, 0, 0] (lastRows ((dats m 0 c).arrAt 6 cfg0.N))
        slices_S2x128x1024_S2x128x512_0_0_0) shapeCasts_S2x128x512_S2x128x8x64 := by
  unfold tail Pipeline.afterTail₀
  simp only [hostOps1, List.flatten_cons, List.flatten_nil, List.append_nil, List.cons_append, List.nil_append]
  after_reads_simp
  rw [← Pipeline.withArrays_arr spec0 winFacts0.arr_inj c (V0 m c) (fun w => (dats m 0 c).arrAt w cfg0.N) 6]
  rfl

/-- … and so is the fourth. -/
theorem tail_v : tail m c main_v11
    = shapeCast S2x128x8x64 (extractStridedSlice S2x128x512 ![0, 0, 512] (lastRows ((dats m 0 c).arrAt 6 cfg0.N))
        slices_S2x128x1024_S2x128x512_0_0_512) shapeCasts_S2x128x512_S2x128x8x64 := by
  unfold tail Pipeline.afterTail₀
  simp only [hostOps1, List.flatten_cons, List.flatten_nil, List.append_nil, List.cons_append, List.nil_append]
  after_reads_simp
  rw [← Pipeline.withArrays_arr spec0 winFacts0.arr_inj c (V0 m c) (fun w => (dats m 0 c).arrAt w cfg0.N) 6]
  rfl

/-- The prompts' keys. -/
theorem final_k : tail m c main_v9
    = Cert.SwaQkvRefIdeal.Read.val_main_v26 (F := Ideal) (A0 m c) (A1 m c) (A2 m c) (A3 m c) (A4 m c) := by
  rw [tail_k]
  funext i
  idx_vars i
  rw [keys_apply, k_last, ← final6]

/-- The prompts' values. -/
theorem final_v : tail m c main_v11
    = Cert.SwaQkvRefIdeal.Read.val_main_v27 (F := Ideal) (A0 m c) (A1 m c) (A2 m c) (A3 m c) (A4 m c) := by
  rw [tail_v]
  funext i
  idx_vars i
  rw [vals_apply, v_last, ← final6]

/-- The four results after the run, and the arguments. -/
theorem run_results : θ_run defs (onTc (τ := τ) (main (F := Ideal))) ⟨m, fun _ => 0, ρ⟩ (fun r => ∀ c : Dev nD,
      r.2.mem ((c.tc : Thread nD τ).loc main_v2_0) = (dats m 0 c).arrAt 5 cfg0.N
      ∧ r.2.mem ((c.tc : Thread nD τ).loc main_v2_1) = (dats m 0 c).arrAt 6 cfg0.N
      ∧ r.2.mem ((c.tc : Thread nD τ).loc main_v9) = tail m c main_v9
      ∧ r.2.mem ((c.tc : Thread nD τ).loc main_v11) = tail m c main_v11
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, (h.1 c).2 main_v9 (by decide), (h.1 c).2 main_v11 (by decide),
      h.2 c⟩) (θ_run_and (run_main m ρ) (unchanged m ρ))

end Cert.K.SwaQkv

end
-- ==== Proof.SwaQkv.Claims.lean ====
/- The claims about the input projection of the sliding-window layer and its reference. -/
module

public import proofs.«01_k».proof.Defs
public import proofs.«01_k».proof.Proof.Gen.SwaQkv.Frame
public import proofs.«01_k».proof.Proof.SwaQkv.Window
public import Idealize.ShloMosaic.Lib.Claim
public import Idealize.ShloMosaic.Lib.Quiescent

@[expose] public section

set_option maxRecDepth 16384

noncomputable section

namespace Cert.K.SwaQkv

open Idealize.ShloMosaic Idealize.ShloMosaic.TcCoe Idealize.SL.Sem

/-- The kernel's frame: it runs, leaves its arguments alone and ends quiescent. -/
theorem frame_P : Cert.quiescent_SwaQkv := fun m g _ => Cert.SwaQkv.Gen.frame m g
/-- The same of its idealization. -/
theorem frame_PI : Cert.quiescent_SwaQkvIdeal := fun m g _ => Cert.SwaQkvIdeal.Gen.frame m g
/-- The same of the reference. -/
theorem frame_RI : Cert.quiescent_SwaQkvRefIdeal := by
  intro m g _
  exact (θ_run Cert.SwaQkvRefIdeal.defs _ _).mono
    (fun r h => ⟨fun c => (h c).2.2.2.2, sem_eq_zero_of_no_sems (by decide) r.2⟩)
    (Cert.SwaQkvRefIdeal.Value.run (F := Ideal) m g)

/-- Kernel and reference compute the same queries, keys and values and the same last keys and values of every
    prompt over the reals. -/
theorem value : Cert.algebraic_SwaQkvIdeal_SwaQkvRefIdeal := by
  pair_intro
  · run_from run_results m g
  · run_from Cert.SwaQkvRefIdeal.Value.run m' g'
    · rw [Cert.SwaQkvRefIdeal.Read.val_main_v25_eq]
      exact (final5 m c).symm
    · rw [Cert.SwaQkvRefIdeal.Read.val_main_v20_eq]
      exact (final6 m c).symm
    · rw [Cert.SwaQkvRefIdeal.Read.val_main_v26_eq]
      exact (final_k m c).symm
    · rw [Cert.SwaQkvRefIdeal.Read.val_main_v27_eq]
      exact (final_v m c).symm

end Cert.K.SwaQkv

end
-- ==== Proof.GlaIn.Spec.lean ====
/- The log sigmoid as the kernel and as the reference write it. -/
module

public import Idealize.ShloMosaic.PureOps.Ideal.Laws

@[expose] public section

noncomputable section

namespace Cert.K.GlaIn

open Idealize.ShloMosaic

/-- The log sigmoid, in the form that never overflows. -/
def logSigmoid (z : EReal) : EReal := min z 0 - Ideal.log (1 + Ideal.exp (0 - max z (-z)))

theorem exp_nonneg (x : EReal) : 0 ≤ Ideal.exp x := by
  induction x with
  | bot => rw [Ideal.exp_bot]
  | top => rw [Ideal.exp_top]; exact le_top
  | coe r => simp only [Ideal.exp_coe]; exact_mod_cast (Real.exp_pos r).le

theorem log_ne_bot (x : EReal) (h : 0 < x) : Ideal.log x ≠ ⊥ := by
  induction x with
  | bot => simp at h
  | top => simp
  | coe r =>
    have hr : 0 < r := by exact_mod_cast h
    simp [not_le.mpr hr]

/-- Minus the softplus of the negated argument is the log sigmoid. -/
theorem neg_softplus (z : EReal) :
    -(max (-z) 0 + Ideal.log (1 + Ideal.exp (-max (-z - 0) (-(-z - 0))))) = logSigmoid z := by
  have hb : Ideal.log (1 + Ideal.exp (0 - max z (-z))) ≠ ⊥ :=
    log_ne_bot _ (lt_of_lt_of_le zero_lt_one (le_add_of_nonneg_right (exp_nonneg _)))
  have ha : max (-z) 0 ≠ ⊥ := ne_of_gt (lt_of_lt_of_le EReal.bot_lt_zero (le_max_right _ _))
  have e : -max (-z) 0 = min z 0 := by
    rcases le_total z 0 with h | h
    · rw [max_eq_left (EReal.neg_nonneg.mpr h), neg_neg, min_eq_left h]
    · rw [max_eq_right (EReal.neg_le_zero.mpr h), neg_zero, min_eq_right h]
  rw [sub_zero, neg_neg, max_comm (-z) z, ← zero_sub (max z (-z)), EReal.neg_add (.inl ha) (.inr hb), e]
  rfl

end Cert.K.GlaIn

end
-- ==== Proof.GlaIn.Ref.lean ====
/- What the reference of the gated-linear-attention layer's input projection computes, entry by entry: a normalized row
   times a column of the weights; and the log decay, a sixteenth of the log sigmoid of the gate's low-rank projection. -/
module

public import proofs.«01_k».proof.Proof.SwaQkv.Ref
public import proofs.«01_k».proof.Proof.GlaIn.Spec
public import proofs.«01_k».proof.Proof.Gen.GlaInRefIdeal.Read
public import Idealize.ShloMosaic.Lib.Pipeline.ValueKit

@[expose] public section

set_option maxRecDepth 16384

noncomputable section

namespace Cert.K.GlaIn

open Idealize.ShloMosaic Idealize.ShloMosaic.TcCoe Idealize.SL.Sem
open Cert.GlaInRefIdeal Cert.GlaInRefIdeal.Gen Cert.GlaInRefIdeal.Read Cert.K.Ffn Cert.K.Proj
open Cert.K.SwaQkv (rowAt)

variable (x0 : FVec Ideal S8192x2048 .f32) (x1 : FVec Ideal S512x2048 .f32) (x2 : FVec Ideal S2048 .f32)
  (x3 : FVec Ideal S2048x6160 .f32) (x4 : FVec Ideal S16x1024 .f32) (x5 : FVec Ideal S1024 .f32)

/-- The normalized rows are those of the sliding-window layer's projection. -/
theorem hidden_read (r : Fin 8704) (k : Fin 2048) :
    val_main_v13 (F := Ideal) x0 x1 x2 (ix2 r k) = rms (rowAt x0 x1 r) (fun k => x2 (ix1 k)) k :=
  SwaQkv.hidden_read x0 x1 x2 r k

/-- The projected rows. -/
def projAt (r : Fin 8704) (j : Fin 6160) : EReal :=
  dot (rms (rowAt x0 x1 r) (fun k => x2 (ix1 k))) (fun k => x3 (ix2 k j))

theorem proj_read (r : Fin 8704) (j : Fin 6160) :
    val_main_v14 (F := Ideal) x0 x1 x2 x3 (ix2 r j) = projAt x0 x1 x2 x3 r j := by
  pointwise [val_main_v14]
  simp only [hidden_read, projAt, dot]

theorem main_read (r : Fin 8704) (j : Fin 6144) :
    val_main_v24 (F := Ideal) x0 x1 x2 x3 (ix2 r j) = projAt x0 x1 x2 x3 r ⟨j.val, by omega⟩ := by
  rw [← proj_read]
  pointwise [val_main_v24, val_main_v23]

/-- The gate before the log sigmoid. -/
def gateAt (r : Fin 8704) (j : Fin 1024) : EReal :=
  (∑ g : Fin 16, projAt x0 x1 x2 x3 r ⟨6144 + g.val, by omega⟩ * x4 (ix2 g j)) + x5 (ix1 j)

theorem gate_read (r : Fin 8704) (j : Fin 1024) :
    val_main_v19 (F := Ideal) x0 x1 x2 x3 x4 x5 (ix2 r j) = gateAt x0 x1 x2 x3 x4 x5 r j := by
  pointwise [val_main_v19, val_main_v18, val_main_v17, val_main_v16, val_main_v15]
  simp only [proj_read, gateAt]

/-- The log decay is the log sigmoid of the gate over sixteen. -/
theorem decay_read (r : Fin 8704) (j : Fin 1024) :
    val_main_v22 (F := Ideal) x0 x1 x2 x3 x4 x5 (ix2 r j)
      = Ideal.div (logSigmoid (gateAt x0 x1 x2 x3 x4 x5 r j)) (Ideal.ofBits .f32 0x41800000#32) := by
  rw [← gate_read, ← neg_softplus]
  pointwise [val_main_v22, val_main_v21, val_main_cst_2, val_main_v20, val_main_call0_v1, val_main_call0_call0_v11,
    val_main_call0_call0_v10, val_main_call0_call0_v9, val_main_call0_call0_v8, val_main_call0_call0_v7,
    val_main_call0_call0_v6, val_main_call0_call0_v5, val_main_call0_call0_v4, val_main_call0_call0_v3,
    val_main_call0_call0_v2, val_main_call0_call0_v1, val_main_call0_call0_v0, val_main_call0_call0_cst, val_main_call0_v0]
  rw [if_neg (not_not.mpr rfl)]
  rfl

end Cert.K.GlaIn

end
-- ==== Proof.GlaIn.Value.lean ====
/- What the gated-linear-attention layer's input projection leaves in its two results: every stored piece is 512 columns
   of the projected rows, and the last store is the log decay. -/
module

public import proofs.«01_k».proof.Proof.GlaIn.Ref
public import proofs.«01_k».proof.Proof.SwaQkv.Value
public import proofs.«01_k».proof.Proof.Gen.GlaInIdeal.Value
public import Idealize.ShloMosaic.Lib.Pipeline.ValueKit

@[expose] public section

set_option maxRecDepth 16384

noncomputable section

namespace Cert.K.GlaIn

open Idealize.ShloMosaic Idealize.ShloMosaic.TcCoe Idealize.SL.Sem
open Idealize.ShloMosaic.Pipeline (Dat)
open Cert.GlaInIdeal Cert.GlaInIdeal.Gen Cert.K.Ffn Cert.K.Proj
open Cert.K.SwaQkv (rowAt)

/-- The normalized rows of a block. -/
theorem hidden_apply (x : FVec Ideal S512x2048 .f32) (w : FVec Ideal S1x2048 .f32) (r : Fin 512) (k : Fin 2048) :
    k0_pay3 (F := Ideal) x w (ix2 r k) = rms (fun k => x (ix2 r k)) (fun k => w (ix2 0 k)) k :=
  SwaQkv.hidden_apply x w r k

/-- One stored piece: the rows times 512 columns of the weights, plus the bias. -/
theorem piece_apply (x : FVec Ideal S512x2048 .f32) (w : FVec Ideal S1x2048 .f32) (W : FVec Ideal S2048x512 .bf16)
    (b : FVec Ideal S1x512 .f32) (r l : Fin 512) :
    k0_pay6 (F := Ideal) (k0_pay3 (F := Ideal) x w) W b (ix2 r l)
      = dot (rms (fun k => x (ix2 r k)) (fun k => w (ix2 0 k))) (fun k => W (ix2 k l)) + b (ix2 0 l) := by
  pointwise [k0_pay6]
  simp only [hidden_apply, dot]

/-- The gate before the log sigmoid. -/
theorem gate_apply (x : FVec Ideal S512x2048 .f32) (w : FVec Ideal S1x2048 .f32) (W : FVec Ideal S2048x16 .bf16)
    (W2 : FVec Ideal S16x1024 .bf16) (r : Fin 512) (j : Fin 1024) :
    k0_pay18 (F := Ideal) (k0_pay3 (F := Ideal) x w) W W2 (ix2 r j)
      = ∑ g : Fin 16, dot (rms (fun k => x (ix2 r k)) (fun k => w (ix2 0 k))) (fun k => W (ix2 k g)) * W2 (ix2 g j) := by
  pointwise [k0_pay18]
  simp only [hidden_apply, dot]

/-- The log decay: the log sigmoid over sixteen. -/
theorem decay_apply (z : FVec Ideal S512x1024 .f32) (b : FVec Ideal S1x1024 .f32) (r : Fin 512) (j : Fin 1024) :
    k0_pay1 (F := Ideal) z b (ix2 r j)
      = Ideal.div (logSigmoid (z (ix2 r j) + b (ix2 0 j))) (Ideal.ofBits .f32 0x41800000#32) := by
  pointwise [k0_pay1]
  simp only [logSigmoid]
  rfl

variable (m : (ℓ : Loc nD τ sig) → Buf (Elt Ideal) ℓ) (c : Dev nD)

/-- The prompt's rows. -/
abbrev A0 : FVec Ideal S8192x2048 .f32 := m ((c : Thread nD τ).loc main_arg0)
/-- The sample's rows. -/
abbrev A1 : FVec Ideal S512x2048 .f32 := m ((c : Thread nD τ).loc main_arg1)
/-- The norm's weights. -/
abbrev A2 : FVec Ideal S2048 .f32 := m ((c : Thread nD τ).loc main_arg2)
/-- The projection. -/
abbrev A3 : FVec Ideal S2048x6160 .f32 := m ((c : Thread nD τ).loc main_arg3)
/-- The gate's second factor. -/
abbrev A4 : FVec Ideal S16x1024 .f32 := m ((c : Thread nD τ).loc main_arg4)
/-- The gate's bias. -/
abbrev A5 : FVec Ideal S1024 .f32 := m ((c : Thread nD τ).loc main_arg5)

/-- Which block each window reads or writes at a point: prompt block `t` (the last one stays), the sample's only block,
    block `t` of the results. -/
theorem idx : ∀ t : Fin grid0.N, win0_0.index t = ![min t.val 15, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] ∧ win0_8.index t = ![t.val, 0] := by
  decide +kernel

variable (t : Fin cfg0.N)

theorem w_blk (k : Fin 2048) : iblk m c 2 t (ix2 0 k) = A2 m c (ix1 k) := by
  blk_point [iblk, V, idx t]
theorem w2_blk (g : Fin 16) (j : Fin 1024) : iblk m c 5 t (ix2 g j) = A4 m c (ix2 g j) := by
  blk_point [iblk, V, idx t]
theorem b_blk (j : Fin 1024) : iblk m c 6 t (ix2 0 j) = A5 m c (ix1 j) := by
  blk_point [iblk, V, idx t]

/-- The row of the joined rows that row `r` of point `t`'s block is. -/
def rowOf (r : Fin 512) : Fin 8704 := ⟨t.val * 512 + r.val, by have := lt_of_lt_of_eq t.isLt N_0; omega⟩

theorem p_blk (h : t.val < 16) (r : Fin 512) :
    (fun k => iblk m c 0 t (ix2 r k)) = rowAt (A0 m c) (A1 m c) (rowOf t r) := by
  rw [rowAt, row_left _ _ _ ⟨t.val * 512 + r.val, by omega⟩ rfl]
  funext k
  have e : min t.val 15 = t.val := by omega
  blk_point [iblk, V, idx t, e]

theorem s_blk (h : ¬t.val < 16) (r : Fin 512) :
    (fun k => iblk m c 1 t (ix2 r k)) = rowAt (A0 m c) (A1 m c) (rowOf t r) := by
  have ht := lt_of_lt_of_eq t.isLt N_0
  rw [rowAt, row_right _ _ _ r (by simp only [rowOf]; omega)]
  funext k
  blk_point [iblk, V, idx t]

/-- A piece holds its 512 columns of the projected rows, at the places the piece goes to. -/
theorem tile (X : FVec Ideal S512x2048 .f32) (hX : ∀ r, (fun k => X (ix2 r k)) = rowAt (A0 m c) (A1 m c) (rowOf t r))
    (o : ℕ) (W : FVec Ideal S2048x512 .bf16) (b : FVec Ideal S1x512 .f32) (y : S512x6144.Idx) (x : S512x512.Idx)
    (h0 : (y 0).val = (x 0).val) (h1 : (y 1).val = o + (x 1).val) (ho : o + 512 ≤ 6144)
    (hW : ∀ k (l : Fin 512), W (ix2 k l) = A3 m c (ix2 k ⟨o + l.val, by omega⟩))
    (hb : ∀ l : Fin 512, b (ix2 0 l) = 0) :
    k0_pay6 (F := Ideal) (k0_pay3 (F := Ideal) X (iblk m c 2 t)) W b x
      = Cert.GlaInRefIdeal.Read.val_main_v24 (F := Ideal) (A0 m c) (A1 m c) (A2 m c) (A3 m c)
          ((win0_7.blk t).view.emb y) := by
  idx_vars x
  replace h0 : (y 0).val = x0.val := h0
  replace h1 : (y 1).val = o + x1.val := h1
  have e : k0_pay6 (F := Ideal) (k0_pay3 (F := Ideal) X (iblk m c 2 t)) W b (ix2 x0 x1)
      = projAt (A0 m c) (A1 m c) (A2 m c) (A3 m c) (rowOf t x0) ⟨o + x1.val, by omega⟩ := by
    rw [piece_apply, hX, hb, add_zero, projAt]
    simp only [hW, w_blk]
  refine e.trans ((main_read _ _ _ _ (rowOf t x0) ⟨o + x1.val, by omega⟩).symm.trans (congrArg _ ?_))
  refine funext fun a => Fin.ext ?_
  match a with
  | 0 => blk_simp [idx t]; show t.val * 512 + x0.val = _; omega
  | 1 => blk_simp [idx t]; show o + x1.val = _; omega

/-- The last store holds the log decays. -/
theorem tile_decay (X : FVec Ideal S512x2048 .f32) (hX : ∀ r, (fun k => X (ix2 r k)) = rowAt (A0 m c) (A1 m c) (rowOf t r))
    (W : FVec Ideal S2048x16 .bf16) (hW : ∀ k (g : Fin 16), W (ix2 k g) = A3 m c (ix2 k ⟨6144 + g.val, by omega⟩))
    (y : S512x1024.Idx) :
    k0_pay1 (F := Ideal) (k0_pay18 (F := Ideal) (k0_pay3 (F := Ideal) X (iblk m c 2 t)) W (iblk m c 5 t)) (iblk m c 6 t) y
      = Cert.GlaInRefIdeal.Read.val_main_v22 (F := Ideal) (A0 m c) (A1 m c) (A2 m c) (A3 m c) (A4 m c) (A5 m c)
          ((win0_8.blk t).view.emb y) := by
  idx_vars y
  have e : k0_pay18 (F := Ideal) (k0_pay3 (F := Ideal) X (iblk m c 2 t)) W (iblk m c 5 t) (ix2 y0 y1) + iblk m c 6 t (ix2 0 y1)
      = gateAt (A0 m c) (A1 m c) (A2 m c) (A3 m c) (A4 m c) (A5 m c) (rowOf t y0) y1 := by
    rw [gate_apply, hX, b_blk, gateAt]
    simp only [hW, w_blk, w2_blk, projAt]
  refine (decay_apply _ _ y0 y1).trans ((congrArg (fun z => Ideal.div (logSigmoid z) _) e).trans
    ((decay_read _ _ _ _ _ _ (rowOf t y0) y1).symm.trans (congrArg _ ?_)))
  refine funext fun a => Fin.ext ?_
  match a with
  | 0 => blk_simp [idx t, rowOf]
  | 1 => blk_simp [idx t]

/-- The projected rows. -/
theorem final7 : (dats m 0 c).arrAt 7 (cfgs 0).N
    = Cert.GlaInRefIdeal.Read.val_main_v24 (F := Ideal) (A0 m c) (A1 m c) (A2 m c) (A3 m c) := by
  refine (dats m 0 c).arrAt_eq_of_covers 7 _ (by decide +kernel) (fun t hf y => ?_)
  have ht := lt_of_lt_of_eq t.isLt N_0
  blk_simp
  rw [after0_7]
  by_cases h16 : t.val < 16
  · rw [outsAt0_A m c t h16 (by omega)]; frame_out
    canon_tiles x h
    all_goals
      first
        | refine tile m c t _ (p_blk m c t h16) _ _ _ y x h0 h1 (by norm_num) (fun k l => ?_) (fun l => ?_)
        | refine tile m c t _ (p_blk m c t h16) 0 _ _ y x h0 (h1.trans (Nat.zero_add _).symm) (by norm_num) (fun k l => ?_)
            (fun l => ?_)
      · pointwise []; blk_point [iblk, V, idx t]
      · pointwise []; blk_point [iblk, V, idx t]
  · rw [outsAt0_B m c t h16 (by omega)]; frame_out
    canon_tiles x h
    all_goals
      first
        | refine tile m c t _ (s_blk m c t h16) _ _ _ y x h0 h1 (by norm_num) (fun k l => ?_) (fun l => ?_)
        | refine tile m c t _ (s_blk m c t h16) 0 _ _ y x h0 (h1.trans (Nat.zero_add _).symm) (by norm_num) (fun k l => ?_)
            (fun l => ?_)
      · pointwise []; blk_point [iblk, V, idx t]
      · pointwise []; blk_point [iblk, V, idx t]

/-- The log decays. -/
theorem final8 : (dats m 0 c).arrAt 8 (cfgs 0).N
    = Cert.GlaInRefIdeal.Read.val_main_v22 (F := Ideal) (A0 m c) (A1 m c) (A2 m c) (A3 m c) (A4 m c) (A5 m c) := by
  refine (dats m 0 c).arrAt_eq_of_covers 8 _ (by decide +kernel) (fun t hf y => ?_)
  have ht := lt_of_lt_of_eq t.isLt N_0
  blk_simp
  rw [after0_8]
  by_cases h16 : t.val < 16
  · rw [outsAt0_A m c t h16 (by omega)]; frame_out
    refine tile_decay m c t _ (p_blk m c t h16) _ (fun k g => ?_) y
    pointwise []; blk_point [iblk, V, idx t]
  · rw [outsAt0_B m c t h16 (by omega)]; frame_out
    refine tile_decay m c t _ (s_blk m c t h16) _ (fun k g => ?_) y
    pointwise []; blk_point [iblk, V, idx t]

end Cert.K.GlaIn

end
-- ==== Proof.GlaIn.Claims.lean ====
/- The claims about the input projection of the gated-linear-attention layer and its reference. -/
module

public import proofs.«01_k».proof.Defs
public import proofs.«01_k».proof.Proof.Gen.GlaIn.Frame
public import proofs.«01_k».proof.Proof.GlaIn.Value
public import Idealize.ShloMosaic.Lib.Claim
public import Idealize.ShloMosaic.Lib.Quiescent

@[expose] public section

set_option maxRecDepth 16384

noncomputable section

namespace Cert.K.GlaIn

open Idealize.ShloMosaic Idealize.ShloMosaic.TcCoe Idealize.SL.Sem

/-- The kernel's frame: it runs, leaves its arguments alone and ends quiescent. -/
theorem frame_P : Cert.quiescent_GlaIn := fun m g _ => Cert.GlaIn.Gen.frame m g
/-- The same of its idealization. -/
theorem frame_PI : Cert.quiescent_GlaInIdeal := fun m g _ => Cert.GlaInIdeal.Gen.frame m g
/-- The same of the reference. -/
theorem frame_RI : Cert.quiescent_GlaInRefIdeal := by
  intro m g _
  exact (θ_run Cert.GlaInRefIdeal.defs _ _).mono
    (fun r h => ⟨fun c => (h c).2.2, sem_eq_zero_of_no_sems (by decide) r.2⟩)
    (Cert.GlaInRefIdeal.Value.run (F := Ideal) m g)

/-- Kernel and reference compute the same projected rows and the same log decays over the reals. -/
theorem value : Cert.algebraic_GlaInIdeal_GlaInRefIdeal := by
  pair_intro
  · run_from Cert.GlaInIdeal.Value.run_blocks m g
  · run_from Cert.GlaInRefIdeal.Value.run m' g'
    · rw [Cert.GlaInRefIdeal.Read.val_main_v24_eq]
      exact (final7 m c).symm
    · rw [Cert.GlaInRefIdeal.Read.val_main_v22_eq, (hagree c).1, (hagree c).2.1, (hagree c).2.2.1, (hagree c).2.2.2.1,
        (hagree c).2.2.2.2.1, (hagree c).2.2.2.2.2]
      exact (final8 m c).symm

end Cert.K.GlaIn

end
-- ==== Proof.SwaCache.Ref.lean ====
/- What the reference of the cache's update computes, entry by entry: the window's first 124 rows are the cache's last 124,
   its last 4 are the new tokens' rows. -/
module

public import proofs.«01_k».proof.Proof.Gen.SwaCacheRefIdeal.Read
public import Idealize.ShloMosaic.Lib.Pipeline.ValueKit

@[expose] public section

set_option maxRecDepth 16384

noncomputable section

namespace Cert.K.SwaCache

open Idealize.ShloMosaic Idealize.ShloMosaic.TcCoe Idealize.SL.Sem
open Cert.SwaCacheRefIdeal Cert.SwaCacheRefIdeal.Gen Cert.SwaCacheRefIdeal.Read

variable (x1 : FVec Ideal S8704x1024 .f32) (x2 x3 : FVec Ideal S128x128x8x64 .f32)

/-- A cached row that stays, its heads side by side. -/
def oldAt (x : FVec Ideal S128x128x8x64 .f32) (b : Fin 128) (r : Fin 124) (l : Fin 512) : EReal :=
  x (ix4 b ⟨4 + r.val, by omega⟩ ⟨l.val / 64, by omega⟩ ⟨l.val % 64, by omega⟩)

/-- A new token's keys or values: 512 columns of its row from column `o` on. -/
def newAt (o : ℕ) (ho : o + 512 ≤ 1024) (b : Fin 128) (r : Fin 4) (l : Fin 512) : EReal :=
  x1 (ix2 ⟨8192 + (b.val * 4 + r.val), by omega⟩ ⟨o + l.val, by omega⟩)

theorem k_old (b : Fin 128) (r : Fin 124) (l : Fin 512) :
    val_main_v10 (F := Ideal) x1 x2 (ix3 b ⟨r.val, by omega⟩ l) = oldAt x2 b r l := by
  pointwise [val_main_v10, val_main_v5, val_main_v4, val_main_v3, val_main_v2, val_main_v1, val_main_v0]
  rw [dif_pos (by omega)]; rfl

theorem k_new (b : Fin 128) (r : Fin 4) (l : Fin 512) :
    val_main_v10 (F := Ideal) x1 x2 (ix3 b ⟨124 + r.val, by omega⟩ l) = newAt x1 0 (by norm_num) b r l := by
  pointwise [val_main_v10, val_main_v5, val_main_v4, val_main_v3, val_main_v2, val_main_v1, val_main_v0]
  refine (dif_neg (by omega)).trans ?_
  have e0 : 8192 + (b.val * 4 + (4 + (124 + r.val) - 128)) = 8192 + (b.val * 4 + r.val) := by omega
  have e1 : l.val / 64 * 64 + l.val % 64 = 0 + l.val := by omega
  simp only [newAt, e0, e1]

theorem v_old (b : Fin 128) (r : Fin 124) (l : Fin 512) :
    val_main_v11 (F := Ideal) x1 x3 (ix3 b ⟨r.val, by omega⟩ l) = oldAt x3 b r l := by
  pointwise [val_main_v11, val_main_v9, val_main_v8, val_main_v7, val_main_v6, val_main_v1, val_main_v0]
  rw [dif_pos (by omega)]; rfl

theorem v_new (b : Fin 128) (r : Fin 4) (l : Fin 512) :
    val_main_v11 (F := Ideal) x1 x3 (ix3 b ⟨124 + r.val, by omega⟩ l) = newAt x1 512 (by norm_num) b r l := by
  pointwise [val_main_v11, val_main_v9, val_main_v8, val_main_v7, val_main_v6, val_main_v1, val_main_v0]
  refine (dif_neg (by omega)).trans ?_
  have e0 : 8192 + (b.val * 4 + (4 + (124 + r.val) - 128)) = 8192 + (b.val * 4 + r.val) := by omega
  have e1 : 512 + l.val / 64 * 64 + l.val % 64 = 512 + l.val := by omega
  simp only [newAt, e0, e1]

end Cert.K.SwaCache

end
-- ==== Proof.SwaCache.Host.lean ====
/- What the kernel's windows over the new rows and the caches read: the host's slices, paddings and reshapes of the arguments,
   entry by entry. -/
module

public import proofs.«01_k».proof.Proof.Gen.SwaCacheIdeal.Value
public import proofs.«01_k».proof.Proof.SwaCache.Ref
public import Idealize.ShloMosaic.Lib.StableHlo.RunRead

@[expose] public section

set_option maxRecDepth 16384

noncomputable section

namespace Cert.K.SwaCache

open Idealize.ShloMosaic Idealize.ShloMosaic.TcCoe Idealize.SL.Sem
open Cert.SwaCacheIdeal Cert.SwaCacheIdeal.Gen

variable (m : (ℓ : Loc nD τ sig) → Buf (Elt Ideal) ℓ) (c : Dev nD)

/-- The projected keys and values. -/
abbrev A1 : FVec Ideal S8704x1024 .f32 := m ((c : Thread nD τ).loc main_arg1)
/-- The cached keys. -/
abbrev A2 : FVec Ideal S128x128x8x64 .f32 := m ((c : Thread nD τ).loc main_arg2)
/-- The cached values. -/
abbrev A3 : FVec Ideal S128x128x8x64 .f32 := m ((c : Thread nD τ).loc main_arg3)

/-- The key cache's array is the argument with the heads of a row side by side. -/
theorem V_v6 : V m c main_v6 = shapeCast S128x128x512 (A2 m c) shapeCasts_S128x128x8x64_S128x128x512 := by
  simp only [V, hostOps0, hostOps0_1, hostOps0_2, hostOps0_3, hostOps0_4, List.flatten_cons, List.flatten_nil, List.append_nil,
    List.cons_append, List.nil_append]
  after_reads_simp
  rfl

/-- The same of the value cache's. -/
theorem V_v7 : V m c main_v7 = shapeCast S128x128x512 (A3 m c) shapeCasts_S128x128x8x64_S128x128x512 := by
  simp only [V, hostOps0, hostOps0_1, hostOps0_2, hostOps0_3, hostOps0_4, List.flatten_cons, List.flatten_nil, List.append_nil,
    List.cons_append, List.nil_append]
  after_reads_simp
  rfl

/-- The new keys' array is the sample's rows' first 512 columns, four rows a sequence, padded to eight. -/
theorem V_v3 : V m c main_v3 = pad S128x8x512 ![0, 0, 0] ![0, 4, 0] ![0, 0, 0]
    (extractStridedSlice S128x4x512 ![0, 0, 0]
      (shapeCast S128x4x1024 (extractStridedSlice S512x1024 ![8192, 0] (A1 m c) slices_S8704x1024_S512x1024_8192_0)
        shapeCasts_S512x1024_S128x4x1024) slices_S128x4x1024_S128x4x512_0_0_0)
    (sitofp .f32 (constantI S_ 32 0#32)) pads_S128x4x512_S128x8x512_000_040_000 h_S_ := by
  simp only [V, hostOps0, hostOps0_1, hostOps0_2, hostOps0_3, hostOps0_4, List.flatten_cons, List.flatten_nil, List.append_nil,
    List.cons_append, List.nil_append]
  after_reads_simp
  rfl

/-- The new values' array, from the last 512 columns. -/
theorem V_v5 : V m c main_v5 = pad S128x8x512 ![0, 0, 0] ![0, 4, 0] ![0, 0, 0]
    (extractStridedSlice S128x4x512 ![0, 0, 512]
      (shapeCast S128x4x1024 (extractStridedSlice S512x1024 ![8192, 0] (A1 m c) slices_S8704x1024_S512x1024_8192_0)
        shapeCasts_S512x1024_S128x4x1024) slices_S128x4x1024_S128x4x512_0_0_512)
    (sitofp .f32 (constantI S_ 32 0#32)) pads_S128x4x512_S128x8x512_000_040_000 h_S_ := by
  simp only [V, hostOps0, hostOps0_1, hostOps0_2, hostOps0_3, hostOps0_4, List.flatten_cons, List.flatten_nil, List.append_nil,
    List.cons_append, List.nil_append]
  after_reads_simp
  rfl

variable (b : Fin 128) (l : Fin 512)

/-- A cached key that stays, as the kernel's array holds it. -/
theorem keys_old (r : Fin 124) (w : S128x128x512.Idx) (h0 : (w 0).val = b.val) (h1 : (w 1).val = 4 + r.val)
    (h2 : (w 2).val = l.val) : V m c main_v6 w = oldAt (A2 m c) b r l := by
  have e : w = ix3 b ⟨4 + r.val, by omega⟩ l :=
    funext fun a => Fin.ext (match a with | 0 => h0 | 1 => h1 | 2 => h2)
  rw [e, V_v6]
  pointwise []
  rfl

/-- A cached value that stays. -/
theorem vals_old (r : Fin 124) (w : S128x128x512.Idx) (h0 : (w 0).val = b.val) (h1 : (w 1).val = 4 + r.val)
    (h2 : (w 2).val = l.val) : V m c main_v7 w = oldAt (A3 m c) b r l := by
  have e : w = ix3 b ⟨4 + r.val, by omega⟩ l :=
    funext fun a => Fin.ext (match a with | 0 => h0 | 1 => h1 | 2 => h2)
  rw [e, V_v7]
  pointwise []
  rfl

/-- A new key. -/
theorem keys_new (r : Fin 4) (w : S128x8x512.Idx) (h0 : (w 0).val = b.val) (h1 : (w 1).val = r.val)
    (h2 : (w 2).val = l.val) : V m c main_v3 w = newAt (A1 m c) 0 (by norm_num) b r l := by
  have e : w = ix3 b ⟨r.val, by omega⟩ l :=
    funext fun a => Fin.ext (match a with | 0 => h0 | 1 => h1 | 2 => h2)
  rw [e, V_v3]
  pointwise []
  simp only [newAt, Nat.zero_add]

/-- A new value. -/
theorem vals_new (r : Fin 4) (w : S128x8x512.Idx) (h0 : (w 0).val = b.val) (h1 : (w 1).val = r.val)
    (h2 : (w 2).val = l.val) : V m c main_v5 w = newAt (A1 m c) 512 (by norm_num) b r l := by
  have e : w = ix3 b ⟨r.val, by omega⟩ l :=
    funext fun a => Fin.ext (match a with | 0 => h0 | 1 => h1 | 2 => h2)
  rw [e, V_v5]
  pointwise []
  rfl

end Cert.K.SwaCache

end
-- ==== Proof.SwaCache.Value.lean ====
/- What the kernel leaves in its two cache results: at every index the number the reference's results hold there. -/
module

public import proofs.«01_k».proof.Proof.SwaCache.Host
public import Idealize.ShloMosaic.Lib.Ring
public import Idealize.ShloMosaic.Lib.Tactic

@[expose] public section

set_option maxRecDepth 16384

noncomputable section

namespace Cert.K.SwaCache

open Idealize.ShloMosaic Idealize.ShloMosaic.TcCoe Idealize.SL.Sem
open Idealize.ShloMosaic.Pipeline (Dat)
open Cert.SwaCacheIdeal Cert.SwaCacheIdeal.Gen

variable (m : (ℓ : Loc nD τ sig) → Buf (Elt Ideal) ℓ) (c : Dev nD)

/-- The block each window of the caches and the new rows reads or writes at a point: sequences `8 t` to `8 t + 7`. -/
theorem idx : ∀ t : Fin cfg0.N, win0_1.index t = ![t.val, 0, 0] ∧ win0_2.index t = ![t.val, 0, 0]
    ∧ win0_3.index t = ![t.val, 0, 0] ∧ win0_4.index t = ![t.val, 0, 0] ∧ win0_8.index t = ![t.val, 0, 0]
    ∧ win0_9.index t = ![t.val, 0, 0] :=
  (by decide +kernel : ∀ t : Fin grid0.N, _)

variable (t : Fin cfg0.N)

/-- A piece with the kept rows of a sequence, where the key result holds them. -/
theorem tile_k_old (i : ℕ) (hi : i < 8) (s : FVec Ideal S1x124x512 .f32) (y : S8x128x512.Idx) (x : S1x124x512.Idx)
    (h0 : (y 0).val = i + (x 0).val) (h1 : (y 1).val = (x 1).val) (h2 : (y 2).val = (x 2).val)
    (hs : ∀ (b : Fin 128), b.val = t.val * 8 + i → ∀ r l, s (ix3 0 r l) = oldAt (A2 m c) b r l) :
    s x = Cert.SwaCacheRefIdeal.Read.val_main_v10 (F := Ideal) (A1 m c) (A2 m c) ((win0_8.blk t).view.emb y) := by
  have ht : t.val < 16 := lt_of_lt_of_eq t.isLt N_0
  idx_vars x
  replace h0 : (y 0).val = i + x0.val := h0
  replace h1 : (y 1).val = x1.val := h1
  replace h2 : (y 2).val = x2.val := h2
  have e0 := x0.isLt
  rw [Subsingleton.elim x0 0]
  refine (hs ⟨t.val * 8 + i, by omega⟩ rfl x1 x2).trans
    ((k_old _ _ ⟨t.val * 8 + i, by omega⟩ x1 x2).symm.trans (congrArg _ ?_))
  refine funext fun a => Fin.ext ?_
  match a with
  | 0 => blk_simp [idx t]; show t.val * 8 + i = _; omega
  | 1 => blk_simp [idx t]; show x1.val = _; omega
  | 2 => blk_simp [idx t]; show x2.val = _; omega

/-- A piece with the new rows of a sequence, where the key result holds them. -/
theorem tile_k_new (i : ℕ) (hi : i < 8) (s : FVec Ideal S1x4x512 .f32) (y : S8x128x512.Idx) (x : S1x4x512.Idx)
    (h0 : (y 0).val = i + (x 0).val) (h1 : (y 1).val = 124 + (x 1).val) (h2 : (y 2).val = (x 2).val)
    (hs : ∀ (b : Fin 128), b.val = t.val * 8 + i → ∀ r l, s (ix3 0 r l) = newAt (A1 m c) 0 (by norm_num) b r l) :
    s x = Cert.SwaCacheRefIdeal.Read.val_main_v10 (F := Ideal) (A1 m c) (A2 m c) ((win0_8.blk t).view.emb y) := by
  have ht : t.val < 16 := lt_of_lt_of_eq t.isLt N_0
  idx_vars x
  replace h0 : (y 0).val = i + x0.val := h0
  replace h1 : (y 1).val = 124 + x1.val := h1
  replace h2 : (y 2).val = x2.val := h2
  have e0 := x0.isLt
  rw [Subsingleton.elim x0 0]
  refine (hs ⟨t.val * 8 + i, by omega⟩ rfl x1 x2).trans
    ((k_new _ _ ⟨t.val * 8 + i, by omega⟩ x1 x2).symm.trans (congrArg _ ?_))
  refine funext fun a => Fin.ext ?_
  match a with
  | 0 => blk_simp [idx t]; show t.val * 8 + i = _; omega
  | 1 => blk_simp [idx t]; show 124 + x1.val = _; omega
  | 2 => blk_simp [idx t]; show x2.val = _; omega

/-- The same of the value result: the kept rows … -/
theorem tile_v_old (i : ℕ) (hi : i < 8) (s : FVec Ideal S1x124x512 .f32) (y : S8x128x512.Idx) (x : S1x124x512.Idx)
    (h0 : (y 0).val = i + (x 0).val) (h1 : (y 1).val = (x 1).val) (h2 : (y 2).val = (x 2).val)
    (hs : ∀ (b : Fin 128), b.val = t.val * 8 + i → ∀ r l, s (ix3 0 r l) = oldAt (A3 m c) b r l) :
    s x = Cert.SwaCacheRefIdeal.Read.val_main_v11 (F := Ideal) (A1 m c) (A3 m c) ((win0_9.blk t).view.emb y) := by
  have ht : t.val < 16 := lt_of_lt_of_eq t.isLt N_0
  idx_vars x
  replace h0 : (y 0).val = i + x0.val := h0
  replace h1 : (y 1).val = x1.val := h1
  replace h2 : (y 2).val = x2.val := h2
  have e0 := x0.isLt
  rw [Subsingleton.elim x0 0]
  refine (hs ⟨t.val * 8 + i, by omega⟩ rfl x1 x2).trans
    ((v_old _ _ ⟨t.val * 8 + i, by omega⟩ x1 x2).symm.trans (congrArg _ ?_))
  refine funext fun a => Fin.ext ?_
  match a with
  | 0 => blk_simp [idx t]; show t.val * 8 + i = _; omega
  | 1 => blk_simp [idx t]; show x1.val = _; omega
  | 2 => blk_simp [idx t]; show x2.val = _; omega

/-- … and the new ones. -/
theorem tile_v_new (i : ℕ) (hi : i < 8) (s : FVec Ideal S1x4x512 .f32) (y : S8x128x512.Idx) (x : S1x4x512.Idx)
    (h0 : (y 0).val = i + (x 0).val) (h1 : (y 1).val = 124 + (x 1).val) (h2 : (y 2).val = (x 2).val)
    (hs : ∀ (b : Fin 128), b.val = t.val * 8 + i → ∀ r l, s (ix3 0 r l) = newAt (A1 m c) 512 (by norm_num) b r l) :
    s x = Cert.SwaCacheRefIdeal.Read.val_main_v11 (F := Ideal) (A1 m c) (A3 m c) ((win0_9.blk t).view.emb y) := by
  have ht : t.val < 16 := lt_of_lt_of_eq t.isLt N_0
  idx_vars x
  replace h0 : (y 0).val = i + x0.val := h0
  replace h1 : (y 1).val = 124 + x1.val := h1
  replace h2 : (y 2).val = x2.val := h2
  have e0 := x0.isLt
  rw [Subsingleton.elim x0 0]
  refine (hs ⟨t.val * 8 + i, by omega⟩ rfl x1 x2).trans
    ((v_new _ _ ⟨t.val * 8 + i, by omega⟩ x1 x2).symm.trans (congrArg _ ?_))
  refine funext fun a => Fin.ext ?_
  match a with
  | 0 => blk_simp [idx t]; show t.val * 8 + i = _; omega
  | 1 => blk_simp [idx t]; show 124 + x1.val = _; omega
  | 2 => blk_simp [idx t]; show x2.val = _; omega

set_option maxHeartbeats 4000000 in
/-- The keys' window, after the call. -/
theorem final8 : (dats m 0 c).arrAt 8 (cfgs 0).N
    = Cert.SwaCacheRefIdeal.Read.val_main_v10 (F := Ideal) (A1 m c) (A2 m c) := by
  refine (dats m 0 c).arrAt_eq_of_covers 8 _ (by decide +kernel) fun t _ y => ?_
  blk_simp
  rw [after0_8]
  frame_out
  canon_tiles x h using (by exact View.cover_of_tiledBy (s := S8x128x512) _ ![1, 4, 512] (by sl_kernel_rfl) y)
  all_goals
    first
      | refine tile_k_old m c t _ (by norm_num) _ y x h0 h1 h2 (fun b hb r l => ?_)
      | refine tile_k_old m c t 0 (by norm_num) _ y x (h0.trans (Nat.zero_add _).symm) h1 h2 (fun b hb r l => ?_)
      | refine tile_k_new m c t _ (by norm_num) _ y x h0 h1 h2 (fun b hb r l => ?_)
      | refine tile_k_new m c t 0 (by norm_num) _ y x (h0.trans (Nat.zero_add _).symm) h1 h2 (fun b hb r l => ?_)
    pointwise []
    blk_point [iblk, V, idx t]
    first
      | refine keys_old m c b l r _ ?_ ?_ ?_
      | refine keys_new m c b l r _ ?_ ?_ ?_
    all_goals
      blk_simp [idx t]
      try exact hb.symm

set_option maxHeartbeats 4000000 in
/-- The values' window, after the call. -/
theorem final9 : (dats m 0 c).arrAt 9 (cfgs 0).N
    = Cert.SwaCacheRefIdeal.Read.val_main_v11 (F := Ideal) (A1 m c) (A3 m c) := by
  refine (dats m 0 c).arrAt_eq_of_covers 9 _ (by decide +kernel) fun t _ y => ?_
  blk_simp
  rw [after0_9]
  frame_out
  canon_tiles x h using (by exact View.cover_of_tiledBy (s := S8x128x512) _ ![1, 4, 512] (by sl_kernel_rfl) y)
  all_goals
    first
      | refine tile_v_old m c t _ (by norm_num) _ y x h0 h1 h2 (fun b hb r l => ?_)
      | refine tile_v_old m c t 0 (by norm_num) _ y x (h0.trans (Nat.zero_add _).symm) h1 h2 (fun b hb r l => ?_)
      | refine tile_v_new m c t _ (by norm_num) _ y x h0 h1 h2 (fun b hb r l => ?_)
      | refine tile_v_new m c t 0 (by norm_num) _ y x (h0.trans (Nat.zero_add _).symm) h1 h2 (fun b hb r l => ?_)
    pointwise []
    blk_point [iblk, V, idx t]
    first
      | refine vals_old m c b l r _ ?_ ?_ ?_
      | refine vals_new m c b l r _ ?_ ?_ ?_
    all_goals
      blk_simp [idx t]
      try exact hb.symm

end Cert.K.SwaCache

end
-- ==== Proof.SwaCache.Claims.lean ====
/- The claims about the update of the sliding window's caches and its reference. -/
module

public import proofs.«01_k».proof.Defs
public import proofs.«01_k».proof.Proof.Gen.SwaCache.Frame
public import proofs.«01_k».proof.Proof.SwaCache.Value
public import Idealize.ShloMosaic.Lib.Claim
public import Idealize.ShloMosaic.Lib.Quiescent

@[expose] public section

set_option maxRecDepth 16384

noncomputable section

namespace Cert.K.SwaCache

open Idealize.ShloMosaic Idealize.ShloMosaic.TcCoe Idealize.SL.Sem

/-- The kernel's frame: it runs, leaves its arguments alone and ends quiescent. -/
theorem frame_P : Cert.quiescent_SwaCache := fun m g _ => Cert.SwaCache.Gen.frame m g
/-- The same of its idealization. -/
theorem frame_PI : Cert.quiescent_SwaCacheIdeal := fun m g _ => Cert.SwaCacheIdeal.Gen.frame m g
/-- The same of the reference. -/
theorem frame_RI : Cert.quiescent_SwaCacheRefIdeal := by
  intro m g _
  exact (θ_run Cert.SwaCacheRefIdeal.defs _ _).mono
    (fun r h => ⟨fun c => (h c).2.2, sem_eq_zero_of_no_sems (by decide) r.2⟩)
    (Cert.SwaCacheRefIdeal.Value.run (F := Ideal) m g)

/-- Kernel and reference leave the same windows of keys and values over the reals. -/
theorem value : Cert.algebraic_SwaCacheIdeal_SwaCacheRefIdeal := by
  pair_intro
  · run_from Cert.SwaCacheIdeal.Value.run_blocks m g
  · run_from Cert.SwaCacheRefIdeal.Value.run m' g'
    · rw [Cert.SwaCacheRefIdeal.Read.val_main_v10_eq, (hagree c).2.1, (hagree c).2.2.1]
      exact (final8 m c).symm
    · rw [Cert.SwaCacheRefIdeal.Read.val_main_v11_eq, (hagree c).2.1, (hagree c).2.2.2.1]
      exact (final9 m c).symm

end Cert.K.SwaCache

end
-- ==== Proof.ProjRes.Ref.lean ====
/- What the reference of the output projections computes, entry by entry: the residual plus the row times a column of the
   weights plus the bias, for the prompt's rows and for the sample's. -/
module

public import proofs.«01_k».proof.Proof.Ffn.Spec
public import proofs.«01_k».proof.Proof.Gen.ProjResRefIdeal.Read
public import Idealize.ShloMosaic.Lib.Pipeline.ValueKit

@[expose] public section

set_option maxRecDepth 16384

noncomputable section

namespace Cert.K.ProjRes

open Idealize.ShloMosaic Idealize.ShloMosaic.TcCoe Idealize.SL.Sem
open Cert.ProjResRefIdeal Cert.ProjResRefIdeal.Gen Cert.ProjResRefIdeal.Read Cert.K.Ffn

variable (x0 : FVec Ideal S8192x2048 .bf16) (x1 : FVec Ideal S512x2048 .f32) (x2 : FVec Ideal S2048x2048 .bf16)
  (x3 : FVec Ideal S2048 .f32) (x4 : FVec Ideal S8192x2048 .f32) (x5 : FVec Ideal S512x2048 .f32)

/-- A row of the prompt's result. -/
theorem prompt_read (r : Fin 8192) (j : Fin 2048) :
    val_main_v6 (F := Ideal) x0 x2 x3 x4 (ix2 r j)
      = x4 (ix2 r j) + (dot (fun k => x0 (ix2 r k)) (fun k => x2 (ix2 k j)) + x3 (ix1 j)) := by
  pointwise [val_main_v6, val_main_v5, val_main_v4, val_main_v3, val_main_v2, val_main_v1, val_main_v0]
  simp only [dot]

/-- A row of the sample's result. -/
theorem sample_read (r : Fin 512) (j : Fin 2048) :
    val_main_v11 (F := Ideal) x1 x2 x3 x5 (ix2 r j)
      = x5 (ix2 r j) + (dot (fun k => x1 (ix2 r k)) (fun k => x2 (ix2 k j)) + x3 (ix1 j)) := by
  pointwise [val_main_v11, val_main_v10, val_main_v9, val_main_v8, val_main_v7, val_main_v0]
  simp only [dot]

end Cert.K.ProjRes

end
-- ==== Proof.ProjRes.RunIdeal.lean ====
/- The body of the idealized output projection run on any staging buffers: at a point of the prompt it fills the prompt's output
   block and leaves the sample's alone, at the sample's point the other way round. -/
module

public import proofs.«01_k».proof.Proof.Gen.ProjResIdeal.Frame

@[expose] public section

set_option maxRecDepth 16384

noncomputable section

namespace Cert.K.ProjResIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjResIdeal Cert.ProjResIdeal.Gen

variable {F : FTy → Type} [FloatOps F]

local notation "𝕄" => MT nD τ sig Unit (Elt F) ℕ (UR sig nD τ) ℕ

set_option maxHeartbeats 1000000 in
/-- The run at a point of the prompt: what it stores into the prompt's output block, with the proof that it stores just that. -/
noncomputable def runA (c : Dev nD) (i : grid0.Coords)
    (arg1 : Memref sig .tc .vmem S512x2048 .bf16) (harg1 : arg1.IsWhole)
    (arg2 : Memref sig .tc .vmem S512x2048 .f32) (harg2 : arg2.IsWhole)
    (arg3 : Memref sig .tc .vmem S2048x2048 .bf16) (harg3 : arg3.IsWhole)
    (arg4 : Memref sig .tc .vmem S1x2048 .f32) (harg4 : arg4.IsWhole)
    (arg5 : Memref sig .tc .vmem S512x2048 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc1 : k0_cond1 i = 1#1) (hc2 : ¬k0_cond2 i = 1#1)
    (x0 : Vec F S512x2048 .bf16) (x1 : Vec F S512x2048 .f32) (x2 : Vec F S2048x2048 .bf16) (x3 : Vec F S1x2048 .f32)
    (x4 x5 : Vec F S512x2048 .f32) :
    { L : List (View.Piece (Elt F) S512x2048 .f32) //
      ∀ (X : Vec F S512x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ owns (c : Thread nD τ) arg8 fullShare X
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L)
                ∗ owns (c : Thread nD τ) arg8 fullShare X) -∗ K ⟨⟩))
          ⊢ wp frame (wpE (defs₀ (F := F)) Variants.none c none) E (cc0_proj_res i arg1 harg1 arg2 harg2 arg3 harg3 arg4 harg4 arg5 harg5 arg6 harg6 arg7 harg7 arg8 harg8) K } := by
  refine ⟨?_, fun X E K => ?run⟩
  case run =>
    unfold cc0_proj_res
    unfold k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%d6, %f6, -, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg8.eq_unread hf7
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg8.read_unread _
    iexact H7

set_option maxHeartbeats 1000000 in
/-- The run at the sample's point: what it stores into the sample's output block, with the proof that it stores just that. -/
noncomputable def runB (c : Dev nD) (i : grid0.Coords)
    (arg1 : Memref sig .tc .vmem S512x2048 .bf16) (harg1 : arg1.IsWhole)
    (arg2 : Memref sig .tc .vmem S512x2048 .f32) (harg2 : arg2.IsWhole)
    (arg3 : Memref sig .tc .vmem S2048x2048 .bf16) (harg3 : arg3.IsWhole)
    (arg4 : Memref sig .tc .vmem S1x2048 .f32) (harg4 : arg4.IsWhole)
    (arg5 : Memref sig .tc .vmem S512x2048 .f32) (harg5 : arg5.IsWhole)
    (arg6 : Memref sig .tc .vmem S512x2048 .f32) (harg6 : arg6.IsWhole)
    (arg7 : Memref sig .tc .vmem S512x2048 .f32) (harg7 : arg7.IsWhole)
    (arg8 : Memref sig .tc .vmem S512x2048 .f32) (harg8 : arg8.IsWhole)
    (hc1 : ¬k0_cond1 i = 1#1) (hc2 : k0_cond2 i = 1#1)
    (x0 : Vec F S512x2048 .bf16) (x1 : Vec F S512x2048 .f32) (x2 : Vec F S2048x2048 .bf16) (x3 : Vec F S1x2048 .f32)
    (x4 x5 : Vec F S512x2048 .f32) :
    { L : List (View.Piece (Elt F) S512x2048 .f32) //
      ∀ (X : Vec F S512x2048 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg8 fullShare d) ∗ owns (c : Thread nD τ) arg7 fullShare X
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg8.view.loc (c : Thread nD τ) ↦[arg8.view.set]{fullShare} arg8.view.writes (Elt F) f L)
                ∗ owns (c : Thread nD τ) arg7 fullShare X) -∗ K ⟨⟩))
          ⊢ wp frame (wpE (defs₀ (F := F)) Variants.none c none) E (cc0_proj_res i arg1 harg1 arg2 harg2 arg3 harg3 arg4 harg4 arg5 harg5 arg6 harg6 arg7 harg7 arg8 harg8) K } := by
  refine ⟨?_, fun X E K => ?run⟩
  case run =>
    unfold cc0_proj_res
    unfold k0_part2
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩,
      ⟨%d6, %f6, -, H6⟩, ⟨%f7, %hf7, H7⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    obtain rfl := harg7.eq_unread hf7
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    iexists _; isplitr; · ipureintro; exact harg7.read_unread _
    iexact H7

end Cert.K.ProjResIdeal

end
-- ==== Proof.ProjRes.DataIdeal.lean ====
/- The launch of the idealized output projection: what each point leaves in the staging buffers, the body's triple at every
   point, and the run of the whole program. The prompt's output block of the last prompt point is still in its buffer at the
   sample's point, which does not touch it; the sample's output is stored at that point only. -/
module

public import proofs.«01_k».proof.Proof.ProjRes.RunIdeal
public import Idealize.ShloMosaic.Lib.Claim

@[expose] public section

set_option maxRecDepth 16384

noncomputable section

namespace Cert.K.ProjResIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjResIdeal Cert.ProjResIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The first branch is taken at the points of the prompt, … -/
theorem on_prompt : ∀ t : Fin cfg0.N, k0_cond1 (grid0.coords t) = 1#1 ↔ t.val < 16 :=
  (by decide +kernel : ∀ t : Fin grid0.N, k0_cond1 (grid0.coords t) = 1#1 ↔ t.val < 16)

/-- … the second at the sample's. -/
theorem on_sample : ∀ t : Fin cfg0.N, k0_cond2 (grid0.coords t) = 1#1 ↔ ¬ t.val < 16 :=
  (by decide +kernel : ∀ t : Fin grid0.N, k0_cond2 (grid0.coords t) = 1#1 ↔ ¬ t.val < 16)

/-- A window that is live at a point. -/
theorem live6 (t : Fin cfg0.N) (h : t.val < 16) : cfg0.idle 6 (grid0.coords t) = false := by
  show (!(k0_cond1 (grid0.coords t) == 1#1)) = false
  rw [(on_prompt t).mpr h]; rfl

theorem idle7 : ∀ t : Fin cfg0.N, t.val < 16 → cfg0.idle 7 (grid0.coords t) = true :=
  (by decide +kernel : ∀ t : Fin grid0.N, t.val < 16 → (!(k0_cond2 (grid0.coords t) == 1#1)) = true)

theorem live7 (t : Fin cfg0.N) (h : ¬ t.val < 16) : cfg0.idle 7 (grid0.coords t) = false := by
  show (!(k0_cond2 (grid0.coords t) == 1#1)) = false
  rw [(on_sample t).mpr h]; rfl

theorem idle6 : ∀ t : Fin cfg0.N, ¬ t.val < 16 → cfg0.idle 6 (grid0.coords t) = true :=
  (by decide +kernel : ∀ t : Fin grid0.N, ¬ t.val < 16 → (!(k0_cond1 (grid0.coords t) == 1#1)) = true)

/-- The sample's block is not written back before its point. -/
theorem noflush7 (t : Fin cfg0.N) (h : t.val < 16) : (cfg0.win 7).flush t = false := by
  rw [← Bool.not_eq_true]; intro h'
  have := (flush0_7 t).mp h'
  omega

/-- The prompt's last block is written back at the sample's point, not at its own; an output is never fetched. -/
theorem flush6_last : ∀ t : Fin cfg0.N, ¬ t.val < 16 → (cfg0.win 6).flush t = true :=
  (by decide +kernel : ∀ t : Fin grid0.N, ¬ t.val < 16 → win0_6.flush t = true)
theorem noflush6 : ∀ t : Fin cfg0.N, t.val = 15 → (cfg0.win 6).flush t = false :=
  (by decide +kernel : ∀ t : Fin grid0.N, t.val = 15 → win0_6.flush t = false)
theorem nofetch6 : ∀ t : Fin cfg0.N, (cfg0.win 6).fetch t = false :=
  (by decide +kernel : ∀ t : Fin grid0.N, win0_6.fetch t = false)

/-- The points of the prompt. -/
abbrev Prompt := {t : Fin cfg0.N // t.val < 16}
/-- The last point of the prompt that is not after `t`. -/
def upto (t : Fin cfg0.N) : Prompt :=
  ⟨⟨min t.val 15, lt_of_le_of_lt (Nat.min_le_left _ _) t.isLt⟩, by show min t.val 15 < 16; omega⟩
theorem upto_of (t : Fin cfg0.N) (h : t.val < 16) : upto t = ⟨t, h⟩ :=
  Subtype.ext (Fin.ext (by show min t.val 15 = t.val; omega))
/-- The sample's point. -/
def lastPt : Fin cfg0.N := ⟨16, by rw [show cfg0.N = 17 from N_0]; omega⟩
theorem eq_lastPt (t : Fin cfg0.N) (h : ¬ t.val < 16) : t = lastPt := by
  have hN : t.val < 17 := lt_of_lt_of_eq t.isLt (show cfg0.N = 17 from N_0)
  exact Fin.ext (by show t.val = 16; omega)
theorem lastPt_not : ¬ lastPt.val < 16 := by show ¬ (16 < 16); omega

/-! ## What the points leave -/

/-- Window 0's staging buffer at a point. -/
abbrev b0 (t : Fin cfg0.N) : Memref sig .tc .vmem S512x2048 .bf16 := win0_0.stage (cfg0.slots t 0)
theorem wb0 (t : Fin cfg0.N) : (b0 t).IsWhole := hstage0_0 ((cfg0.slots t 0).cast nbuf0_0)
/-- Window 1's staging buffer at a point. -/
abbrev b1 (t : Fin cfg0.N) : Memref sig .tc .vmem S512x2048 .f32 := win0_1.stage (cfg0.slots t 1)
theorem wb1 (t : Fin cfg0.N) : (b1 t).IsWhole := hstage0_1 ((cfg0.slots t 1).cast nbuf0_1)
/-- Window 2's staging buffer at a point. -/
abbrev b2 (t : Fin cfg0.N) : Memref sig .tc .vmem S2048x2048 .bf16 := win0_2.stage (cfg0.slots t 2)
theorem wb2 (t : Fin cfg0.N) : (b2 t).IsWhole := hstage0_2 ((cfg0.slots t 2).cast nbuf0_2)
/-- Window 3's staging buffer at a point. -/
abbrev b3 (t : Fin cfg0.N) : Memref sig .tc .vmem S1x2048 .f32 := win0_3.stage (cfg0.slots t 3)
theorem wb3 (t : Fin cfg0.N) : (b3 t).IsWhole := hstage0_3 ((cfg0.slots t 3).cast nbuf0_3)
/-- Window 4's staging buffer at a point. -/
abbrev b4 (t : Fin cfg0.N) : Memref sig .tc .vmem S512x2048 .f32 := win0_4.stage (cfg0.slots t 4)
theorem wb4 (t : Fin cfg0.N) : (b4 t).IsWhole := hstage0_4 ((cfg0.slots t 4).cast nbuf0_4)
/-- Window 5's staging buffer at a point. -/
abbrev b5 (t : Fin cfg0.N) : Memref sig .tc .vmem S512x2048 .f32 := win0_5.stage (cfg0.slots t 5)
theorem wb5 (t : Fin cfg0.N) : (b5 t).IsWhole := hstage0_5 ((cfg0.slots t 5).cast nbuf0_5)
/-- Window 6's staging buffer at a point. -/
abbrev b6 (t : Fin cfg0.N) : Memref sig .tc .vmem S512x2048 .f32 := win0_6.stage (cfg0.slots t 6)
theorem wb6 (t : Fin cfg0.N) : (b6 t).IsWhole := hstage0_6 ((cfg0.slots t 6).cast nbuf0_6)
/-- Window 7's staging buffer at a point. -/
abbrev b7 (t : Fin cfg0.N) : Memref sig .tc .vmem S512x2048 .f32 := win0_7.stage (cfg0.slots t 7)
theorem wb7 (t : Fin cfg0.N) : (b7 t).IsWhole := hstage0_7 ((cfg0.slots t 7).cast nbuf0_7)

/-- One staging buffer of each output, through which its contents are read. -/
abbrev O6 : View sig .tc .vmem S512x2048 .f32 := (Memref.whole cc0_stg6_0 : Memref sig .tc .vmem S512x2048 .f32).view
abbrev O7 : View sig .tc .vmem S512x2048 .f32 := (Memref.whole cc0_stg7_0 : Memref sig .tc .vmem S512x2048 .f32).view

/-- The body's run at a point of the prompt, … -/
abbrev atPrompt (c : Dev nD) (t : Fin cfg0.N) (h : t.val < 16) :=
  runA (F := F) c (grid0.coords t) (b0 t) (wb0 t) (b1 t) (wb1 t) (b2 t) (wb2 t) (b3 t) (wb3 t) (b4 t) (wb4 t) (b5 t) (wb5 t) (b6 t) (wb6 t) (b7 t) (wb7 t)
    ((on_prompt t).mpr h) (fun h' => (on_sample t).mp h' h)
    (iblk m c 0 t) (iblk m c 1 t) (iblk m c 2 t) (iblk m c 3 t) (iblk m c 4 t) (iblk m c 5 t)

/-- … and at the sample's. -/
abbrev atSample (c : Dev nD) (t : Fin cfg0.N) (h : ¬ t.val < 16) :=
  runB (F := F) c (grid0.coords t) (b0 t) (wb0 t) (b1 t) (wb1 t) (b2 t) (wb2 t) (b3 t) (wb3 t) (b4 t) (wb4 t) (b5 t) (wb5 t) (b6 t) (wb6 t) (b7 t) (wb7 t)
    (fun h' => h ((on_prompt t).mp h')) ((on_sample t).mpr h)
    (iblk m c 0 t) (iblk m c 1 t) (iblk m c 2 t) (iblk m c 3 t) (iblk m c 4 t) (iblk m c 5 t)

/-- The four column tiles stored at a prompt point fill the block. -/
theorem cover6 (c : Dev nD) (t : Fin cfg0.N) (h : t.val < 16) (y : S512x2048.Idx) :
    ∃ pc ∈ (atPrompt m c t h).1, y ∈ pc.1.set :=
  View.cover_of_tiledL (atPrompt m c t h).1 S512x512.size (by sl_kernel_rfl) y

/-- So do the four stored at the sample's. -/
theorem cover7 (c : Dev nD) (t : Fin cfg0.N) (h : ¬ t.val < 16) (y : S512x2048.Idx) :
    ∃ pc ∈ (atSample m c t h).1, y ∈ pc.1.set :=
  View.cover_of_tiledL (atSample m c t h).1 S512x512.size (by sl_kernel_rfl) y

/-- The prompt's output block after a prompt point. -/
def out6 (c : Dev nD) (p : Prompt) : Vec F S512x2048 .f32 :=
  O6.read (Elt F) (O6.writes (Elt F) O6.junk (atPrompt m c p.1 p.2).1)

/-- The sample's output block. -/
def out7 (c : Dev nD) : Vec F S512x2048 .f32 :=
  O7.read (Elt F) (O7.writes (Elt F) O7.junk (atSample m c lastPt lastPt_not).1)

/-- What the loop is told of a core: the arrays as the program's host part leaves them, the inputs' buffers at their blocks
    after every point, the prompt's output at the last prompt point's result, the sample's at its own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c (upto t)
    | ⟨7, _⟩ => out7 m c
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c (upto t) := by dsimp only [dats]
theorem after0_7 (c : Dev nD) (t : Fin cfg0.N) : (dats m 0 c).after 7 t = out7 m c := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The sample's point finds the prompt's last block where the point before left it. -/
theorem before0_6 (c : Dev nD) (t : Fin cfg0.N) (h : ¬ t.val < 16) (d) :
    (dats m 0 c).before 6 t d = (dats m 0 c).after 6 t := by
  obtain rfl := eq_lastPt t h
  rw [(dats m 0 c).before_of_pos 6 lastPt (by show (16 : ℕ) ≠ 0; omega) (nofetch6 _)]
  rw [if_neg (by rw [noflush6 _ rfl]; exact Bool.false_ne_true)]
  unfold Dat.left
  rw [live6 _ (by show 16 - 1 < 16; omega)]
  show (dats m 0 c).after 6 _ = _
  rw [after0_6, after0_6]
  exact congrArg (out6 m c) (Subtype.ext (Fin.ext rfl))

/-- At a live point a window's buffer is left at `after`. -/
theorem leaves_live (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

/-- And at an idle point that writes the block back. -/
theorem leaves_flushed (c : Dev nD) (w : Fin cfg0.W) (t : Fin cfg0.N) (h : cfg0.idle w (grid0.coords t) = true)
    (h' : (cfg0.win w).flush t = true) :
    (dats m 0 c).leavesExact w t
      = owns (c : Thread nD τ) ((cfg0.win w).stage (cfg0.slots t w)) fullShare ((dats m 0 c).after w t) := by
  unfold Dat.leavesExact; rw [h, h']

/-! ## The body at a point -/

/-- What the body is handed at a point … -/
def pre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d)))

/-- … and what it gives back. -/
def post (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 1600000 in
/-- The body's triple at any point, by which of the two branches the point takes. -/
theorem body_ok (c : Dev nD) (t : Fin cfg0.N) :
    pre m c t ⊢ wp frame (wpE (defs₀ (F := F)) Variants.none c none) Set.univ (bodyAt0 t) (fun _ => post m c t) := by
  unfold pre post bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [leaves_live m c 0 t rfl, after0_0, leaves_live m c 1 t rfl, after0_1, leaves_live m c 2 t rfl, after0_2, leaves_live m c 3 t rfl, after0_3, leaves_live m c 4 t rfl, after0_4, leaves_live m c 5 t rfl, after0_5]
  by_cases h : t.val < 16
  · rw [leaves_live m c 6 t (live6 t h), after0_6, upto_of t h,
      (dats m 0 c).leavesExact_idle 7 t (idle7 t h) (noflush7 t h)]
    unfold out6
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atPrompt m c t h).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    iintro ⟨H0, H1, H2, H3, H4, H5, ⟨%e6, H6⟩, H7⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; exact View.read_writes_of_cover _ _ _ _ _ (cover6 m c t h)
    iexists _; iexact H7
  · obtain rfl := eq_lastPt t h
    simp only [before0_6 m c lastPt h]
    rw [leaves_flushed m c 6 lastPt (idle6 _ h) (flush6_last _ h), leaves_live m c 7 lastPt (live7 _ h), after0_7]
    unfold out7
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atSample m c lastPt h).2 _ Set.univ _)
    isplitl [H0]; · iexact H0
    isplitl [H1]; · iexact H1
    isplitl [H2]; · iexact H2
    isplitl [H3]; · iexact H3
    isplitl [H4]; · iexact H4
    isplitl [H5]; · iexact H5
    isplitl [H7]; · iexists _; iexact H7
    isplitl [H6]; · iexact H6
    iintro ⟨H0, H1, H2, H3, H4, H5, ⟨%e7, H7⟩, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact View.read_writes_of_cover _ _ _ _ _ (cover7 m c lastPt h)

/-- The label the loop calls is the body. -/
theorem row (t : Fin cfg0.N) : defs₀ (F := F) .tc cfg0.body (cfg0.bodyArgs t (cfg0.slots t)) = bodyAt0 t := by
  unfold defs₀; rw [Defs.onTc_tc]

/-- The triple in the form the loop takes. -/
theorem obligation (c : Dev nD) :
    BodyObligation (dats (F := F) m 0 c) (defs₀ (F := F)) Variants.none () Set.univ := fun t => by
  rw [bigSep_W0, bigSep_W0, row]
  exact triple_restated (body_ok m c t) rfl .rfl fun _ => .rfl

/-! ## The run -/

set_option backward.isDefEq.respectTransparency.types false in
/-- The program ends with every array at what the points wrote back, and every semaphore at zero. -/
theorem run_all : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The arguments end as they were. -/
theorem kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) ((θ_run defs _ _).mono (fun _ h => h.1) (run_all m ρ))

/-- And the semaphores at zero. -/
theorem framed : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (kept m ρ) ((θ_run defs _ _).mono (fun _ h => h.2) (run_all m ρ))

/-- The two results after the run, and the arguments. -/
theorem run_blocks : θ_run defs (onTc (τ := τ) (main (F := F))) ⟨m, fun _ => 0, ρ⟩ (fun r => ∀ c : Dev nD,
      r.2.mem ((c.tc : Thread nD τ).loc main_v1_0) = (dats m 0 c).arrAt 6 cfg0.N
      ∧ r.2.mem ((c.tc : Thread nD τ).loc main_v1_1) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h.1.1 c).1 6, (h.1.1 c).1 7, h.2 c⟩)
    (θ_run_and (run_all m ρ) (kept m ρ))

end Cert.K.ProjResIdeal

end
-- ==== Proof.ProjRes.Value.lean ====
/- What the output projection leaves in its two results: every stored piece is 512 columns of the residual plus the projected
   rows plus the bias. -/
module

public import proofs.«01_k».proof.Proof.ProjRes.Ref
public import proofs.«01_k».proof.Proof.ProjRes.DataIdeal
public import Idealize.ShloMosaic.Lib.Pipeline.ValueKit

@[expose] public section

set_option maxRecDepth 16384

noncomputable section

namespace Cert.K.ProjRes

open Idealize.ShloMosaic Idealize.ShloMosaic.TcCoe Idealize.SL.Sem
open Idealize.ShloMosaic.Pipeline (Dat)
open Cert.ProjResIdeal Cert.ProjResIdeal.Gen Cert.K.Ffn Cert.K.ProjResIdeal

variable (m : (ℓ : Loc nD τ sig) → Buf (Elt Ideal) ℓ) (c : Dev nD)

/-- The prompt's rows. -/
abbrev A0 : FVec Ideal S8192x2048 .bf16 := m ((c : Thread nD τ).loc main_arg0)
/-- The sample's rows. -/
abbrev A1 : FVec Ideal S512x2048 .f32 := m ((c : Thread nD τ).loc main_arg1)
/-- The projection. -/
abbrev A2 : FVec Ideal S2048x2048 .bf16 := m ((c : Thread nD τ).loc main_arg2)
/-- The bias. -/
abbrev A3 : FVec Ideal S2048 .f32 := m ((c : Thread nD τ).loc main_arg3)
/-- The prompt's residual. -/
abbrev A4 : FVec Ideal S8192x2048 .f32 := m ((c : Thread nD τ).loc main_arg4)
/-- The sample's residual. -/
abbrev A5 : FVec Ideal S512x2048 .f32 := m ((c : Thread nD τ).loc main_arg5)

/-- Which block each window reads or writes at a point: prompt block `t` (the last one stays), else the only block. -/
theorem idx : ∀ t : Fin cfg0.N, win0_0.index t = ![min t.val 15, 0] ∧ win0_1.index t = ![0, 0] ∧ win0_2.index t = ![0, 0]
    ∧ win0_3.index t = ![0, 0] ∧ win0_4.index t = ![min t.val 15, 0] ∧ win0_5.index t = ![0, 0]
    ∧ win0_6.index t = ![min t.val 15, 0] ∧ win0_7.index t = ![0, 0] :=
  (by decide +kernel : ∀ t : Fin grid0.N, _)

variable (t : Fin cfg0.N)

/-! ## The blocks -/

theorem w_blk (k j : Fin 2048) : iblk m c 2 t (ix2 k j) = A2 m c (ix2 k j) := by
  blk_point [iblk, V, idx t]

theorem b_blk (j : Fin 2048) : iblk m c 3 t (ix2 0 j) = A3 m c (ix1 j) := by
  blk_point [iblk, V, idx t]

theorem op_blk (h : t.val < 16) (r : Fin 512) (k : Fin 2048) :
    iblk m c 0 t (ix2 r k) = A0 m c (ix2 ⟨t.val * 512 + r.val, by omega⟩ k) := by
  have e : min t.val 15 = t.val := by omega
  blk_point [iblk, V, idx t, e]

theorem os_blk (r : Fin 512) (k : Fin 2048) : iblk m c 1 t (ix2 r k) = A1 m c (ix2 r k) := by
  blk_point [iblk, V, idx t]

theorem rp_blk (h : t.val < 16) (r : Fin 512) (k : Fin 2048) :
    iblk m c 4 t (ix2 r k) = A4 m c (ix2 ⟨t.val * 512 + r.val, by omega⟩ k) := by
  have e : min t.val 15 = t.val := by omega
  blk_point [iblk, V, idx t, e]

theorem rs_blk (r : Fin 512) (k : Fin 2048) : iblk m c 5 t (ix2 r k) = A5 m c (ix2 r k) := by
  blk_point [iblk, V, idx t]

/-! ## The pieces -/

/-- A piece stored at a prompt point `p`, at the place where the result holds it; `t` is the point that writes the block back. -/
theorem tile6 (p : Fin cfg0.N) (hp : p.val < 16) (e : min t.val 15 = p.val) (o : ℕ) (ho : o + 512 ≤ 2048)
    (s : FVec Ideal S512x512 .f32) (y : S512x2048.Idx) (x : S512x512.Idx)
    (h0 : (y 0).val = (x 0).val) (h1 : (y 1).val = o + (x 1).val)
    (hs : ∀ r l : Fin 512, s (ix2 r l) = A4 m c (ix2 ⟨p.val * 512 + r.val, by omega⟩ ⟨o + l.val, by omega⟩)
      + dot (fun k => A0 m c (ix2 ⟨p.val * 512 + r.val, by omega⟩ k)) (fun k => A2 m c (ix2 k ⟨o + l.val, by omega⟩))
      + A3 m c (ix1 ⟨o + l.val, by omega⟩)) :
    s x = Cert.ProjResRefIdeal.Read.val_main_v6 (F := Ideal) (A0 m c) (A2 m c) (A3 m c) (A4 m c)
      ((win0_6.blk t).view.emb y) := by
  idx_vars x
  replace h0 : (y 0).val = x0.val := h0
  replace h1 : (y 1).val = o + x1.val := h1
  refine ((hs x0 x1).trans (add_assoc _ _ _)).trans
    ((prompt_read _ _ _ _ ⟨p.val * 512 + x0.val, by omega⟩ ⟨o + x1.val, by omega⟩).symm.trans (congrArg _ ?_))
  refine funext fun a => Fin.ext ?_
  match a with
  | 0 => blk_simp [idx t, e]; show p.val * 512 + x0.val = _; omega
  | 1 => blk_simp [idx t, e]; show o + x1.val = _; omega

/-- A piece stored at the sample's point. -/
theorem tile7 (o : ℕ) (ho : o + 512 ≤ 2048)
    (s : FVec Ideal S512x512 .f32) (y : S512x2048.Idx) (x : S512x512.Idx)
    (h0 : (y 0).val = (x 0).val) (h1 : (y 1).val = o + (x 1).val)
    (hs : ∀ r l : Fin 512, s (ix2 r l) = A5 m c (ix2 r ⟨o + l.val, by omega⟩)
      + dot (fun k => A1 m c (ix2 r k)) (fun k => A2 m c (ix2 k ⟨o + l.val, by omega⟩))
      + A3 m c (ix1 ⟨o + l.val, by omega⟩)) :
    s x = Cert.ProjResRefIdeal.Read.val_main_v11 (F := Ideal) (A1 m c) (A2 m c) (A3 m c) (A5 m c)
      ((win0_7.blk t).view.emb y) := by
  idx_vars x
  replace h0 : (y 0).val = x0.val := h0
  replace h1 : (y 1).val = o + x1.val := h1
  refine ((hs x0 x1).trans (add_assoc _ _ _)).trans
    ((sample_read _ _ _ _ x0 ⟨o + x1.val, by omega⟩).symm.trans (congrArg _ ?_))
  refine funext fun a => Fin.ext ?_
  match a with
  | 0 => blk_simp [idx t]; show x0.val = _; omega
  | 1 => blk_simp [idx t]; show o + x1.val = _; omega

/-- The prompt's result after the call. -/
theorem final6 : (dats m 0 c).arrAt 6 (cfgs 0).N
    = Cert.ProjResRefIdeal.Read.val_main_v6 (F := Ideal) (A0 m c) (A2 m c) (A3 m c) (A4 m c) := by
  refine (dats m 0 c).arrAt_eq_of_covers 6 _ (by decide +kernel) (fun t hf y => ?_)
  blk_simp
  rw [after0_6]
  have hp := (upto t).2
  have e : min t.val 15 = (upto t).1.val := rfl
  generalize upto t = p at hp e ⊢
  unfold out6 atPrompt
  frame_out
  canon_tiles x h
  all_goals
    first
      | refine tile6 m c t p.1 hp e _ (by norm_num) _ y x h0 h1 (fun r l => ?_)
      | refine tile6 m c t p.1 hp e 0 (by norm_num) _ y x h0 (h1.trans (Nat.zero_add _).symm) (fun r l => ?_)
    simp only [← op_blk m c p.1 hp, ← rp_blk m c p.1 hp, ← w_blk m c p.1, ← b_blk m c p.1]
    pointwise []
    simp only [dot]

/-- The sample's result after the call. -/
theorem final7 : (dats m 0 c).arrAt 7 (cfgs 0).N
    = Cert.ProjResRefIdeal.Read.val_main_v11 (F := Ideal) (A1 m c) (A2 m c) (A3 m c) (A5 m c) := by
  refine (dats m 0 c).arrAt_eq_of_covers 7 _ (by decide +kernel) (fun t hf y => ?_)
  blk_simp
  rw [after0_7]
  unfold out7 atSample
  frame_out
  canon_tiles x h
  all_goals
    first
      | refine tile7 m c t _ (by norm_num) _ y x h0 h1 (fun r l => ?_)
      | refine tile7 m c t 0 (by norm_num) _ y x h0 (h1.trans (Nat.zero_add _).symm) (fun r l => ?_)
    simp only [← os_blk m c lastPt, ← rs_blk m c lastPt, ← w_blk m c lastPt, ← b_blk m c lastPt]
    pointwise []
    simp only [dot]

end Cert.K.ProjRes

end
-- ==== Proof.ProjRes.Claims.lean ====
/- The claims about the output projections and their reference. -/
module

public import proofs.«01_k».proof.Defs
public import proofs.«01_k».proof.Proof.Gen.ProjRes.Frame
public import proofs.«01_k».proof.Proof.ProjRes.Value
public import Idealize.ShloMosaic.Lib.Claim
public import Idealize.ShloMosaic.Lib.Quiescent

@[expose] public section

set_option maxRecDepth 16384

noncomputable section

namespace Cert.K.ProjRes

open Idealize.ShloMosaic Idealize.ShloMosaic.TcCoe Idealize.SL.Sem

/-- The idealized kernel's frame: it runs, leaves its arguments alone and ends quiescent. -/
theorem frame_PI : Cert.quiescent_ProjResIdeal := fun m g _ => Cert.K.ProjResIdeal.framed m g
/-- The idealized program is the kernel's, line for line, so what it does on any numbers is what the kernel does on them. -/
theorem same : Cert.quiescent_ProjRes
    = (∀ (m : (ℓ : Loc Cert.ProjResIdeal.nD Cert.ProjResIdeal.τ Cert.ProjResIdeal.sig) → Buf (Elt Bits) ℓ)
        (g : Dev Cert.ProjResIdeal.nD → PrngReg), True →
      θ_run (Cert.ProjResIdeal.defs (F := Bits)) (onTc (τ := Cert.ProjResIdeal.τ) (Cert.ProjResIdeal.main (F := Bits)))
        ⟨m, fun _ => 0, g⟩ (fun r => (∀ c : Dev Cert.ProjResIdeal.nD,
          r.2.mem ((c.tc : Thread Cert.ProjResIdeal.nD Cert.ProjResIdeal.τ).loc Cert.ProjResIdeal.main_arg0)
            = m ((c.tc : Thread Cert.ProjResIdeal.nD Cert.ProjResIdeal.τ).loc Cert.ProjResIdeal.main_arg0)
          ∧ r.2.mem ((c.tc : Thread Cert.ProjResIdeal.nD Cert.ProjResIdeal.τ).loc Cert.ProjResIdeal.main_arg1)
            = m ((c.tc : Thread Cert.ProjResIdeal.nD Cert.ProjResIdeal.τ).loc Cert.ProjResIdeal.main_arg1)
          ∧ r.2.mem ((c.tc : Thread Cert.ProjResIdeal.nD Cert.ProjResIdeal.τ).loc Cert.ProjResIdeal.main_arg2)
            = m ((c.tc : Thread Cert.ProjResIdeal.nD Cert.ProjResIdeal.τ).loc Cert.ProjResIdeal.main_arg2)
          ∧ r.2.mem ((c.tc : Thread Cert.ProjResIdeal.nD Cert.ProjResIdeal.τ).loc Cert.ProjResIdeal.main_arg3)
            = m ((c.tc : Thread Cert.ProjResIdeal.nD Cert.ProjResIdeal.τ).loc Cert.ProjResIdeal.main_arg3)
          ∧ r.2.mem ((c.tc : Thread Cert.ProjResIdeal.nD Cert.ProjResIdeal.τ).loc Cert.ProjResIdeal.main_arg4)
            = m ((c.tc : Thread Cert.ProjResIdeal.nD Cert.ProjResIdeal.τ).loc Cert.ProjResIdeal.main_arg4)
          ∧ r.2.mem ((c.tc : Thread Cert.ProjResIdeal.nD Cert.ProjResIdeal.τ).loc Cert.ProjResIdeal.main_arg5)
            = m ((c.tc : Thread Cert.ProjResIdeal.nD Cert.ProjResIdeal.τ).loc Cert.ProjResIdeal.main_arg5))
        ∧ r.2.sem = fun _ => 0)) := by
  sl_kernel_rfl

/-- So the same proof, read over the floating-point words, is the kernel's frame. -/
theorem frame_P : Cert.quiescent_ProjRes :=
  same.mpr fun m g _ => Cert.K.ProjResIdeal.framed (F := Bits) m g

/-- The same of the reference. -/
theorem frame_RI : Cert.quiescent_ProjResRefIdeal := by
  intro m g _
  exact (θ_run Cert.ProjResRefIdeal.defs _ _).mono
    (fun r h => ⟨fun c => (h c).2.2, sem_eq_zero_of_no_sems (by decide) r.2⟩)
    (Cert.ProjResRefIdeal.Value.run (F := Ideal) m g)

/-- Kernel and reference compute the same rows over the reals. -/
theorem value : Cert.algebraic_ProjResIdeal_ProjResRefIdeal := by
  pair_intro
  · run_from Cert.K.ProjResIdeal.run_blocks m g
  · run_from Cert.ProjResRefIdeal.Value.run m' g'
    · rw [Cert.ProjResRefIdeal.Read.val_main_v6_eq]
      exact (final6 m c).symm
    · rw [Cert.ProjResRefIdeal.Read.val_main_v11_eq]
      exact (final7 m c).symm

end Cert.K.ProjRes

end
-- ==== Proof.lean ====
module

public import proofs.«01_k».proof.Defs
public import proofs.«01_k».proof.Proof.GlaSample.Claims
public import proofs.«01_k».proof.Proof.HeadLast.Claims
public import proofs.«01_k».proof.Proof.FfnLast.Claims
public import proofs.«01_k».proof.Proof.HeadMid.Claims
public import proofs.«01_k».proof.Proof.FfnMid.Claims
public import proofs.«01_k».proof.Proof.SwaQkv.Claims
public import proofs.«01_k».proof.Proof.GlaIn.Claims
public import proofs.«01_k».proof.Proof.SwaCache.Claims
public import proofs.«01_k».proof.Proof.ProjRes.Claims
public import Idealize.ShloMosaic.Adequacy
public import Idealize.ShloMosaic.Init

@[expose] public section

noncomputable section

namespace Cert.Proof

/-- Every claim of the certificate. -/
theorem claim : Cert.Claim :=
  ⟨Cert.GlaSample.Gen.facts, Cert.GlaSampleIdeal.Gen.facts, Cert.GlaSampleRefIdeal.Gen.facts,
    Cert.HeadLast.Gen.facts, Cert.HeadLastIdeal.Gen.facts, Cert.HeadLastRefIdeal.Gen.facts,
    Cert.FfnLast.Gen.facts, Cert.FfnLastIdeal.Gen.facts, Cert.FfnLastRefIdeal.Gen.facts,
    Cert.HeadMid.Gen.facts, Cert.HeadMidIdeal.Gen.facts, Cert.HeadMidRefIdeal.Gen.facts,
    Cert.FfnMid.Gen.facts, Cert.FfnMidIdeal.Gen.facts, Cert.FfnMidRefIdeal.Gen.facts,
    Cert.SwaQkv.Gen.facts, Cert.SwaQkvIdeal.Gen.facts, Cert.SwaQkvRefIdeal.Gen.facts,
    Cert.GlaIn.Gen.facts, Cert.GlaInIdeal.Gen.facts, Cert.GlaInRefIdeal.Gen.facts,
    Cert.SwaCache.Gen.facts, Cert.SwaCacheIdeal.Gen.facts, Cert.SwaCacheRefIdeal.Gen.facts,
    Cert.ProjRes.Gen.facts, Cert.ProjResIdeal.Gen.facts, Cert.ProjResRefIdeal.Gen.facts,
    Cert.Pre_decay_finite.Gen.facts, Cert.On_head_rows.Gen.facts, Cert.On_head_mid_rows.Gen.facts,
    K.GlaSample.frame_P, K.GlaSample.frame_PI, K.GlaSample.frame_PI_pre, K.GlaSample.frame_RI, K.GlaSample.frame_RI_pre,
    K.HeadLast.frame_P, K.HeadLast.frame_PI, K.HeadLast.frame_RI,
    K.FfnLast.frame_P, K.FfnLast.frame_PI, K.FfnLast.frame_RI,
    K.HeadMid.frame_P, K.HeadMid.frame_PI, K.HeadMid.frame_RI,
    K.FfnMid.frame_P, K.FfnMid.frame_PI, K.FfnMid.frame_RI,
    K.SwaQkv.frame_P, K.SwaQkv.frame_PI, K.SwaQkv.frame_RI,
    K.GlaIn.frame_P, K.GlaIn.frame_PI, K.GlaIn.frame_RI,
    K.SwaCache.frame_P, K.SwaCache.frame_PI, K.SwaCache.frame_RI,
    K.ProjRes.frame_P, K.ProjRes.frame_PI, K.ProjRes.frame_RI,
    trivial, K.GlaSample.value,
    trivial, K.HeadLast.value,
    trivial, K.FfnLast.value,
    trivial, K.HeadMid.value,
    trivial, K.FfnMid.value,
    trivial, K.SwaQkv.value,
    trivial, K.GlaIn.value,
    trivial, K.SwaCache.value,
    trivial, K.ProjRes.value⟩

end Cert.Proof

end
